-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def Pre_Sfive (m : (ℓ : Loc Cert.Sfive.nD Cert.Sfive.τ Cert.Sfive.sig) → Buf (Elt Bits) ℓ) : Prop :=
  True

def Pre_SfiveIdeal (m : (ℓ : Loc Cert.SfiveIdeal.nD Cert.SfiveIdeal.τ Cert.SfiveIdeal.sig) → Buf (Elt Ideal) ℓ) : Prop :=
  True

def Pre_SfiveReferenceIdeal (m : (ℓ : Loc Cert.SfiveReferenceIdeal.nD Cert.SfiveReferenceIdeal.τ Cert.SfiveReferenceIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Lead (m : (ℓ : Loc Cert.Lead.nD Cert.Lead.τ Cert.Lead.sig) → Buf (Elt Bits) ℓ) : Prop :=
  True

def Pre_LeadIdeal (m : (ℓ : Loc Cert.LeadIdeal.nD Cert.LeadIdeal.τ Cert.LeadIdeal.sig) → Buf (Elt Ideal) ℓ) : Prop :=
  True

def Pre_LeadReferenceIdeal (m : (ℓ : Loc Cert.LeadReferenceIdeal.nD Cert.LeadReferenceIdeal.τ Cert.LeadReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3)
      ∧ r.2.mem ((c.tc : Thread Cert.Gates.nD Cert.Gates.τ).loc Cert.Gates.main_arg4) = m ((c.tc : Thread Cert.Gates.nD Cert.Gates.τ).loc Cert.Gates.main_arg4))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1)
      ∧ r.2.mem ((c.tc : Thread Cert.GatesReferenceIdeal.nD Cert.GatesReferenceIdeal.τ).loc Cert.GatesReferenceIdeal.main_arg2) = m ((c.tc : Thread Cert.GatesReferenceIdeal.nD Cert.GatesReferenceIdeal.τ).loc Cert.GatesReferenceIdeal.main_arg2)
      ∧ r.2.mem ((c.tc : Thread Cert.GatesReferenceIdeal.nD Cert.GatesReferenceIdeal.τ).loc Cert.GatesReferenceIdeal.main_arg3) = m ((c.tc : Thread Cert.GatesReferenceIdeal.nD Cert.GatesReferenceIdeal.τ).loc Cert.GatesReferenceIdeal.main_arg3)
      ∧ r.2.mem ((c.tc : Thread Cert.GatesReferenceIdeal.nD Cert.GatesReferenceIdeal.τ).loc Cert.GatesReferenceIdeal.main_arg4) = m ((c.tc : Thread Cert.GatesReferenceIdeal.nD Cert.GatesReferenceIdeal.τ).loc Cert.GatesReferenceIdeal.main_arg4))
      ∧ r.2.sem = fun _ => 0)

def quiescent_Sfive [hSfive : Cert.Sfive.Facts] : Prop :=
  ∀ (m : (ℓ : Loc Cert.Sfive.nD Cert.Sfive.τ Cert.Sfive.sig) → Buf (Elt Bits) ℓ) (g : Dev Cert.Sfive.nD → PrngReg), Pre_Sfive m →
    θ_run (Cert.Sfive.defs (F := Bits)) (onTc (τ := Cert.Sfive.τ) (Cert.Sfive.main (F := Bits))) ⟨m, fun _ => 0, g⟩ (fun r => (∀ c : Dev Cert.Sfive.nD,
      r.2.mem ((c.tc : Thread Cert.Sfive.nD Cert.Sfive.τ).loc Cert.Sfive.main_arg0) = m ((c.tc : Thread Cert.Sfive.nD Cert.Sfive.τ).loc Cert.Sfive.main_arg0)
      ∧ r.2.mem ((c.tc : Thread Cert.Sfive.nD Cert.Sfive.τ).loc Cert.Sfive.main_arg1) = m ((c.tc : Thread Cert.Sfive.nD Cert.Sfive.τ).loc Cert.Sfive.main_arg1))
      ∧ r.2.sem = fun _ => 0)

def quiescent_SfiveIdeal [hSfiveIdeal : Cert.SfiveIdeal.Facts] : Prop :=
  ∀ (m : (ℓ : Loc Cert.SfiveIdeal.nD Cert.SfiveIdeal.τ Cert.SfiveIdeal.sig) → Buf (Elt Ideal) ℓ) (g : Dev Cert.SfiveIdeal.nD → PrngReg), Pre_SfiveIdeal m →
    θ_run (Cert.SfiveIdeal.defs (F := Ideal)) (onTc (τ := Cert.SfiveIdeal.τ) (Cert.SfiveIdeal.main (F := Ideal))) ⟨m, fun _ => 0, g⟩ (fun r => (∀ c : Dev Cert.SfiveIdeal.nD,
      r.2.mem ((c.tc : Thread Cert.SfiveIdeal.nD Cert.SfiveIdeal.τ).loc Cert.SfiveIdeal.main_arg0) = m ((c.tc : Thread Cert.SfiveIdeal.nD Cert.SfiveIdeal.τ).loc Cert.SfiveIdeal.main_arg0)
      ∧ r.2.mem ((c.tc : Thread Cert.SfiveIdeal.nD Cert.SfiveIdeal.τ).loc Cert.SfiveIdeal.main_arg1) = m ((c.tc : Thread Cert.SfiveIdeal.nD Cert.SfiveIdeal.τ).loc Cert.SfiveIdeal.main_arg1))
      ∧ r.2.sem = fun _ => 0)

def quiescent_SfiveReferenceIdeal [hSfiveReferenceIdeal : Cert.SfiveReferenceIdeal.Facts] : Prop :=
  ∀ (m : (ℓ : Loc Cert.SfiveReferenceIdeal.nD Cert.SfiveReferenceIdeal.τ Cert.SfiveReferenceIdeal.sig) → Buf (Elt Ideal) ℓ) (g : Dev Cert.SfiveReferenceIdeal.nD → PrngReg), Pre_SfiveReferenceIdeal m →
    θ_run (Cert.SfiveReferenceIdeal.defs (F := Ideal)) (onTc (τ := Cert.SfiveReferenceIdeal.τ) (Cert.SfiveReferenceIdeal.main (F := Ideal))) ⟨m, fun _ => 0, g⟩ (fun r => (∀ c : Dev Cert.SfiveReferenceIdeal.nD,
      r.2.mem ((c.tc : Thread Cert.SfiveReferenceIdeal.nD Cert.SfiveReferenceIdeal.τ).loc Cert.SfiveReferenceIdeal.main_arg0) = m ((c.tc : Thread Cert.SfiveReferenceIdeal.nD Cert.SfiveReferenceIdeal.τ).loc Cert.SfiveReferenceIdeal.main_arg0)
      ∧ r.2.mem ((c.tc : Thread Cert.SfiveReferenceIdeal.nD Cert.SfiveReferenceIdeal.τ).loc Cert.SfiveReferenceIdeal.main_arg1) = m ((c.tc : Thread Cert.SfiveReferenceIdeal.nD Cert.SfiveReferenceIdeal.τ).loc Cert.SfiveReferenceIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3)
      ∧ r.2.mem ((c.tc : Thread Cert.Glu.nD Cert.Glu.τ).loc Cert.Glu.main_arg4) = m ((c.tc : Thread Cert.Glu.nD Cert.Glu.τ).loc Cert.Glu.main_arg4))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2)
      ∧ r.2.mem ((c.tc : Thread Cert.GluReferenceIdeal.nD Cert.GluReferenceIdeal.τ).loc Cert.GluReferenceIdeal.main_arg3) = m ((c.tc : Thread Cert.GluReferenceIdeal.nD Cert.GluReferenceIdeal.τ).loc Cert.GluReferenceIdeal.main_arg3)
      ∧ r.2.mem ((c.tc : Thread Cert.GluReferenceIdeal.nD Cert.GluReferenceIdeal.τ).loc Cert.GluReferenceIdeal.main_arg4) = m ((c.tc : Thread Cert.GluReferenceIdeal.nD Cert.GluReferenceIdeal.τ).loc Cert.GluReferenceIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5))
      ∧ r.2.sem = fun _ => 0)

def quiescent_Lead [hLead : Cert.Lead.Facts] : Prop :=
  ∀ (m : (ℓ : Loc Cert.Lead.nD Cert.Lead.τ Cert.Lead.sig) → Buf (Elt Bits) ℓ) (g : Dev Cert.Lead.nD → PrngReg), Pre_Lead m →
    θ_run (Cert.Lead.defs (F := Bits)) (onTc (τ := Cert.Lead.τ) (Cert.Lead.main (F := Bits))) ⟨m, fun _ => 0, g⟩ (fun r => (∀ c : Dev Cert.Lead.nD,
      r.2.mem ((c.tc : Thread Cert.Lead.nD Cert.Lead.τ).loc Cert.Lead.main_arg0) = m ((c.tc : Thread Cert.Lead.nD Cert.Lead.τ).loc Cert.Lead.main_arg0)
      ∧ r.2.mem ((c.tc : Thread Cert.Lead.nD Cert.Lead.τ).loc Cert.Lead.main_arg1) = m ((c.tc : Thread Cert.Lead.nD Cert.Lead.τ).loc Cert.Lead.main_arg1)
      ∧ r.2.mem ((c.tc : Thread Cert.Lead.nD Cert.Lead.τ).loc Cert.Lead.main_arg2) = m ((c.tc : Thread Cert.Lead.nD Cert.Lead.τ).loc Cert.Lead.main_arg2)
      ∧ r.2.mem ((c.tc : Thread Cert.Lead.nD Cert.Lead.τ).loc Cert.Lead.main_arg3) = m ((c.tc : Thread Cert.Lead.nD Cert.Lead.τ).loc Cert.Lead.main_arg3)
      ∧ r.2.mem ((c.tc : Thread Cert.Lead.nD Cert.Lead.τ).loc Cert.Lead.main_arg4) = m ((c.tc : Thread Cert.Lead.nD Cert.Lead.τ).loc Cert.Lead.main_arg4)
      ∧ r.2.mem ((c.tc : Thread Cert.Lead.nD Cert.Lead.τ).loc Cert.Lead.main_arg5) = m ((c.tc : Thread Cert.Lead.nD Cert.Lead.τ).loc Cert.Lead.main_arg5)
      ∧ r.2.mem ((c.tc : Thread Cert.Lead.nD Cert.Lead.τ).loc Cert.Lead.main_arg6) = m ((c.tc : Thread Cert.Lead.nD Cert.Lead.τ).loc Cert.Lead.main_arg6)
      ∧ r.2.mem ((c.tc : Thread Cert.Lead.nD Cert.Lead.τ).loc Cert.Lead.main_arg7) = m ((c.tc : Thread Cert.Lead.nD Cert.Lead.τ).loc Cert.Lead.main_arg7))
      ∧ r.2.sem = fun _ => 0)

def quiescent_LeadIdeal [hLeadIdeal : Cert.LeadIdeal.Facts] : Prop :=
  ∀ (m : (ℓ : Loc Cert.LeadIdeal.nD Cert.LeadIdeal.τ Cert.LeadIdeal.sig) → Buf (Elt Ideal) ℓ) (g : Dev Cert.LeadIdeal.nD → PrngReg), Pre_LeadIdeal m →
    θ_run (Cert.LeadIdeal.defs (F := Ideal)) (onTc (τ := Cert.LeadIdeal.τ) (Cert.LeadIdeal.main (F := Ideal))) ⟨m, fun _ => 0, g⟩ (fun r => (∀ c : Dev Cert.LeadIdeal.nD,
      r.2.mem ((c.tc : Thread Cert.LeadIdeal.nD Cert.LeadIdeal.τ).loc Cert.LeadIdeal.main_arg0) = m ((c.tc : Thread Cert.LeadIdeal.nD Cert.LeadIdeal.τ).loc Cert.LeadIdeal.main_arg0)
      ∧ r.2.mem ((c.tc : Thread Cert.LeadIdeal.nD Cert.LeadIdeal.τ).loc Cert.LeadIdeal.main_arg1) = m ((c.tc : Thread Cert.LeadIdeal.nD Cert.LeadIdeal.τ).loc Cert.LeadIdeal.main_arg1)
      ∧ r.2.mem ((c.tc : Thread Cert.LeadIdeal.nD Cert.LeadIdeal.τ).loc Cert.LeadIdeal.main_arg2) = m ((c.tc : Thread Cert.LeadIdeal.nD Cert.LeadIdeal.τ).loc Cert.LeadIdeal.main_arg2)
      ∧ r.2.mem ((c.tc : Thread Cert.LeadIdeal.nD Cert.LeadIdeal.τ).loc Cert.LeadIdeal.main_arg3) = m ((c.tc : Thread Cert.LeadIdeal.nD Cert.LeadIdeal.τ).loc Cert.LeadIdeal.main_arg3)
      ∧ r.2.mem ((c.tc : Thread Cert.LeadIdeal.nD Cert.LeadIdeal.τ).loc Cert.LeadIdeal.main_arg4) = m ((c.tc : Thread Cert.LeadIdeal.nD Cert.LeadIdeal.τ).loc Cert.LeadIdeal.main_arg4)
      ∧ r.2.mem ((c.tc : Thread Cert.LeadIdeal.nD Cert.LeadIdeal.τ).loc Cert.LeadIdeal.main_arg5) = m ((c.tc : Thread Cert.LeadIdeal.nD Cert.LeadIdeal.τ).loc Cert.LeadIdeal.main_arg5)
      ∧ r.2.mem ((c.tc : Thread Cert.LeadIdeal.nD Cert.LeadIdeal.τ).loc Cert.LeadIdeal.main_arg6) = m ((c.tc : Thread Cert.LeadIdeal.nD Cert.LeadIdeal.τ).loc Cert.LeadIdeal.main_arg6)
      ∧ r.2.mem ((c.tc : Thread Cert.LeadIdeal.nD Cert.LeadIdeal.τ).loc Cert.LeadIdeal.main_arg7) = m ((c.tc : Thread Cert.LeadIdeal.nD Cert.LeadIdeal.τ).loc Cert.LeadIdeal.main_arg7))
      ∧ r.2.sem = fun _ => 0)

def quiescent_LeadReferenceIdeal [hLeadReferenceIdeal : Cert.LeadReferenceIdeal.Facts] : Prop :=
  ∀ (m : (ℓ : Loc Cert.LeadReferenceIdeal.nD Cert.LeadReferenceIdeal.τ Cert.LeadReferenceIdeal.sig) → Buf (Elt Ideal) ℓ) (g : Dev Cert.LeadReferenceIdeal.nD → PrngReg), Pre_LeadReferenceIdeal m →
    θ_run (Cert.LeadReferenceIdeal.defs (F := Ideal)) (onTc (τ := Cert.LeadReferenceIdeal.τ) (Cert.LeadReferenceIdeal.main (F := Ideal))) ⟨m, fun _ => 0, g⟩ (fun r => (∀ c : Dev Cert.LeadReferenceIdeal.nD,
      r.2.mem ((c.tc : Thread Cert.LeadReferenceIdeal.nD Cert.LeadReferenceIdeal.τ).loc Cert.LeadReferenceIdeal.main_arg0) = m ((c.tc : Thread Cert.LeadReferenceIdeal.nD Cert.LeadReferenceIdeal.τ).loc Cert.LeadReferenceIdeal.main_arg0)
      ∧ r.2.mem ((c.tc : Thread Cert.LeadReferenceIdeal.nD Cert.LeadReferenceIdeal.τ).loc Cert.LeadReferenceIdeal.main_arg1) = m ((c.tc : Thread Cert.LeadReferenceIdeal.nD Cert.LeadReferenceIdeal.τ).loc Cert.LeadReferenceIdeal.main_arg1)
      ∧ r.2.mem ((c.tc : Thread Cert.LeadReferenceIdeal.nD Cert.LeadReferenceIdeal.τ).loc Cert.LeadReferenceIdeal.main_arg2) = m ((c.tc : Thread Cert.LeadReferenceIdeal.nD Cert.LeadReferenceIdeal.τ).loc Cert.LeadReferenceIdeal.main_arg2)
      ∧ r.2.mem ((c.tc : Thread Cert.LeadReferenceIdeal.nD Cert.LeadReferenceIdeal.τ).loc Cert.LeadReferenceIdeal.main_arg3) = m ((c.tc : Thread Cert.LeadReferenceIdeal.nD Cert.LeadReferenceIdeal.τ).loc Cert.LeadReferenceIdeal.main_arg3)
      ∧ r.2.mem ((c.tc : Thread Cert.LeadReferenceIdeal.nD Cert.LeadReferenceIdeal.τ).loc Cert.LeadReferenceIdeal.main_arg4) = m ((c.tc : Thread Cert.LeadReferenceIdeal.nD Cert.LeadReferenceIdeal.τ).loc Cert.LeadReferenceIdeal.main_arg4)
      ∧ r.2.mem ((c.tc : Thread Cert.LeadReferenceIdeal.nD Cert.LeadReferenceIdeal.τ).loc Cert.LeadReferenceIdeal.main_arg5) = m ((c.tc : Thread Cert.LeadReferenceIdeal.nD Cert.LeadReferenceIdeal.τ).loc Cert.LeadReferenceIdeal.main_arg5)
      ∧ r.2.mem ((c.tc : Thread Cert.LeadReferenceIdeal.nD Cert.LeadReferenceIdeal.τ).loc Cert.LeadReferenceIdeal.main_arg6) = m ((c.tc : Thread Cert.LeadReferenceIdeal.nD Cert.LeadReferenceIdeal.τ).loc Cert.LeadReferenceIdeal.main_arg6)
      ∧ r.2.mem ((c.tc : Thread Cert.LeadReferenceIdeal.nD Cert.LeadReferenceIdeal.τ).loc Cert.LeadReferenceIdeal.main_arg7) = m ((c.tc : Thread Cert.LeadReferenceIdeal.nD Cert.LeadReferenceIdeal.τ).loc Cert.LeadReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v34) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6))

def preserves_Mix_MixIdeal : Prop :=
  IdealRules.named_const.Statement Cert.MixIdeal.κ "query_scale" .f32 0x3E0293EE#32 (((Real.sqrt 128)⁻¹ * (Real.log 2)⁻¹ : ℝ) : EReal)

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)) →
    ∃ (v0 : (c : Dev Cert.MixIdeal.nD) → Buf (Elt Ideal) ((c.tc : Thread Cert.MixIdeal.nD Cert.MixIdeal.τ).loc Cert.MixIdeal.main_v11)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v11) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v158) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7))

def preserves_Gates_GatesIdeal : Prop :=
  True

def algebraic_GatesIdeal_GatesReferenceIdeal [hGatesIdeal : Cert.GatesIdeal.Facts] [hGatesReferenceIdeal : Cert.GatesReferenceIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)
      ∧ m' ((c.tc : Thread Cert.GatesReferenceIdeal.nD Cert.GatesReferenceIdeal.τ).loc Cert.GatesReferenceIdeal.main_arg2) = m ((c.tc : Thread Cert.GatesIdeal.nD Cert.GatesIdeal.τ).loc Cert.GatesIdeal.main_arg2)
      ∧ m' ((c.tc : Thread Cert.GatesReferenceIdeal.nD Cert.GatesReferenceIdeal.τ).loc Cert.GatesReferenceIdeal.main_arg3) = m ((c.tc : Thread Cert.GatesIdeal.nD Cert.GatesIdeal.τ).loc Cert.GatesIdeal.main_arg3)
      ∧ m' ((c.tc : Thread Cert.GatesReferenceIdeal.nD Cert.GatesReferenceIdeal.τ).loc Cert.GatesReferenceIdeal.main_arg4) = m ((c.tc : Thread Cert.GatesIdeal.nD Cert.GatesIdeal.τ).loc Cert.GatesIdeal.main_arg4)) →
    ∃ (v0 : (c : Dev Cert.GatesIdeal.nD) → Buf (Elt Ideal) ((c.tc : Thread Cert.GatesIdeal.nD Cert.GatesIdeal.τ).loc Cert.GatesIdeal.main_v0)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v0) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
          ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v40) = v0 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1)
          ∧ r.2.mem ((c.tc : Thread Cert.GatesReferenceIdeal.nD Cert.GatesReferenceIdeal.τ).loc Cert.GatesReferenceIdeal.main_arg2) = m' ((c.tc : Thread Cert.GatesReferenceIdeal.nD Cert.GatesReferenceIdeal.τ).loc Cert.GatesReferenceIdeal.main_arg2)
          ∧ r.2.mem ((c.tc : Thread Cert.GatesReferenceIdeal.nD Cert.GatesReferenceIdeal.τ).loc Cert.GatesReferenceIdeal.main_arg3) = m' ((c.tc : Thread Cert.GatesReferenceIdeal.nD Cert.GatesReferenceIdeal.τ).loc Cert.GatesReferenceIdeal.main_arg3)
          ∧ r.2.mem ((c.tc : Thread Cert.GatesReferenceIdeal.nD Cert.GatesReferenceIdeal.τ).loc Cert.GatesReferenceIdeal.main_arg4) = m' ((c.tc : Thread Cert.GatesReferenceIdeal.nD Cert.GatesReferenceIdeal.τ).loc Cert.GatesReferenceIdeal.main_arg4))

def preserves_Sfive_SfiveIdeal : Prop :=
  True

def algebraic_SfiveIdeal_SfiveReferenceIdeal [hSfiveIdeal : Cert.SfiveIdeal.Facts] [hSfiveReferenceIdeal : Cert.SfiveReferenceIdeal.Facts] : Prop :=
  ∀ (m : (ℓ : Loc Cert.SfiveIdeal.nD Cert.SfiveIdeal.τ Cert.SfiveIdeal.sig) → Buf (Elt Ideal) ℓ) (g : Dev Cert.SfiveIdeal.nD → PrngReg)
    (m' : (ℓ : Loc Cert.SfiveReferenceIdeal.nD Cert.SfiveReferenceIdeal.τ Cert.SfiveReferenceIdeal.sig) → Buf (Elt Ideal) ℓ) (g' : Dev Cert.SfiveReferenceIdeal.nD → PrngReg), Pre_SfiveIdeal m →
    (∀ c : Dev Cert.SfiveIdeal.nD,
      m' ((c.tc : Thread Cert.SfiveReferenceIdeal.nD Cert.SfiveReferenceIdeal.τ).loc Cert.SfiveReferenceIdeal.main_arg0) = m ((c.tc : Thread Cert.SfiveIdeal.nD Cert.SfiveIdeal.τ).loc Cert.SfiveIdeal.main_arg0)
      ∧ m' ((c.tc : Thread Cert.SfiveReferenceIdeal.nD Cert.SfiveReferenceIdeal.τ).loc Cert.SfiveReferenceIdeal.main_arg1) = m ((c.tc : Thread Cert.SfiveIdeal.nD Cert.SfiveIdeal.τ).loc Cert.SfiveIdeal.main_arg1)) →
    ∃ (v0 : (c : Dev Cert.SfiveIdeal.nD) → Buf (Elt Ideal) ((c.tc : Thread Cert.SfiveIdeal.nD Cert.SfiveIdeal.τ).loc Cert.SfiveIdeal.main_v0)),
      θ_run (Cert.SfiveIdeal.defs (F := Ideal)) (onTc (τ := Cert.SfiveIdeal.τ) (Cert.SfiveIdeal.main (F := Ideal))) ⟨m, fun _ => 0, g⟩ (fun r => ∀ c : Dev Cert.SfiveIdeal.nD,
          r.2.mem ((c.tc : Thread Cert.SfiveIdeal.nD Cert.SfiveIdeal.τ).loc Cert.SfiveIdeal.main_v0) = v0 c
          ∧ r.2.mem ((c.tc : Thread Cert.SfiveIdeal.nD Cert.SfiveIdeal.τ).loc Cert.SfiveIdeal.main_arg0) = m ((c.tc : Thread Cert.SfiveIdeal.nD Cert.SfiveIdeal.τ).loc Cert.SfiveIdeal.main_arg0)
          ∧ r.2.mem ((c.tc : Thread Cert.SfiveIdeal.nD Cert.SfiveIdeal.τ).loc Cert.SfiveIdeal.main_arg1) = m ((c.tc : Thread Cert.SfiveIdeal.nD Cert.SfiveIdeal.τ).loc Cert.SfiveIdeal.main_arg1))
      ∧ θ_run (Cert.SfiveReferenceIdeal.defs (F := Ideal)) (onTc (τ := Cert.SfiveReferenceIdeal.τ) (Cert.SfiveReferenceIdeal.main (F := Ideal))) ⟨m', fun _ => 0, g'⟩ (fun r => ∀ c : Dev Cert.SfiveReferenceIdeal.nD,
          r.2.mem ((c.tc : Thread Cert.SfiveReferenceIdeal.nD Cert.SfiveReferenceIdeal.τ).loc Cert.SfiveReferenceIdeal.main_v3) = v0 c
          ∧ r.2.mem ((c.tc : Thread Cert.SfiveReferenceIdeal.nD Cert.SfiveReferenceIdeal.τ).loc Cert.SfiveReferenceIdeal.main_arg0) = m' ((c.tc : Thread Cert.SfiveReferenceIdeal.nD Cert.SfiveReferenceIdeal.τ).loc Cert.SfiveReferenceIdeal.main_arg0)
          ∧ r.2.mem ((c.tc : Thread Cert.SfiveReferenceIdeal.nD Cert.SfiveReferenceIdeal.τ).loc Cert.SfiveReferenceIdeal.main_arg1) = m' ((c.tc : Thread Cert.SfiveReferenceIdeal.nD Cert.SfiveReferenceIdeal.τ).loc Cert.SfiveReferenceIdeal.main_arg1))

def preserves_Glu_GluIdeal : Prop :=
  True

def algebraic_GluIdeal_GluReferenceIdeal [hGluIdeal : Cert.GluIdeal.Facts] [hGluReferenceIdeal : Cert.GluReferenceIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluIdeal m →
    (∀ c : Dev Cert.GluIdeal.nD,
      m' ((c.tc : Thread Cert.GluReferenceIdeal.nD Cert.GluReferenceIdeal.τ).loc Cert.GluReferenceIdeal.main_arg0) = m ((c.tc : Thread Cert.GluIdeal.nD Cert.GluIdeal.τ).loc Cert.GluIdeal.main_arg0)
      ∧ m' ((c.tc : Thread Cert.GluReferenceIdeal.nD Cert.GluReferenceIdeal.τ).loc Cert.GluReferenceIdeal.main_arg1) = m ((c.tc : Thread Cert.GluIdeal.nD Cert.GluIdeal.τ).loc Cert.GluIdeal.main_arg1)
      ∧ m' ((c.tc : Thread Cert.GluReferenceIdeal.nD Cert.GluReferenceIdeal.τ).loc Cert.GluReferenceIdeal.main_arg2) = m ((c.tc : Thread Cert.GluIdeal.nD Cert.GluIdeal.τ).loc Cert.GluIdeal.main_arg2)
      ∧ m' ((c.tc : Thread Cert.GluReferenceIdeal.nD Cert.GluReferenceIdeal.τ).loc Cert.GluReferenceIdeal.main_arg3) = m ((c.tc : Thread Cert.GluIdeal.nD Cert.GluIdeal.τ).loc Cert.GluIdeal.main_arg3)
      ∧ m' ((c.tc : Thread Cert.GluReferenceIdeal.nD Cert.GluReferenceIdeal.τ).loc Cert.GluReferenceIdeal.main_arg4) = m ((c.tc : Thread Cert.GluIdeal.nD Cert.GluIdeal.τ).loc Cert.GluIdeal.main_arg4)) →
    ∃ (v0 : (c : Dev Cert.GluIdeal.nD) → Buf (Elt Ideal) ((c.tc : Thread Cert.GluIdeal.nD Cert.GluIdeal.τ).loc Cert.GluIdeal.main_v0)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
          ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v32) = v0 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1)
          ∧ r.2.mem ((c.tc : Thread Cert.GluReferenceIdeal.nD Cert.GluReferenceIdeal.τ).loc Cert.GluReferenceIdeal.main_arg2) = m' ((c.tc : Thread Cert.GluReferenceIdeal.nD Cert.GluReferenceIdeal.τ).loc Cert.GluReferenceIdeal.main_arg2)
          ∧ r.2.mem ((c.tc : Thread Cert.GluReferenceIdeal.nD Cert.GluReferenceIdeal.τ).loc Cert.GluReferenceIdeal.main_arg3) = m' ((c.tc : Thread Cert.GluReferenceIdeal.nD Cert.GluReferenceIdeal.τ).loc Cert.GluReferenceIdeal.main_arg3)
          ∧ r.2.mem ((c.tc : Thread Cert.GluReferenceIdeal.nD Cert.GluReferenceIdeal.τ).loc Cert.GluReferenceIdeal.main_arg4) = m' ((c.tc : Thread Cert.GluReferenceIdeal.nD Cert.GluReferenceIdeal.τ).loc Cert.GluReferenceIdeal.main_arg4))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)
      ∧ m' ((c.tc : Thread Cert.OutReferenceIdeal.nD Cert.OutReferenceIdeal.τ).loc Cert.OutReferenceIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v36) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5))

def preserves_Lead_LeadIdeal : Prop :=
  True

def algebraic_LeadIdeal_LeadReferenceIdeal [hLeadIdeal : Cert.LeadIdeal.Facts] [hLeadReferenceIdeal : Cert.LeadReferenceIdeal.Facts] : Prop :=
  ∀ (m : (ℓ : Loc Cert.LeadIdeal.nD Cert.LeadIdeal.τ Cert.LeadIdeal.sig) → Buf (Elt Ideal) ℓ) (g : Dev Cert.LeadIdeal.nD → PrngReg)
    (m' : (ℓ : Loc Cert.LeadReferenceIdeal.nD Cert.LeadReferenceIdeal.τ Cert.LeadReferenceIdeal.sig) → Buf (Elt Ideal) ℓ) (g' : Dev Cert.LeadReferenceIdeal.nD → PrngReg), Pre_LeadIdeal m →
    (∀ c : Dev Cert.LeadIdeal.nD,
      m' ((c.tc : Thread Cert.LeadReferenceIdeal.nD Cert.LeadReferenceIdeal.τ).loc Cert.LeadReferenceIdeal.main_arg0) = m ((c.tc : Thread Cert.LeadIdeal.nD Cert.LeadIdeal.τ).loc Cert.LeadIdeal.main_arg0)
      ∧ m' ((c.tc : Thread Cert.LeadReferenceIdeal.nD Cert.LeadReferenceIdeal.τ).loc Cert.LeadReferenceIdeal.main_arg1) = m ((c.tc : Thread Cert.LeadIdeal.nD Cert.LeadIdeal.τ).loc Cert.LeadIdeal.main_arg1)
      ∧ m' ((c.tc : Thread Cert.LeadReferenceIdeal.nD Cert.LeadReferenceIdeal.τ).loc Cert.LeadReferenceIdeal.main_arg2) = m ((c.tc : Thread Cert.LeadIdeal.nD Cert.LeadIdeal.τ).loc Cert.LeadIdeal.main_arg2)
      ∧ m' ((c.tc : Thread Cert.LeadReferenceIdeal.nD Cert.LeadReferenceIdeal.τ).loc Cert.LeadReferenceIdeal.main_arg3) = m ((c.tc : Thread Cert.LeadIdeal.nD Cert.LeadIdeal.τ).loc Cert.LeadIdeal.main_arg3)
      ∧ m' ((c.tc : Thread Cert.LeadReferenceIdeal.nD Cert.LeadReferenceIdeal.τ).loc Cert.LeadReferenceIdeal.main_arg4) = m ((c.tc : Thread Cert.LeadIdeal.nD Cert.LeadIdeal.τ).loc Cert.LeadIdeal.main_arg4)
      ∧ m' ((c.tc : Thread Cert.LeadReferenceIdeal.nD Cert.LeadReferenceIdeal.τ).loc Cert.LeadReferenceIdeal.main_arg5) = m ((c.tc : Thread Cert.LeadIdeal.nD Cert.LeadIdeal.τ).loc Cert.LeadIdeal.main_arg5)
      ∧ m' ((c.tc : Thread Cert.LeadReferenceIdeal.nD Cert.LeadReferenceIdeal.τ).loc Cert.LeadReferenceIdeal.main_arg6) = m ((c.tc : Thread Cert.LeadIdeal.nD Cert.LeadIdeal.τ).loc Cert.LeadIdeal.main_arg6)
      ∧ m' ((c.tc : Thread Cert.LeadReferenceIdeal.nD Cert.LeadReferenceIdeal.τ).loc Cert.LeadReferenceIdeal.main_arg7) = m ((c.tc : Thread Cert.LeadIdeal.nD Cert.LeadIdeal.τ).loc Cert.LeadIdeal.main_arg7)) →
    ∃ (v0 : (c : Dev Cert.LeadIdeal.nD) → Buf (Elt Ideal) ((c.tc : Thread Cert.LeadIdeal.nD Cert.LeadIdeal.τ).loc Cert.LeadIdeal.main_v2_0)) (v1 : (c : Dev Cert.LeadIdeal.nD) → Buf (Elt Ideal) ((c.tc : Thread Cert.LeadIdeal.nD Cert.LeadIdeal.τ).loc Cert.LeadIdeal.main_v2_1)),
      θ_run (Cert.LeadIdeal.defs (F := Ideal)) (onTc (τ := Cert.LeadIdeal.τ) (Cert.LeadIdeal.main (F := Ideal))) ⟨m, fun _ => 0, g⟩ (fun r => ∀ c : Dev Cert.LeadIdeal.nD,
          r.2.mem ((c.tc : Thread Cert.LeadIdeal.nD Cert.LeadIdeal.τ).loc Cert.LeadIdeal.main_v2_0) = v0 c
          ∧ r.2.mem ((c.tc : Thread Cert.LeadIdeal.nD Cert.LeadIdeal.τ).loc Cert.LeadIdeal.main_v2_1) = v1 c
          ∧ r.2.mem ((c.tc : Thread Cert.LeadIdeal.nD Cert.LeadIdeal.τ).loc Cert.LeadIdeal.main_arg0) = m ((c.tc : Thread Cert.LeadIdeal.nD Cert.LeadIdeal.τ).loc Cert.LeadIdeal.main_arg0)
          ∧ r.2.mem ((c.tc : Thread Cert.LeadIdeal.nD Cert.LeadIdeal.τ).loc Cert.LeadIdeal.main_arg1) = m ((c.tc : Thread Cert.LeadIdeal.nD Cert.LeadIdeal.τ).loc Cert.LeadIdeal.main_arg1)
          ∧ r.2.mem ((c.tc : Thread Cert.LeadIdeal.nD Cert.LeadIdeal.τ).loc Cert.LeadIdeal.main_arg2) = m ((c.tc : Thread Cert.LeadIdeal.nD Cert.LeadIdeal.τ).loc Cert.LeadIdeal.main_arg2)
          ∧ r.2.mem ((c.tc : Thread Cert.LeadIdeal.nD Cert.LeadIdeal.τ).loc Cert.LeadIdeal.main_arg3) = m ((c.tc : Thread Cert.LeadIdeal.nD Cert.LeadIdeal.τ).loc Cert.LeadIdeal.main_arg3)
          ∧ r.2.mem ((c.tc : Thread Cert.LeadIdeal.nD Cert.LeadIdeal.τ).loc Cert.LeadIdeal.main_arg4) = m ((c.tc : Thread Cert.LeadIdeal.nD Cert.LeadIdeal.τ).loc Cert.LeadIdeal.main_arg4)
          ∧ r.2.mem ((c.tc : Thread Cert.LeadIdeal.nD Cert.LeadIdeal.τ).loc Cert.LeadIdeal.main_arg5) = m ((c.tc : Thread Cert.LeadIdeal.nD Cert.LeadIdeal.τ).loc Cert.LeadIdeal.main_arg5)
          ∧ r.2.mem ((c.tc : Thread Cert.LeadIdeal.nD Cert.LeadIdeal.τ).loc Cert.LeadIdeal.main_arg6) = m ((c.tc : Thread Cert.LeadIdeal.nD Cert.LeadIdeal.τ).loc Cert.LeadIdeal.main_arg6)
          ∧ r.2.mem ((c.tc : Thread Cert.LeadIdeal.nD Cert.LeadIdeal.τ).loc Cert.LeadIdeal.main_arg7) = m ((c.tc : Thread Cert.LeadIdeal.nD Cert.LeadIdeal.τ).loc Cert.LeadIdeal.main_arg7))
      ∧ θ_run (Cert.LeadReferenceIdeal.defs (F := Ideal)) (onTc (τ := Cert.LeadReferenceIdeal.τ) (Cert.LeadReferenceIdeal.main (F := Ideal))) ⟨m', fun _ => 0, g'⟩ (fun r => ∀ c : Dev Cert.LeadReferenceIdeal.nD,
          r.2.mem ((c.tc : Thread Cert.LeadReferenceIdeal.nD Cert.LeadReferenceIdeal.τ).loc Cert.LeadReferenceIdeal.main_v104) = v0 c
          ∧ r.2.mem ((c.tc : Thread Cert.LeadReferenceIdeal.nD Cert.LeadReferenceIdeal.τ).loc Cert.LeadReferenceIdeal.main_v106) = v1 c
          ∧ r.2.mem ((c.tc : Thread Cert.LeadReferenceIdeal.nD Cert.LeadReferenceIdeal.τ).loc Cert.LeadReferenceIdeal.main_arg0) = m' ((c.tc : Thread Cert.LeadReferenceIdeal.nD Cert.LeadReferenceIdeal.τ).loc Cert.LeadReferenceIdeal.main_arg0)
          ∧ r.2.mem ((c.tc : Thread Cert.LeadReferenceIdeal.nD Cert.LeadReferenceIdeal.τ).loc Cert.LeadReferenceIdeal.main_arg1) = m' ((c.tc : Thread Cert.LeadReferenceIdeal.nD Cert.LeadReferenceIdeal.τ).loc Cert.LeadReferenceIdeal.main_arg1)
          ∧ r.2.mem ((c.tc : Thread Cert.LeadReferenceIdeal.nD Cert.LeadReferenceIdeal.τ).loc Cert.LeadReferenceIdeal.main_arg2) = m' ((c.tc : Thread Cert.LeadReferenceIdeal.nD Cert.LeadReferenceIdeal.τ).loc Cert.LeadReferenceIdeal.main_arg2)
          ∧ r.2.mem ((c.tc : Thread Cert.LeadReferenceIdeal.nD Cert.LeadReferenceIdeal.τ).loc Cert.LeadReferenceIdeal.main_arg3) = m' ((c.tc : Thread Cert.LeadReferenceIdeal.nD Cert.LeadReferenceIdeal.τ).loc Cert.LeadReferenceIdeal.main_arg3)
          ∧ r.2.mem ((c.tc : Thread Cert.LeadReferenceIdeal.nD Cert.LeadReferenceIdeal.τ).loc Cert.LeadReferenceIdeal.main_arg4) = m' ((c.tc : Thread Cert.LeadReferenceIdeal.nD Cert.LeadReferenceIdeal.τ).loc Cert.LeadReferenceIdeal.main_arg4)
          ∧ r.2.mem ((c.tc : Thread Cert.LeadReferenceIdeal.nD Cert.LeadReferenceIdeal.τ).loc Cert.LeadReferenceIdeal.main_arg5) = m' ((c.tc : Thread Cert.LeadReferenceIdeal.nD Cert.LeadReferenceIdeal.τ).loc Cert.LeadReferenceIdeal.main_arg5)
          ∧ r.2.mem ((c.tc : Thread Cert.LeadReferenceIdeal.nD Cert.LeadReferenceIdeal.τ).loc Cert.LeadReferenceIdeal.main_arg6) = m' ((c.tc : Thread Cert.LeadReferenceIdeal.nD Cert.LeadReferenceIdeal.τ).loc Cert.LeadReferenceIdeal.main_arg6)
          ∧ r.2.mem ((c.tc : Thread Cert.LeadReferenceIdeal.nD Cert.LeadReferenceIdeal.τ).loc Cert.LeadReferenceIdeal.main_arg7) = m' ((c.tc : Thread Cert.LeadReferenceIdeal.nD Cert.LeadReferenceIdeal.τ).loc Cert.LeadReferenceIdeal.main_arg7))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hMix : Cert.Mix.Facts) (hMixIdeal : Cert.MixIdeal.Facts) (hMixReferenceIdeal : Cert.MixReferenceIdeal.Facts) (hGates : Cert.Gates.Facts) (hGatesIdeal : Cert.GatesIdeal.Facts) (hGatesReferenceIdeal : Cert.GatesReferenceIdeal.Facts) (hSfive : Cert.Sfive.Facts) (hSfiveIdeal : Cert.SfiveIdeal.Facts) (hSfiveReferenceIdeal : Cert.SfiveReferenceIdeal.Facts) (hGlu : Cert.Glu.Facts) (hGluIdeal : Cert.GluIdeal.Facts) (hGluReferenceIdeal : Cert.GluReferenceIdeal.Facts) (hOut : Cert.Out.Facts) (hOutIdeal : Cert.OutIdeal.Facts) (hOutReferenceIdeal : Cert.OutReferenceIdeal.Facts) (hLead : Cert.Lead.Facts) (hLeadIdeal : Cert.LeadIdeal.Facts) (hLeadReferenceIdeal : Cert.LeadReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Merge (hMerge := hMerge)
    ∧ quiescent_MergeIdeal (hMergeIdeal := hMergeIdeal)
    ∧ quiescent_MergeReferenceIdeal (hMergeReferenceIdeal := hMergeReferenceIdeal)
    ∧ quiescent_Mix (hMix := hMix)
    ∧ quiescent_MixIdeal (hMixIdeal := hMixIdeal)
    ∧ quiescent_MixReferenceIdeal (hMixReferenceIdeal := hMixReferenceIdeal)
    ∧ quiescent_Gates (hGates := hGates)
    ∧ quiescent_GatesIdeal (hGatesIdeal := hGatesIdeal)
    ∧ quiescent_GatesReferenceIdeal (hGatesReferenceIdeal := hGatesReferenceIdeal)
    ∧ quiescent_Sfive (hSfive := hSfive)
    ∧ quiescent_SfiveIdeal (hSfiveIdeal := hSfiveIdeal)
    ∧ quiescent_SfiveReferenceIdeal (hSfiveReferenceIdeal := hSfiveReferenceIdeal)
    ∧ quiescent_Glu (hGlu := hGlu)
    ∧ quiescent_GluIdeal (hGluIdeal := hGluIdeal)
    ∧ quiescent_GluReferenceIdeal (hGluReferenceIdeal := hGluReferenceIdeal)
    ∧ quiescent_Out (hOut := hOut)
    ∧ quiescent_OutIdeal (hOutIdeal := hOutIdeal)
    ∧ quiescent_OutReferenceIdeal (hOutReferenceIdeal := hOutReferenceIdeal)
    ∧ quiescent_Lead (hLead := hLead)
    ∧ quiescent_LeadIdeal (hLeadIdeal := hLeadIdeal)
    ∧ quiescent_LeadReferenceIdeal (hLeadReferenceIdeal := hLeadReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Merge_MergeIdeal
    ∧ algebraic_MergeIdeal_MergeReferenceIdeal (hMergeIdeal := hMergeIdeal) (hMergeReferenceIdeal := hMergeReferenceIdeal)
    ∧ preserves_Mix_MixIdeal
    ∧ algebraic_MixIdeal_MixReferenceIdeal (hMixIdeal := hMixIdeal) (hMixReferenceIdeal := hMixReferenceIdeal)
    ∧ preserves_Gates_GatesIdeal
    ∧ algebraic_GatesIdeal_GatesReferenceIdeal (hGatesIdeal := hGatesIdeal) (hGatesReferenceIdeal := hGatesReferenceIdeal)
    ∧ preserves_Sfive_SfiveIdeal
    ∧ algebraic_SfiveIdeal_SfiveReferenceIdeal (hSfiveIdeal := hSfiveIdeal) (hSfiveReferenceIdeal := hSfiveReferenceIdeal)
    ∧ preserves_Glu_GluIdeal
    ∧ algebraic_GluIdeal_GluReferenceIdeal (hGluIdeal := hGluIdeal) (hGluReferenceIdeal := hGluReferenceIdeal)
    ∧ preserves_Out_OutIdeal
    ∧ algebraic_OutIdeal_OutReferenceIdeal (hOutIdeal := hOutIdeal) (hOutReferenceIdeal := hOutReferenceIdeal)
    ∧ preserves_Lead_LeadIdeal
    ∧ algebraic_LeadIdeal_LeadReferenceIdeal (hLeadIdeal := hLeadIdeal) (hLeadReferenceIdeal := hLeadReferenceIdeal)
-- ==== Pre_finite.lean ====
abbrev S2x8448x4608 : Shape := ⟨3, ![2, 8448, 4608]⟩
abbrev S2x8448x1280 : Shape := ⟨3, ![2, 8448, 1280]⟩
abbrev S_ : Shape := ⟨0, ![]⟩

class Facts : Prop where
  slices_S2x8448x4608_S2x8448x1280_0_0_3072 : S2x8448x4608.Slices ![0, 0, 3072] S2x8448x1280
  bitsLt_bf16_f32 : FTy.bits .bf16 < FTy.bits .f32
  bcast_S_S2x8448x1280 : S_.BroadcastsInDim S2x8448x1280 (![] : Fin 0 → Fin S2x8448x1280.rank)

variable [Facts]

def fn {F : FTy → Type} [FloatOps F] (main_arg0 : FVec F S2x8448x4608 .bf16) : IVec S2x8448x1280 1 :=
  let main_v0 : FVec F S2x8448x1280 .bf16 := (extractStridedSlice S2x8448x1280 ![0, 0, 3072] · slices_S2x8448x4608_S2x8448x1280_0_0_3072) main_arg0
  let main_v1 : FVec F S2x8448x1280 .f32 := (extf .f32 · bitsLt_bf16_f32) main_v0
  let main_v2 : FVec F S2x8448x1280 .f32 := Host.absf main_v1
  let main_cst : FVec F S_ .f32 := constant S_ .f32 0x7F800000#32
  let main_v3 : FVec F S2x8448x1280 .f32 := broadcastInDim S2x8448x1280 ![] bcast_S_S2x8448x1280 main_cst
  let main_v4 : IVec S2x8448x1280 1 := cmpf .olt main_v2 main_v3
  main_v4
-- ==== Kernel.lean ====
abbrev S2x8448x4608 : Shape := ⟨3, ![2, 8448, 4608]⟩
abbrev S2x8448x1024 : Shape := ⟨3, ![2, 8448, 1024]⟩
abbrev S1x256x512 : Shape := ⟨3, ![1, 256, 512]⟩
abbrev S1x8448x128 : Shape := ⟨3, ![1, 8448, 128]⟩
abbrev S8448x256 : Shape := ⟨2, ![8448, 256]⟩
abbrev S1024x128 : Shape := ⟨2, ![1024, 128]⟩
abbrev S2x2x1024x2048 : Shape := ⟨4, ![2, 2, 1024, 2048]⟩
abbrev S1024x256 : Shape := ⟨2, ![1024, 256]⟩
abbrev S8448x128 : Shape := ⟨2, ![8448, 128]⟩
abbrev S1x256x128 : Shape := ⟨3, ![1, 256, 128]⟩
abbrev S256x128 : Shape := ⟨2, ![256, 128]⟩
abbrev S1x1x1024x256 : Shape := ⟨4, ![1, 1, 1024, 256]⟩
abbrev S1024 : Shape := ⟨1, ![1024]⟩
abbrev S1024x1 : Shape := ⟨2, ![1024, 1]⟩
abbrev S1x1x1024x128 : Shape := ⟨4, ![1, 1, 1024, 128]⟩
abbrev S256x256 : Shape := ⟨2, ![256, 256]⟩
abbrev S1x2048x128 : Shape := ⟨3, ![1, 2048, 128]⟩
abbrev S2048x128 : Shape := ⟨2, ![2048, 128]⟩
abbrev S1024x2048 : Shape := ⟨2, ![1024, 2048]⟩
abbrev S1x1x1024x2048 : Shape := ⟨4, ![1, 1, 1024, 2048]⟩
abbrev S2048x256 : Shape := ⟨2, ![2048, 256]⟩

abbrev nBuf : Space → Nat
  | .hbm => 2
  | .vmem => 14
  | .smem => 0
  | _ => 0

abbrev bufTy : (tb : Table) → Fin (tcTables nBuf tb) → BufTy
  | .hbm, ⟨0, _⟩ => ⟨S2x8448x4608, .bf16⟩
  | .hbm, ⟨1, _⟩ => ⟨S2x8448x1024, .bf16⟩
  | .local _ .vmem, ⟨0, _⟩ => ⟨S1x256x512, .bf16⟩
  | .local _ .vmem, ⟨1, _⟩ => ⟨S1x256x512, .bf16⟩
  | .local _ .vmem, ⟨2, _⟩ => ⟨S1x8448x128, .bf16⟩
  | .local _ .vmem, ⟨3, _⟩ => ⟨S1x8448x128, .bf16⟩
  | .local _ .vmem, ⟨4, _⟩ => ⟨S1x8448x128, .bf16⟩
  | .local _ .vmem, ⟨5, _⟩ => ⟨S1x8448x128, .bf16⟩
  | .local _ .vmem, ⟨6, _⟩ => ⟨S1x256x512, .bf16⟩
  | .local _ .vmem, ⟨7, _⟩ => ⟨S1x256x512, .bf16⟩
  | .local _ .vmem, ⟨8, _⟩ => ⟨S8448x256, .bf16⟩
  | .local _ .vmem, ⟨9, _⟩ => ⟨S1024x128, .bf16⟩
  | .local _ .vmem, ⟨10, _⟩ => ⟨S2x2x1024x2048, .f32⟩
  | .local _ .vmem, ⟨11, _⟩ => ⟨S1024x128, .f32⟩
  | .local _ .vmem, ⟨12, _⟩ => ⟨S1024x128, .f32⟩
  | .local _ .vmem, ⟨13, _⟩ => ⟨S1024x256, .f32⟩
  | _, _ => ⟨S2x8448x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 33], ![false, false, false]⟩

def k0_cond3 (i : grid0.Coords) : BitVec 1 :=
  let arg2 : BitVec 32 := BitVec.ofNat 32 (i 2).val
  let c0_i32_24 : BitVec 32 := 0#32
  let v37 : BitVec 1 := Scalar.cmpi .sgt arg2 c0_i32_24
  let v38 : BitVec 32 := Scalar.extui v37
  let c0_i32_25 : BitVec 32 := 0#32
  let v39 : BitVec 1 := Scalar.cmpi .ne v38 c0_i32_25
  v39

def k0_mult1 : BitVec 32 :=
  let c0_i32_54 : BitVec 32 := 0#32
  let c2048_i32 : BitVec 32 := 2048#32
  let v68 : BitVec 32 := Scalar.muli c0_i32_54 c2048_i32
  v68
def k0_off1 (c0_i32_55 : BitVec 32) : Fin 3 → Nat :=
  let c0_56 : Index := 0#32
  let c0_i32_54 : BitVec 32 := 0#32
  let c2048_i32 : BitVec 32 := 2048#32
  let v68 : BitVec 32 := Scalar.muli c0_i32_54 c2048_i32
  let v69 : BitVec 32 := v68
  let v70 : BitVec 32 := Scalar.addi c0_i32_55 v69
  let v71 : Index := Scalar.indexCast v70
  let c0_57 : Index := 0#32
  ![0, v71.toNat, 0]
def k0_off1_at (r : Fin 4) : BitVec 32 :=
  if r.val < 2 then
    if r.val < 1 then
      0#32
    else
      2304#32
  else
    if r.val < 3 then
      4352#32
    else
      6400#32
def k0_mult2 : BitVec 32 :=
  let c0_i32_97 : BitVec 32 := 0#32
  let c2048_i32_98 : BitVec 32 := 2048#32
  let v156 : BitVec 32 := Scalar.muli c0_i32_97 c2048_i32_98
  v156
def k0_off2 (c0_i32_111 : BitVec 32) : Fin 2 → Nat :=
  let c0_i32_97 : BitVec 32 := 0#32
  let c2048_i32_98 : BitVec 32 := 2048#32
  let v156 : BitVec 32 := Scalar.muli c0_i32_97 c2048_i32_98
  let v157 : BitVec 32 := v156
  let v204 : BitVec 32 := Scalar.addi c0_i32_111 v157
  let v289 : Index := Scalar.indexCast v204
  let c0_154 : Index := 0#32
  ![v289.toNat, 0]
def k0_off2_at (r : Fin 4) : BitVec 32 :=
  if r.val < 2 then
    if r.val < 1 then
      0#32
    else
      2304#32
  else
    if r.val < 3 then
      4352#32
    else
      6400#32
def k0_mult3 : BitVec 32 :=
  let c0_i32_193 : BitVec 32 := 0#32
  let c2048_i32_194 : BitVec 32 := 2048#32
  let v339 : BitVec 32 := Scalar.muli c0_i32_193 c2048_i32_194
  v339
def k0_mult4 : BitVec 32 :=
  let c0_i32_282 : BitVec 32 := 0#32
  let c2048_i32_283 : BitVec 32 := 2048#32
  let v504 : BitVec 32 := Scalar.muli c0_i32_282 c2048_i32_283
  v504
def k0_mult5 : BitVec 32 :=
  let c0_i32_371 : BitVec 32 := 0#32
  let c2048_i32_372 : BitVec 32 := 2048#32
  let v669 : BitVec 32 := Scalar.muli c0_i32_371 c2048_i32_372
  v669
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c34_i32 : BitVec 32 := 34#32
  let v0 : BitVec 32 := Scalar.addi c34_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x8448x4608 : Shape := ⟨3, ![2, 8448, 4608]⟩
abbrev S2x8448x1024 : Shape := ⟨3, ![2, 8448, 1024]⟩
abbrev S2x8448x2x4x128 : Shape := ⟨5, ![2, 8448, 2, 4, 128]⟩
abbrev S2x8448x256 : Shape := ⟨3, ![2, 8448, 256]⟩
abbrev S2x8448x2x128 : Shape := ⟨4, ![2, 8448, 2, 128]⟩
abbrev S2x256x2x4x128 : Shape := ⟨5, ![2, 256, 2, 4, 128]⟩
abbrev S2x256x2x128 : Shape := ⟨4, ![2, 256, 2, 128]⟩
abbrev S2x2x256x256x4 : Shape := ⟨5, ![2, 2, 256, 256, 4]⟩
abbrev S2x2x4x256x256 : Shape := ⟨5, ![2, 2, 4, 256, 256]⟩
abbrev S_ : Shape := ⟨0, ![]⟩
abbrev S2x2x4x256 : Shape := ⟨4, ![2, 2, 4, 256]⟩
abbrev S2x2x4x256x1 : Shape := ⟨5, ![2, 2, 4, 256, 1]⟩
abbrev S2x2x128x4x256 : Shape := ⟨5, ![2, 2, 128, 4, 256]⟩
abbrev S2x8192x2x4x128 : Shape := ⟨5, ![2, 8192, 2, 4, 128]⟩
abbrev S2x2x8448x8192x4 : Shape := ⟨5, ![2, 2, 8448, 8192, 4]⟩
abbrev S2x2x4x8192x8448 : Shape := ⟨5, ![2, 2, 4, 8192, 8448]⟩
abbrev S2x2x4x8192 : Shape := ⟨4, ![2, 2, 4, 8192]⟩
abbrev S2x2x4x8192x1 : Shape := ⟨5, ![2, 2, 4, 8192, 1]⟩
abbrev S2x2x128x4x8192 : Shape := ⟨5, ![2, 2, 128, 4, 8192]⟩

abbrev nBuf : Space → Nat
  | .hbm => 61
  | .vmem => 0
  | .smem => 0
  | _ => 0

abbrev bufTy : (tb : Table) → Fin (tcTables nBuf tb) → BufTy
  | .hbm, ⟨0, _⟩ => ⟨S2x8448x4608, .bf16⟩
  | .hbm, ⟨1, _⟩ => ⟨S2x8448x1024, .bf16⟩
  | .hbm, ⟨2, _⟩ => ⟨S2x8448x1024, .f32⟩
  | .hbm, ⟨3, _⟩ => ⟨S2x8448x2x4x128, .f32⟩
  | .hbm, ⟨4, _⟩ => ⟨S2x8448x256, .bf16⟩
  | .hbm, ⟨5, _⟩ => ⟨S2x8448x256, .f32⟩
  | .hbm, ⟨6, _⟩ => ⟨S2x8448x2x128, .f32⟩
  | .hbm, ⟨7, _⟩ => ⟨S2x8448x256, .bf16⟩
  | .hbm, ⟨8, _⟩ => ⟨S2x8448x256, .f32⟩
  | .hbm, ⟨9, _⟩ => ⟨S2x8448x2x128, .f32⟩
  | .hbm, ⟨10, _⟩ => ⟨S2x256x2x4x128, .f32⟩
  | .hbm, ⟨11, _⟩ => ⟨S2x256x2x128, .f32⟩
  | .hbm, ⟨12, _⟩ => ⟨S2x256x2x128, .f32⟩
  | .hbm, ⟨13, _⟩ => ⟨S2x2x256x256x4, .f32⟩
  | .hbm, ⟨14, _⟩ => ⟨S2x2x4x256x256, .f32⟩
  | .hbm, ⟨15, _⟩ => ⟨S_, .f32⟩
  | .hbm, ⟨16, _⟩ => ⟨S_, .f32⟩
  | .hbm, ⟨17, _⟩ => ⟨S2x2x4x256x256, .f32⟩
  | .hbm, ⟨18, _⟩ => ⟨S2x2x4x256x256, .f32⟩
  | .hbm, ⟨19, _⟩ => ⟨S_, .f32⟩
  | .hbm, ⟨20, _⟩ => ⟨S2x2x4x256, .f32⟩
  | .hbm, ⟨21, _⟩ => ⟨S_, .f32⟩
  | .hbm, ⟨22, _⟩ => ⟨S2x2x4x256, .f32⟩
  | .hbm, ⟨23, _⟩ => ⟨S2x2x4x256, .f32⟩
  | .hbm, ⟨24, _⟩ => ⟨S2x2x4x256x1, .f32⟩
  | .hbm, ⟨25, _⟩ => ⟨S2x2x4x256x256, .f32⟩
  | .hbm, ⟨26, _⟩ => ⟨S2x2x4x256x256, .f32⟩
  | .hbm, ⟨27, _⟩ => ⟨S2x2x4x256x256, .f32⟩
  | .hbm, ⟨28, _⟩ => ⟨S_, .f32⟩
  | .hbm, ⟨29, _⟩ => ⟨S2x2x4x256, .f32⟩
  | .hbm, ⟨30, _⟩ => ⟨S2x2x4x256x1, .f32⟩
  | .hbm, ⟨31, _⟩ => ⟨S2x2x4x256x256, .f32⟩
  | .hbm, ⟨32, _⟩ => ⟨S2x2x4x256x256, .f32⟩
  | .hbm, ⟨33, _⟩ => ⟨S2x2x128x4x256, .f32⟩
  | .hbm, ⟨34, _⟩ => ⟨S2x256x2x4x128, .f32⟩
  | .hbm, ⟨35, _⟩ => ⟨S2x8192x2x4x128, .f32⟩
  | .hbm, ⟨36, _⟩ => ⟨S2x2x8448x8192x4, .f32⟩
  | .hbm, ⟨37, _⟩ => ⟨S2x2x4x8192x8448, .f32⟩
  | .hbm, ⟨38, _⟩ => ⟨S_, .f32⟩
  | .hbm, ⟨39, _⟩ => ⟨S_, .f32⟩
  | .hbm, ⟨40, _⟩ => ⟨S2x2x4x8192x8448, .f32⟩
  | .hbm, ⟨41, _⟩ => ⟨S2x2x4x8192x8448, .f32⟩
  | .hbm, ⟨42, _⟩ => ⟨S_, .f32⟩
  | .hbm, ⟨43, _⟩ => ⟨S2x2x4x8192, .f32⟩
  | .hbm, ⟨44, _⟩ => ⟨S_, .f32⟩
  | .hbm, ⟨45, _⟩ => ⟨S2x2x4x8192, .f32⟩
  | .hbm, ⟨46, _⟩ => ⟨S2x2x4x8192, .f32⟩
  | .hbm, ⟨47, _⟩ => ⟨S2x2x4x8192x1, .f32⟩
  | .hbm, ⟨48, _⟩ => ⟨S2x2x4x8192x8448, .f32⟩
  | .hbm, ⟨49, _⟩ => ⟨S2x2x4x8192x8448, .f32⟩
  | .hbm, ⟨50, _⟩ => ⟨S2x2x4x8192x8448, .f32⟩
  | .hbm, ⟨51, _⟩ => ⟨S_, .f32⟩
  | .hbm, ⟨52, _⟩ => ⟨S2x2x4x8192, .f32⟩
  | .hbm, ⟨53, _⟩ => ⟨S2x2x4x8192x1, .f32⟩
  | .hbm, ⟨54, _⟩ => ⟨S2x2x4x8192x8448, .f32⟩
  | .hbm, ⟨55, _⟩ => ⟨S2x2x4x8192x8448, .f32⟩
  | .hbm, ⟨56, _⟩ => ⟨S2x2x128x4x8192, .f32⟩
  | .hbm, ⟨57, _⟩ => ⟨S2x8192x2x4x128, .f32⟩
  | .hbm, ⟨58, _⟩ => ⟨S2x8448x2x4x128, .f32⟩
  | .hbm, ⟨59, _⟩ => ⟨S2x8448x1024, .f32⟩
  | .hbm, ⟨60, _⟩ => ⟨S2x8448x1024, .bf16⟩
  | _, _ => ⟨S2x8448x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_cst : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst_0 : Ref sig .tc := ⟨.hbm, 19, rfl⟩
abbrev main_v17 : Ref sig .tc := ⟨.hbm, 20, rfl⟩
abbrev main_cst_1 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_2 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_3 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_4 : Ref sig .tc := ⟨.hbm, 42, rfl⟩
abbrev main_v36 : Ref sig .tc := ⟨.hbm, 43, rfl⟩
abbrev main_cst_5 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_6 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩

abbrev nD : Nat := 1
abbrev τ : Topo := Topo.v7x

variable {F : FTy → Type} [FloatOps F]
-- ==== Merge.lean ====
abbrev S2x8448x2048 : Shape := ⟨3, ![2, 8448, 2048]⟩
abbrev S2x8448x768 : Shape := ⟨3, ![2, 8448, 768]⟩
abbrev S2x2048x14336 : Shape := ⟨3, ![2, 2048, 14336]⟩
abbrev S1024x2048 : Shape := ⟨2, ![1024, 2048]⟩
abbrev S768x2048 : Shape := ⟨2, ![768, 2048]⟩
abbrev S1x1056x2048 : Shape := ⟨3, ![1, 1056, 2048]⟩
abbrev S1x1056x768 : Shape := ⟨3, ![1, 1056, 768]⟩
abbrev S1x2048x512 : Shape := ⟨3, ![1, 2048, 512]⟩
abbrev S1024x512 : Shape := ⟨2, ![1024, 512]⟩
abbrev S768x512 : Shape := ⟨2, ![768, 512]⟩
abbrev S1x1056x512 : Shape := ⟨3, ![1, 1056, 512]⟩
abbrev S1x528x2048 : Shape := ⟨3, ![1, 528, 2048]⟩
abbrev S528x2048 : Shape := ⟨2, ![528, 2048]⟩
abbrev S1x528x1024 : Shape := ⟨3, ![1, 528, 1024]⟩
abbrev S528x1024 : Shape := ⟨2, ![528, 1024]⟩
abbrev S1x528x768 : Shape := ⟨3, ![1, 528, 768]⟩
abbrev S528x768 : Shape := ⟨2, ![528, 768]⟩
abbrev S2048x512 : Shape := ⟨2, ![2048, 512]⟩
abbrev S528x512 : Shape := ⟨2, ![528, 512]⟩
abbrev S1x528x512 : Shape := ⟨3, ![1, 528, 512]⟩

abbrev nBuf : Space → Nat
  | .hbm => 8
  | .vmem => 20
  | .smem => 0
  | _ => 0

abbrev bufTy : (tb : Table) → Fin (tcTables nBuf tb) → BufTy
  | .hbm, ⟨0, _⟩ => ⟨S2x8448x2048, .bf16⟩
  | .hbm, ⟨1, _⟩ => ⟨S2x8448x2048, .bf16⟩
  | .hbm, ⟨2, _⟩ => ⟨S2x8448x768, .bf16⟩
  | .hbm, ⟨3, _⟩ => ⟨S2x2048x14336, .bf16⟩
  | .hbm, ⟨4, _⟩ => ⟨S1024x2048, .bf16⟩
  | .hbm, ⟨5, _⟩ => ⟨S1024x2048, .bf16⟩
  | .hbm, ⟨6, _⟩ => ⟨S768x2048, .bf16⟩
  | .hbm, ⟨7, _⟩ => ⟨S2x8448x2048, .bf16⟩
  | .local _ .vmem, ⟨0, _⟩ => ⟨S1x1056x2048, .bf16⟩
  | .local _ .vmem, ⟨1, _⟩ => ⟨S1x1056x2048, .bf16⟩
  | .local _ .vmem, ⟨2, _⟩ => ⟨S1x1056x2048, .bf16⟩
  | .local _ .vmem, ⟨3, _⟩ => ⟨S1x1056x2048, .bf16⟩
  | .local _ .vmem, ⟨4, _⟩ => ⟨S1x1056x768, .bf16⟩
  | .local _ .vmem, ⟨5, _⟩ => ⟨S1x1056x768, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x2048x512, .bf16⟩
  | .local _ .vmem, ⟨11, _⟩ => ⟨S1x2048x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S768x512, .bf16⟩
  | .local _ .vmem, ⟨17, _⟩ => ⟨S768x512, .bf16⟩
  | .local _ .vmem, ⟨18, _⟩ => ⟨S1x1056x512, .bf16⟩
  | .local _ .vmem, ⟨19, _⟩ => ⟨S1x1056x512, .bf16⟩
  | _, _ => ⟨S2x8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 8, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg2
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg2
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg2
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1056x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1056x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S768x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S1x1056x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== MergeReferenceIdeal.lean ====
abbrev S2x8448x2048 : Shape := ⟨3, ![2, 8448, 2048]⟩
abbrev S2x8448x768 : Shape := ⟨3, ![2, 8448, 768]⟩
abbrev S2x2048x14336 : Shape := ⟨3, ![2, 2048, 14336]⟩
abbrev S1024x2048 : Shape := ⟨2, ![1024, 2048]⟩
abbrev S768x2048 : Shape := ⟨2, ![768, 2048]⟩
abbrev S1x2048x6144 : Shape := ⟨3, ![1, 2048, 6144]⟩
abbrev S2048x6144 : Shape := ⟨2, ![2048, 6144]⟩
abbrev S2x8448x6144 : Shape := ⟨3, ![2, 8448, 6144]⟩
abbrev S_ : Shape := ⟨0, ![]⟩
abbrev S2x8448x3x2048 : Shape := ⟨4, ![2, 8448, 3, 2048]⟩
abbrev S2x8448x1x2048 : Shape := ⟨4, ![2, 8448, 1, 2048]⟩
abbrev S2x8448x1024 : Shape := ⟨3, ![2, 8448, 1024]⟩

abbrev nBuf : Space → Nat
  | .hbm => 44
  | .vmem => 0
  | .smem => 0
  | _ => 0

abbrev bufTy : (tb : Table) → Fin (tcTables nBuf tb) → BufTy
  | .hbm, ⟨0, _⟩ => ⟨S2x8448x2048, .bf16⟩
  | .hbm, ⟨1, _⟩ => ⟨S2x8448x2048, .bf16⟩
  | .hbm, ⟨2, _⟩ => ⟨S2x8448x768, .bf16⟩
  | .hbm, ⟨3, _⟩ => ⟨S2x2048x14336, .bf16⟩
  | .hbm, ⟨4, _⟩ => ⟨S1024x2048, .bf16⟩
  | .hbm, ⟨5, _⟩ => ⟨S1024x2048, .bf16⟩
  | .hbm, ⟨6, _⟩ => ⟨S768x2048, .bf16⟩
  | .hbm, ⟨7, _⟩ => ⟨S1x2048x6144, .bf16⟩
  | .hbm, ⟨8, _⟩ => ⟨S2048x6144, .bf16⟩
  | .hbm, ⟨9, _⟩ => ⟨S2x8448x2048, .f32⟩
  | .hbm, ⟨10, _⟩ => ⟨S2048x6144, .f32⟩
  | .hbm, ⟨11, _⟩ => ⟨S2x8448x6144, .f32⟩
  | .hbm, ⟨12, _⟩ => ⟨S2x8448x6144, .f32⟩
  | .hbm, ⟨13, _⟩ => ⟨S2x8448x6144, .f32⟩
  | .hbm, ⟨14, _⟩ => ⟨S_, .f32⟩
  | .hbm, ⟨15, _⟩ => ⟨S2x8448x6144, .f32⟩
  | .hbm, ⟨16, _⟩ => ⟨S2x8448x6144, .f32⟩
  | .hbm, ⟨17, _⟩ => ⟨S_, .f32⟩
  | .hbm, ⟨18, _⟩ => ⟨S2x8448x6144, .f32⟩
  | .hbm, ⟨19, _⟩ => ⟨S2x8448x6144, .f32⟩
  | .hbm, ⟨20, _⟩ => ⟨S2x8448x3x2048, .f32⟩
  | .hbm, ⟨21, _⟩ => ⟨S2x8448x1x2048, .f32⟩
  | .hbm, ⟨22, _⟩ => ⟨S2x8448x2048, .f32⟩
  | .hbm, ⟨23, _⟩ => ⟨S2x8448x1024, .bf16⟩
  | .hbm, ⟨24, _⟩ => ⟨S2x8448x1024, .f32⟩
  | .hbm, ⟨25, _⟩ => ⟨S1024x2048, .f32⟩
  | .hbm, ⟨26, _⟩ => ⟨S2x8448x2048, .f32⟩
  | .hbm, ⟨27, _⟩ => ⟨S2x8448x2048, .f32⟩
  | .hbm, ⟨28, _⟩ => ⟨S2x8448x1x2048, .f32⟩
  | .hbm, ⟨29, _⟩ => ⟨S2x8448x2048, .f32⟩
  | .hbm, ⟨30, _⟩ => ⟨S2x8448x1024, .bf16⟩
  | .hbm, ⟨31, _⟩ => ⟨S2x8448x1024, .f32⟩
  | .hbm, ⟨32, _⟩ => ⟨S1024x2048, .f32⟩
  | .hbm, ⟨33, _⟩ => ⟨S2x8448x2048, .f32⟩
  | .hbm, ⟨34, _⟩ => ⟨S2x8448x2048, .f32⟩
  | .hbm, ⟨35, _⟩ => ⟨S2x8448x2048, .f32⟩
  | .hbm, ⟨36, _⟩ => ⟨S2x8448x1x2048, .f32⟩
  | .hbm, ⟨37, _⟩ => ⟨S2x8448x2048, .f32⟩
  | .hbm, ⟨38, _⟩ => ⟨S2x8448x768, .f32⟩
  | .hbm, ⟨39, _⟩ => ⟨S768x2048, .f32⟩
  | .hbm, ⟨40, _⟩ => ⟨S2x8448x2048, .f32⟩
  | .hbm, ⟨41, _⟩ => ⟨S2x8448x2048, .f32⟩
  | .hbm, ⟨42, _⟩ => ⟨S2x8448x2048, .f32⟩
  | .hbm, ⟨43, _⟩ => ⟨S2x8448x2048, .bf16⟩
  | _, _ => ⟨S2x8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== Mix.lean ====
abbrev S2x8448x2048 : Shape := ⟨3, ![2, 8448, 2048]⟩
abbrev S2x2048x14336 : Shape := ⟨3, ![2, 2048, 14336]⟩
abbrev S8192x128 : Shape := ⟨2, ![8192, 128]⟩
abbrev S8192x64 : Shape := ⟨2, ![8192, 64]⟩
abbrev S1x128 : Shape := ⟨2, ![1, 128]⟩
abbrev S_ : Shape := ⟨0, ![]⟩
abbrev S256x128 : Shape := ⟨2, ![256, 128]⟩
abbrev S8448x128 : Shape := ⟨2, ![8448, 128]⟩
abbrev S256x64 : Shape := ⟨2, ![256, 64]⟩
abbrev S8448x64 : Shape := ⟨2, ![8448, 64]⟩
abbrev S2x8448x4608 : Shape := ⟨3, ![2, 8448, 4608]⟩
abbrev S1x528x2048 : Shape := ⟨3, ![1, 528, 2048]⟩
abbrev S1x2048x3072 : Shape := ⟨3, ![1, 2048, 3072]⟩
abbrev S1x2048x2048 : Shape := ⟨3, ![1, 2048, 2048]⟩
abbrev S528x128 : Shape := ⟨2, ![528, 128]⟩
abbrev S1x528x4608 : Shape := ⟨3, ![1, 528, 4608]⟩
abbrev S528x2048 : Shape := ⟨2, ![528, 2048]⟩
abbrev S1x2048x512 : Shape := ⟨3, ![1, 2048, 512]⟩
abbrev S2048x512 : Shape := ⟨2, ![2048, 512]⟩
abbrev S528x512 : Shape := ⟨2, ![528, 512]⟩
abbrev S1x528x128 : Shape := ⟨3, ![1, 528, 128]⟩
abbrev S1x528x512 : Shape := ⟨3, ![1, 528, 512]⟩
abbrev S128x128 : Shape := ⟨2, ![128, 128]⟩
abbrev S528x256 : Shape := ⟨2, ![528, 256]⟩
abbrev S1x528x256 : Shape := ⟨3, ![1, 528, 256]⟩

abbrev nBuf : Space → Nat
  | .hbm => 24
  | .vmem => 16
  | .smem => 0
  | _ => 0

abbrev bufTy : (tb : Table) → Fin (tcTables nBuf tb) → BufTy
  | .hbm, ⟨0, _⟩ => ⟨S2x8448x2048, .bf16⟩
  | .hbm, ⟨1, _⟩ => ⟨S2x2048x14336, .bf16⟩
  | .hbm, ⟨2, _⟩ => ⟨S8192x128, .f32⟩
  | .hbm, ⟨3, _⟩ => ⟨S8192x128, .f32⟩
  | .hbm, ⟨4, _⟩ => ⟨S8192x64, .f32⟩
  | .hbm, ⟨5, _⟩ => ⟨S8192x64, .f32⟩
  | .hbm, ⟨6, _⟩ => ⟨S1x128, .f32⟩
  | .hbm, ⟨7, _⟩ => ⟨S1x128, .f32⟩
  | .hbm, ⟨8, _⟩ => ⟨S_, .f32⟩
  | .hbm, ⟨9, _⟩ => ⟨S256x128, .f32⟩
  | .hbm, ⟨10, _⟩ => ⟨S8448x128, .f32⟩
  | .hbm, ⟨11, _⟩ => ⟨S_, .f32⟩
  | .hbm, ⟨12, _⟩ => ⟨S256x128, .f32⟩
  | .hbm, ⟨13, _⟩ => ⟨S8448x128, .f32⟩
  | .hbm, ⟨14, _⟩ => ⟨S_, .f32⟩
  | .hbm, ⟨15, _⟩ => ⟨S256x64, .f32⟩
  | .hbm, ⟨16, _⟩ => ⟨S8448x64, .f32⟩
  | .hbm, ⟨17, _⟩ => ⟨S_, .f32⟩
  | .hbm, ⟨18, _⟩ => ⟨S256x64, .f32⟩
  | .hbm, ⟨19, _⟩ => ⟨S8448x64, .f32⟩
  | .hbm, ⟨20, _⟩ => ⟨S8448x128, .f32⟩
  | .hbm, ⟨21, _⟩ => ⟨S8448x64, .f32⟩
  | .hbm, ⟨22, _⟩ => ⟨S8448x128, .f32⟩
  | .hbm, ⟨23, _⟩ => ⟨S2x8448x4608, .bf16⟩
  | .local _ .vmem, ⟨0, _⟩ => ⟨S1x528x2048, .bf16⟩
  | .local _ .vmem, ⟨1, _⟩ => ⟨S1x528x2048, .bf16⟩
  | .local _ .vmem, ⟨2, _⟩ => ⟨S1x2048x3072, .bf16⟩
  | .local _ .vmem, ⟨3, _⟩ => ⟨S1x2048x2048, .bf16⟩
  | .local _ .vmem, ⟨4, _⟩ => ⟨S528x128, .f32⟩
  | .local _ .vmem, ⟨5, _⟩ => ⟨S528x128, .f32⟩
  | .local _ .vmem, ⟨6, _⟩ => ⟨S528x128, .f32⟩
  | .local _ .vmem, ⟨7, _⟩ => ⟨S528x128, .f32⟩
  | .local _ .vmem, ⟨8, _⟩ => ⟨S528x128, .f32⟩
  | .local _ .vmem, ⟨9, _⟩ => ⟨S528x128, .f32⟩
  | .local _ .vmem, ⟨10, _⟩ => ⟨S528x128, .f32⟩
  | .local _ .vmem, ⟨11, _⟩ => ⟨S528x128, .f32⟩
  | .local _ .vmem, ⟨12, _⟩ => ⟨S1x128, .f32⟩
  | .local _ .vmem, ⟨13, _⟩ => ⟨S1x128, .f32⟩
  | .local _ .vmem, ⟨14, _⟩ => ⟨S1x528x4608, .bf16⟩
  | .local _ .vmem, ⟨15, _⟩ => ⟨S1x528x4608, .bf16⟩
  | _, _ => ⟨S2x8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x528x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S528x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S528x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S528x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S528x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x528x4608 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MixIdeal.lean ====
variable {F : FTy → Type} [FloatOps F] [Named F]
def κ : String → Option EReal := fun
  | "query_scale" => some (((Real.sqrt 128)⁻¹ * (Real.log 2)⁻¹ : ℝ) : EReal)
  | _ => none
-- ==== MixReferenceIdeal.lean ====
abbrev S2x8448x2048 : Shape := ⟨3, ![2, 8448, 2048]⟩
abbrev S2x2048x14336 : Shape := ⟨3, ![2, 2048, 14336]⟩
abbrev S8192x128 : Shape := ⟨2, ![8192, 128]⟩
abbrev S8192x64 : Shape := ⟨2, ![8192, 64]⟩
abbrev S1x128 : Shape := ⟨2, ![1, 128]⟩
abbrev S1x2048x14336 : Shape := ⟨3, ![1, 2048, 14336]⟩
abbrev S2048x14336 : Shape := ⟨2, ![2048, 14336]⟩
abbrev S2048x1024 : Shape := ⟨2, ![2048, 1024]⟩
abbrev S2x8448x1024 : Shape := ⟨3, ![2, 8448, 1024]⟩
abbrev S2x8448x4x256 : Shape := ⟨4, ![2, 8448, 4, 256]⟩
abbrev S2x8192x4x256 : Shape := ⟨4, ![2, 8192, 4, 256]⟩
abbrev S2x8192x4x128 : Shape := ⟨4, ![2, 8192, 4, 128]⟩
abbrev S8192x1x128 : Shape := ⟨3, ![8192, 1, 128]⟩
abbrev S2x256x4x256 : Shape := ⟨4, ![2, 256, 4, 256]⟩
abbrev S1x8192x1x128 : Shape := ⟨4, ![1, 8192, 1, 128]⟩
abbrev S_ : Shape := ⟨0, ![]⟩
abbrev S2x8448x8x128 : Shape := ⟨4, ![2, 8448, 8, 128]⟩
abbrev S2x8448x8 : Shape := ⟨3, ![2, 8448, 8]⟩
abbrev S2x8448x8x1 : Shape := ⟨4, ![2, 8448, 8, 1]⟩
abbrev S128 : Shape := ⟨1, ![128]⟩
abbrev S1x1x1x128 : Shape := ⟨4, ![1, 1, 1, 128]⟩
abbrev S2x8192x8x128 : Shape := ⟨4, ![2, 8192, 8, 128]⟩
abbrev S2x8192x8x64 : Shape := ⟨4, ![2, 8192, 8, 64]⟩
abbrev S8192x1x64 : Shape := ⟨3, ![8192, 1, 64]⟩
abbrev S2x256x8x128 : Shape := ⟨4, ![2, 256, 8, 128]⟩
abbrev S1x8192x1x64 : Shape := ⟨4, ![1, 8192, 1, 64]⟩
abbrev S2048x256 : Shape := ⟨2, ![2048, 256]⟩
abbrev S2x8448x256 : Shape := ⟨3, ![2, 8448, 256]⟩
abbrev S2x8448x2x128 : Shape := ⟨4, ![2, 8448, 2, 128]⟩
abbrev S2x8448x2 : Shape := ⟨3, ![2, 8448, 2]⟩
abbrev S2x8448x2x1 : Shape := ⟨4, ![2, 8448, 2, 1]⟩
abbrev S2x8192x2x128 : Shape := ⟨4, ![2, 8192, 2, 128]⟩
abbrev S2x8192x2x64 : Shape := ⟨4, ![2, 8192, 2, 64]⟩
abbrev S2x256x2x128 : Shape := ⟨4, ![2, 256, 2, 128]⟩
abbrev S2x8448x4608 : Shape := ⟨3, ![2, 8448, 4608]⟩

abbrev nBuf : Space → Nat
  | .hbm => 176
  | .vmem => 0
  | .smem => 0
  | _ => 0

abbrev hbmTy0_0 (i : Nat) : BufTy := match i % 128 with
  | 0 => ⟨S2x8448x2048, .bf16⟩
  | 1 => ⟨S2x2048x14336, .bf16⟩
  | 2 => ⟨S8192x128, .f32⟩
  | 3 => ⟨S8192x128, .f32⟩
  | 4 => ⟨S8192x64, .f32⟩
  | 5 => ⟨S8192x64, .f32⟩
  | 6 => ⟨S1x128, .f32⟩
  | 7 => ⟨S1x128, .f32⟩
  | 8 => ⟨S1x2048x14336, .bf16⟩
  | 9 => ⟨S2048x14336, .bf16⟩
  | 10 => ⟨S2048x14336, .f32⟩
  | 11 => ⟨S2x8448x2048, .f32⟩
  | 12 => ⟨S2048x1024, .f32⟩
  | 13 => ⟨S2x8448x1024, .f32⟩
  | 14 => ⟨S2x8448x4x256, .f32⟩
  | 15 => ⟨S2x8192x4x256, .f32⟩
  | 16 => ⟨S2x8192x4x128, .f32⟩
  | 17 => ⟨S2x8192x4x128, .f32⟩
  | 18 => ⟨S8192x1x128, .f32⟩
  | 19 => ⟨S8192x1x128, .f32⟩
  | 20 => ⟨S2x256x4x256, .f32⟩
  | 21 => ⟨S1x8192x1x128, .f32⟩
  | 22 => ⟨S2x8192x4x128, .f32⟩
  | 23 => ⟨S2x8192x4x128, .f32⟩
  | 24 => ⟨S1x8192x1x128, .f32⟩
  | 25 => ⟨S2x8192x4x128, .f32⟩
  | 26 => ⟨S2x8192x4x128, .f32⟩
  | 27 => ⟨S2x8192x4x128, .f32⟩
  | 28 => ⟨S1x8192x1x128, .f32⟩
  | 29 => ⟨S2x8192x4x128, .f32⟩
  | 30 => ⟨S2x8192x4x128, .f32⟩
  | 31 => ⟨S1x8192x1x128, .f32⟩
  | 32 => ⟨S2x8192x4x128, .f32⟩
  | 33 => ⟨S2x8192x4x128, .f32⟩
  | 34 => ⟨S2x8192x4x128, .f32⟩
  | 35 => ⟨S2x8192x4x256, .f32⟩
  | 36 => ⟨S2x8448x4x256, .f32⟩
  | 37 => ⟨S2x8448x2048, .f32⟩
  | 38 => ⟨S2048x1024, .f32⟩
  | 39 => ⟨S2x8448x1024, .f32⟩
  | 40 => ⟨S2x8448x4x256, .f32⟩
  | 41 => ⟨S_, .f32⟩
  | 42 => ⟨S2x8448x4x256, .f32⟩
  | 43 => ⟨S2x8448x4x256, .f32⟩
  | 44 => ⟨S2x8192x4x256, .f32⟩
  | 45 => ⟨S2x8192x4x128, .f32⟩
  | 46 => ⟨S2x8192x4x128, .f32⟩
  | 47 => ⟨S8192x1x128, .f32⟩
  | 48 => ⟨S8192x1x128, .f32⟩
  | 49 => ⟨S2x256x4x256, .f32⟩
  | 50 => ⟨S1x8192x1x128, .f32⟩
  | 51 => ⟨S2x8192x4x128, .f32⟩
  | 52 => ⟨S2x8192x4x128, .f32⟩
  | 53 => ⟨S1x8192x1x128, .f32⟩
  | 54 => ⟨S2x8192x4x128, .f32⟩
  | 55 => ⟨S2x8192x4x128, .f32⟩
  | 56 => ⟨S2x8192x4x128, .f32⟩
  | 57 => ⟨S1x8192x1x128, .f32⟩
  | 58 => ⟨S2x8192x4x128, .f32⟩
  | 59 => ⟨S2x8192x4x128, .f32⟩
  | 60 => ⟨S1x8192x1x128, .f32⟩
  | 61 => ⟨S2x8192x4x128, .f32⟩
  | 62 => ⟨S2x8192x4x128, .f32⟩
  | 63 => ⟨S2x8192x4x128, .f32⟩
  | 64 => ⟨S2x8192x4x256, .f32⟩
  | 65 => ⟨S2x8448x4x256, .f32⟩
  | 66 => ⟨S2x8448x2048, .f32⟩
  | 67 => ⟨S2048x1024, .f32⟩
  | 68 => ⟨S2x8448x1024, .f32⟩
  | 69 => ⟨S2x8448x4x256, .f32⟩
  | 70 => ⟨S2x8448x2048, .f32⟩
  | 71 => ⟨S2048x1024, .f32⟩
  | 72 => ⟨S2x8448x1024, .f32⟩
  | 73 => ⟨S2x8448x8x128, .f32⟩
  | 74 => ⟨S2x8448x8x128, .f32⟩
  | 75 => ⟨S_, .f32⟩
  | 76 => ⟨S2x8448x8, .f32⟩
  | 77 => ⟨S2x8448x8x1, .f32⟩
  | 78 => ⟨S_, .f32⟩
  | 79 => ⟨S2x8448x8x1, .f32⟩
  | 80 => ⟨S2x8448x8x1, .f32⟩
  | 81 => ⟨S_, .f32⟩
  | 82 => ⟨S2x8448x8x1, .f32⟩
  | 83 => ⟨S2x8448x8x1, .f32⟩
  | 84 => ⟨S2x8448x8x1, .f32⟩
  | 85 => ⟨S2x8448x8x128, .f32⟩
  | 86 => ⟨S2x8448x8x128, .f32⟩
  | 87 => ⟨S128, .f32⟩
  | 88 => ⟨S1x1x1x128, .f32⟩
  | 89 => ⟨S2x8448x8x128, .f32⟩
  | 90 => ⟨S2x8448x8x128, .f32⟩
  | 91 => ⟨S2x8192x8x128, .f32⟩
  | 92 => ⟨S2x8192x8x64, .f32⟩
  | 93 => ⟨S2x8192x8x64, .f32⟩
  | 94 => ⟨S8192x1x64, .f32⟩
  | 95 => ⟨S8192x1x64, .f32⟩
  | 96 => ⟨S2x256x8x128, .f32⟩
  | 97 => ⟨S1x8192x1x64, .f32⟩
  | 98 => ⟨S2x8192x8x64, .f32⟩
  | 99 => ⟨S2x8192x8x64, .f32⟩
  | 100 => ⟨S1x8192x1x64, .f32⟩
  | 101 => ⟨S2x8192x8x64, .f32⟩
  | 102 => ⟨S2x8192x8x64, .f32⟩
  | 103 => ⟨S2x8192x8x64, .f32⟩
  | 104 => ⟨S1x8192x1x64, .f32⟩
  | 105 => ⟨S2x8192x8x64, .f32⟩
  | 106 => ⟨S2x8192x8x64, .f32⟩
  | 107 => ⟨S1x8192x1x64, .f32⟩
  | 108 => ⟨S2x8192x8x64, .f32⟩
  | 109 => ⟨S2x8192x8x64, .f32⟩
  | 110 => ⟨S2x8192x8x64, .f32⟩
  | 111 => ⟨S2x8192x8x128, .f32⟩
  | 112 => ⟨S2x8448x8x128, .f32⟩
  | 113 => ⟨S_, .f32⟩
  | 114 => ⟨S_, .f32⟩
  | 115 => ⟨S2x8448x8x128, .f32⟩
  | 116 => ⟨S2x8448x8x128, .f32⟩
  | 117 => ⟨S_, .f32⟩
  | 118 => ⟨S_, .f32⟩
  | 119 => ⟨S2x8448x8x128, .f32⟩
  | 120 => ⟨S2x8448x8x128, .f32⟩
  | 121 => ⟨S2x8448x2048, .f32⟩
  | 122 => ⟨S2048x256, .f32⟩
  | 123 => ⟨S2x8448x256, .f32⟩
  | 124 => ⟨S2x8448x2x128, .f32⟩
  | 125 => ⟨S2x8448x2x128, .f32⟩
  | 126 => ⟨S_, .f32⟩
  | 127 => ⟨S2x8448x2, .f32⟩
  | _ => ⟨S2x8448x2048, .bf16⟩

abbrev hbmTy0_1 (i : Nat) : BufTy := match i % 128 with
  | 0 => ⟨S2x8448x2x1, .f32⟩
  | 1 => ⟨S_, .f32⟩
  | 2 => ⟨S2x8448x2x1, .f32⟩
  | 3 => ⟨S2x8448x2x1, .f32⟩
  | 4 => ⟨S_, .f32⟩
  | 5 => ⟨S2x8448x2x1, .f32⟩
  | 6 => ⟨S2x8448x2x1, .f32⟩
  | 7 => ⟨S2x8448x2x1, .f32⟩
  | 8 => ⟨S2x8448x2x128, .f32⟩
  | 9 => ⟨S2x8448x2x128, .f32⟩
  | 10 => ⟨S128, .f32⟩
  | 11 => ⟨S1x1x1x128, .f32⟩
  | 12 => ⟨S2x8448x2x128, .f32⟩
  | 13 => ⟨S2x8448x2x128, .f32⟩
  | 14 => ⟨S2x8192x2x128, .f32⟩
  | 15 => ⟨S2x8192x2x64, .f32⟩
  | 16 => ⟨S2x8192x2x64, .f32⟩
  | 17 => ⟨S8192x1x64, .f32⟩
  | 18 => ⟨S8192x1x64, .f32⟩
  | 19 => ⟨S2x256x2x128, .f32⟩
  | 20 => ⟨S1x8192x1x64, .f32⟩
  | 21 => ⟨S2x8192x2x64, .f32⟩
  | 22 => ⟨S2x8192x2x64, .f32⟩
  | 23 => ⟨S1x8192x1x64, .f32⟩
  | 24 => ⟨S2x8192x2x64, .f32⟩
  | 25 => ⟨S2x8192x2x64, .f32⟩
  | 26 => ⟨S2x8192x2x64, .f32⟩
  | 27 => ⟨S1x8192x1x64, .f32⟩
  | 28 => ⟨S2x8192x2x64, .f32⟩
  | 29 => ⟨S2x8192x2x64, .f32⟩
  | 30 => ⟨S1x8192x1x64, .f32⟩
  | 31 => ⟨S2x8192x2x64, .f32⟩
  | 32 => ⟨S2x8192x2x64, .f32⟩
  | 33 => ⟨S2x8192x2x64, .f32⟩
  | 34 => ⟨S2x8192x2x128, .f32⟩
  | 35 => ⟨S2x8448x2x128, .f32⟩
  | 36 => ⟨S2x8448x2048, .f32⟩
  | 37 => ⟨S2048x256, .f32⟩
  | 38 => ⟨S2x8448x256, .f32⟩
  | 39 => ⟨S2x8448x2x128, .f32⟩
  | 40 => ⟨S2x8448x1024, .f32⟩
  | 41 => ⟨S2x8448x1024, .f32⟩
  | 42 => ⟨S2x8448x1024, .f32⟩
  | 43 => ⟨S2x8448x1024, .f32⟩
  | 44 => ⟨S2x8448x256, .f32⟩
  | 45 => ⟨S2x8448x256, .f32⟩
  | 46 => ⟨S2x8448x4608, .f32⟩
  | 47 => ⟨S2x8448x4608, .bf16⟩
  | _ => ⟨S2x8448x2048, .bf16⟩

abbrev hbmTy (i : Nat) : BufTy := match i / 128 with
  | 0 => hbmTy0_0 i
  | 1 => hbmTy0_1 i
  | _ => ⟨S2x8448x2048, .bf16⟩

abbrev bufTy : (tb : Table) → Fin (tcTables nBuf tb) → BufTy
  | .hbm, ⟨i, _⟩ => hbmTy i
  | _, _ => ⟨S2x8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_cst_0 : Ref sig .tc := ⟨.hbm, 75, rfl⟩
abbrev main_v66 : Ref sig .tc := ⟨.hbm, 76, rfl⟩
abbrev main_v67 : Ref sig .tc := ⟨.hbm, 77, rfl⟩
abbrev main_cst_1 : Ref sig .tc := ⟨.hbm, 78, rfl⟩
abbrev main_v68 : Ref sig .tc := ⟨.hbm, 79, rfl⟩
abbrev main_v69 : Ref sig .tc := ⟨.hbm, 80, rfl⟩
abbrev main_cst_2 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_cst_3 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_cst_4 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_cst_5 : Ref sig .tc := ⟨.hbm, 126, rfl⟩
abbrev main_v112 : Ref sig .tc := ⟨.hbm, 127, rfl⟩
abbrev main_v113 : Ref sig .tc := ⟨.hbm, 128, rfl⟩
abbrev main_cst_6 : Ref sig .tc := ⟨.hbm, 129, rfl⟩
abbrev main_v114 : Ref sig .tc := ⟨.hbm, 130, rfl⟩
abbrev main_v115 : Ref sig .tc := ⟨.hbm, 131, rfl⟩
abbrev main_cst_7 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩

abbrev nD : Nat := 1
abbrev τ : Topo := Topo.v7x

variable {F : FTy → Type} [FloatOps F]
-- ==== Gates.lean ====
abbrev S2x8448x2048 : Shape := ⟨3, ![2, 8448, 2048]⟩
abbrev S2x2048x14336 : Shape := ⟨3, ![2, 2048, 14336]⟩
abbrev S2x8448x1024 : Shape := ⟨3, ![2, 8448, 1024]⟩
abbrev S1x1024 : Shape := ⟨2, ![1, 1024]⟩
abbrev S1x528x2048 : Shape := ⟨3, ![1, 528, 2048]⟩
abbrev S1x2048x1024 : Shape := ⟨3, ![1, 2048, 1024]⟩
abbrev S1x2048x512 : Shape := ⟨3, ![1, 2048, 512]⟩
abbrev S1x528x1024 : Shape := ⟨3, ![1, 528, 1024]⟩
abbrev S528x2048 : Shape := ⟨2, ![528, 2048]⟩
abbrev S1x528x256 : Shape := ⟨3, ![1, 528, 256]⟩
abbrev S528x256 : Shape := ⟨2, ![528, 256]⟩
abbrev S528 : Shape := ⟨1, ![528]⟩
abbrev S528x1 : Shape := ⟨2, ![528, 1]⟩
abbrev S2048x512 : Shape := ⟨2, ![2048, 512]⟩
abbrev S528x512 : Shape := ⟨2, ![528, 512]⟩
abbrev S1x512 : Shape := ⟨2, ![1, 512]⟩
abbrev S1x528x512 : Shape := ⟨3, ![1, 528, 512]⟩

abbrev nBuf : Space → Nat
  | .hbm => 6
  | .vmem => 12
  | .smem => 0
  | _ => 0

abbrev bufTy : (tb : Table) → Fin (tcTables nBuf tb) → BufTy
  | .hbm, ⟨0, _⟩ => ⟨S2x8448x2048, .bf16⟩
  | .hbm, ⟨1, _⟩ => ⟨S2x2048x14336, .bf16⟩
  | .hbm, ⟨2, _⟩ => ⟨S2x8448x1024, .bf16⟩
  | .hbm, ⟨3, _⟩ => ⟨S2x8448x1024, .bf16⟩
  | .hbm, ⟨4, _⟩ => ⟨S1x1024, .f32⟩
  | .hbm, ⟨5, _⟩ => ⟨S2x8448x2048, .bf16⟩
  | .local _ .vmem, ⟨0, _⟩ => ⟨S1x528x2048, .bf16⟩
  | .local _ .vmem, ⟨1, _⟩ => ⟨S1x528x2048, .bf16⟩
  | .local _ .vmem, ⟨2, _⟩ => ⟨S1x2048x1024, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x528x1024, .bf16⟩
  | .local _ .vmem, ⟨6, _⟩ => ⟨S1x528x1024, .bf16⟩
  | .local _ .vmem, ⟨7, _⟩ => ⟨S1x528x1024, .bf16⟩
  | .local _ .vmem, ⟨8, _⟩ => ⟨S1x528x1024, .bf16⟩
  | .local _ .vmem, ⟨9, _⟩ => ⟨S1x1024, .f32⟩
  | .local _ .vmem, ⟨10, _⟩ => ⟨S1x528x2048, .bf16⟩
  | .local _ .vmem, ⟨11, _⟩ => ⟨S1x528x2048, .bf16⟩
  | _, _ => ⟨S2x8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c3_i32 : BitVec 32 := 3#32
  let c0_i32_1 : BitVec 32 := 0#32
  ![c0_i32.toNat, c0_i32_0.toNat, c3_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c11_i32 : BitVec 32 := 11#32
  let c0_i32_1 : BitVec 32 := 0#32
  ![c0_i32.toNat, c0_i32_0.toNat, c11_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c12_i32 : BitVec 32 := 12#32
  let c0_i32_1 : BitVec 32 := 0#32
  ![c0_i32.toNat, c0_i32_0.toNat, c12_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x528x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x528x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x528x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x528x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== GatesReferenceIdeal.lean ====
abbrev S2x8448x2048 : Shape := ⟨3, ![2, 8448, 2048]⟩
abbrev S2x2048x14336 : Shape := ⟨3, ![2, 2048, 14336]⟩
abbrev S2x8448x1024 : Shape := ⟨3, ![2, 8448, 1024]⟩
abbrev S1x1024 : Shape := ⟨2, ![1, 1024]⟩
abbrev S1x2048x14336 : Shape := ⟨3, ![1, 2048, 14336]⟩
abbrev S2048x14336 : Shape := ⟨2, ![2048, 14336]⟩
abbrev S2x8448x4x256 : Shape := ⟨4, ![2, 8448, 4, 256]⟩
abbrev S_ : Shape := ⟨0, ![]⟩
abbrev S2x8448x4 : Shape := ⟨3, ![2, 8448, 4]⟩
abbrev S2x8448x4x1 : Shape := ⟨4, ![2, 8448, 4, 1]⟩
abbrev S1024 : Shape := ⟨1, ![1024]⟩
abbrev S1x1x1024 : Shape := ⟨3, ![1, 1, 1024]⟩
abbrev S2048x1024 : Shape := ⟨2, ![2048, 1024]⟩

abbrev nBuf : Space → Nat
  | .hbm => 67
  | .vmem => 0
  | .smem => 0
  | _ => 0

abbrev bufTy : (tb : Table) → Fin (tcTables nBuf tb) → BufTy
  | .hbm, ⟨0, _⟩ => ⟨S2x8448x2048, .bf16⟩
  | .hbm, ⟨1, _⟩ => ⟨S2x2048x14336, .bf16⟩
  | .hbm, ⟨2, _⟩ => ⟨S2x8448x1024, .bf16⟩
  | .hbm, ⟨3, _⟩ => ⟨S2x8448x1024, .bf16⟩
  | .hbm, ⟨4, _⟩ => ⟨S1x1024, .f32⟩
  | .hbm, ⟨5, _⟩ => ⟨S1x2048x14336, .bf16⟩
  | .hbm, ⟨6, _⟩ => ⟨S2048x14336, .bf16⟩
  | .hbm, ⟨7, _⟩ => ⟨S2048x14336, .f32⟩
  | .hbm, ⟨8, _⟩ => ⟨S2x8448x1024, .f32⟩
  | .hbm, ⟨9, _⟩ => ⟨S2x8448x4x256, .f32⟩
  | .hbm, ⟨10, _⟩ => ⟨S_, .f32⟩
  | .hbm, ⟨11, _⟩ => ⟨S2x8448x4, .f32⟩
  | .hbm, ⟨12, _⟩ => ⟨S2x8448x4x1, .f32⟩
  | .hbm, ⟨13, _⟩ => ⟨S_, .f32⟩
  | .hbm, ⟨14, _⟩ => ⟨S2x8448x4x1, .f32⟩
  | .hbm, ⟨15, _⟩ => ⟨S2x8448x4x1, .f32⟩
  | .hbm, ⟨16, _⟩ => ⟨S2x8448x4x256, .f32⟩
  | .hbm, ⟨17, _⟩ => ⟨S2x8448x4x256, .f32⟩
  | .hbm, ⟨18, _⟩ => ⟨S2x8448x4x256, .f32⟩
  | .hbm, ⟨19, _⟩ => ⟨S_, .f32⟩
  | .hbm, ⟨20, _⟩ => ⟨S2x8448x4, .f32⟩
  | .hbm, ⟨21, _⟩ => ⟨S2x8448x4x1, .f32⟩
  | .hbm, ⟨22, _⟩ => ⟨S_, .f32⟩
  | .hbm, ⟨23, _⟩ => ⟨S2x8448x4x1, .f32⟩
  | .hbm, ⟨24, _⟩ => ⟨S2x8448x4x1, .f32⟩
  | .hbm, ⟨25, _⟩ => ⟨S2x8448x4x256, .f32⟩
  | .hbm, ⟨26, _⟩ => ⟨S2x8448x4x256, .f32⟩
  | .hbm, ⟨27, _⟩ => ⟨S_, .f32⟩
  | .hbm, ⟨28, _⟩ => ⟨S2x8448x4x1, .f32⟩
  | .hbm, ⟨29, _⟩ => ⟨S2x8448x4x1, .f32⟩
  | .hbm, ⟨30, _⟩ => ⟨S2x8448x4x1, .f32⟩
  | .hbm, ⟨31, _⟩ => ⟨S2x8448x4x256, .f32⟩
  | .hbm, ⟨32, _⟩ => ⟨S2x8448x4x256, .f32⟩
  | .hbm, ⟨33, _⟩ => ⟨S2x8448x1024, .f32⟩
  | .hbm, ⟨34, _⟩ => ⟨S1024, .f32⟩
  | .hbm, ⟨35, _⟩ => ⟨S1x1x1024, .f32⟩
  | .hbm, ⟨36, _⟩ => ⟨S2x8448x1024, .f32⟩
  | .hbm, ⟨37, _⟩ => ⟨S2x8448x1024, .f32⟩
  | .hbm, ⟨38, _⟩ => ⟨S2x8448x2048, .f32⟩
  | .hbm, ⟨39, _⟩ => ⟨S2048x1024, .f32⟩
  | .hbm, ⟨40, _⟩ => ⟨S2x8448x1024, .f32⟩
  | .hbm, ⟨41, _⟩ => ⟨S2x8448x1024, .f32⟩
  | .hbm, ⟨42, _⟩ => ⟨S2x8448x1024, .f32⟩
  | .hbm, ⟨43, _⟩ => ⟨S_, .f32⟩
  | .hbm, ⟨44, _⟩ => ⟨S2x8448x1024, .f32⟩
  | .hbm, ⟨45, _⟩ => ⟨S2x8448x1024, .f32⟩
  | .hbm, ⟨46, _⟩ => ⟨S_, .f32⟩
  | .hbm, ⟨47, _⟩ => ⟨S2x8448x1024, .f32⟩
  | .hbm, ⟨48, _⟩ => ⟨S2x8448x1024, .f32⟩
  | .hbm, ⟨49, _⟩ => ⟨S2x8448x1024, .f32⟩
  | .hbm, ⟨50, _⟩ => ⟨S2x8448x1024, .f32⟩
  | .hbm, ⟨51, _⟩ => ⟨S2x8448x1024, .f32⟩
  | .hbm, ⟨52, _⟩ => ⟨S2x8448x2048, .f32⟩
  | .hbm, ⟨53, _⟩ => ⟨S2048x1024, .f32⟩
  | .hbm, ⟨54, _⟩ => ⟨S2x8448x1024, .f32⟩
  | .hbm, ⟨55, _⟩ => ⟨S2x8448x1024, .f32⟩
  | .hbm, ⟨56, _⟩ => ⟨S2x8448x1024, .f32⟩
  | .hbm, ⟨57, _⟩ => ⟨S_, .f32⟩
  | .hbm, ⟨58, _⟩ => ⟨S2x8448x1024, .f32⟩
  | .hbm, ⟨59, _⟩ => ⟨S2x8448x1024, .f32⟩
  | .hbm, ⟨60, _⟩ => ⟨S_, .f32⟩
  | .hbm, ⟨61, _⟩ => ⟨S2x8448x1024, .f32⟩
  | .hbm, ⟨62, _⟩ => ⟨S2x8448x1024, .f32⟩
  | .hbm, ⟨63, _⟩ => ⟨S2x8448x1024, .f32⟩
  | .hbm, ⟨64, _⟩ => ⟨S2x8448x1024, .f32⟩
  | .hbm, ⟨65, _⟩ => ⟨S2x8448x2048, .f32⟩
  | .hbm, ⟨66, _⟩ => ⟨S2x8448x2048, .bf16⟩
  | _, _ => ⟨S2x8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩

abbrev nD : Nat := 1
abbrev τ : Topo := Topo.v7x

variable {F : FTy → Type} [FloatOps F]
-- ==== Sfive.lean ====
abbrev S2x8448x2048 : Shape := ⟨3, ![2, 8448, 2048]⟩
abbrev S2048x1536 : Shape := ⟨2, ![2048, 1536]⟩
abbrev S2x8448x768 : Shape := ⟨3, ![2, 8448, 768]⟩
abbrev S1x1056x2048 : Shape := ⟨3, ![1, 1056, 2048]⟩
abbrev S2048x768 : Shape := ⟨2, ![2048, 768]⟩
abbrev S1x1056x768 : Shape := ⟨3, ![1, 1056, 768]⟩
abbrev S1056x2048 : Shape := ⟨2, ![1056, 2048]⟩
abbrev S1056x768 : Shape := ⟨2, ![1056, 768]⟩

abbrev nBuf : Space → Nat
  | .hbm => 3
  | .vmem => 5
  | .smem => 0
  | _ => 0

abbrev bufTy : (tb : Table) → Fin (tcTables nBuf tb) → BufTy
  | .hbm, ⟨0, _⟩ => ⟨S2x8448x2048, .bf16⟩
  | .hbm, ⟨1, _⟩ => ⟨S2048x1536, .bf16⟩
  | .hbm, ⟨2, _⟩ => ⟨S2x8448x768, .f32⟩
  | .local _ .vmem, ⟨0, _⟩ => ⟨S1x1056x2048, .bf16⟩
  | .local _ .vmem, ⟨1, _⟩ => ⟨S1x1056x2048, .bf16⟩
  | .local _ .vmem, ⟨2, _⟩ => ⟨S2048x768, .bf16⟩
  | .local _ .vmem, ⟨3, _⟩ => ⟨S1x1056x768, .f32⟩
  | .local _ .vmem, ⟨4, _⟩ => ⟨S1x1056x768, .f32⟩
  | _, _ => ⟨S2x8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1056x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SfiveReferenceIdeal.lean ====
abbrev S2x8448x2048 : Shape := ⟨3, ![2, 8448, 2048]⟩
abbrev S2048x1536 : Shape := ⟨2, ![2048, 1536]⟩
abbrev S2048x768 : Shape := ⟨2, ![2048, 768]⟩
abbrev S2x8448x768 : Shape := ⟨3, ![2, 8448, 768]⟩

abbrev nBuf : Space → Nat
  | .hbm => 6
  | .vmem => 0
  | .smem => 0
  | _ => 0

abbrev bufTy : (tb : Table) → Fin (tcTables nBuf tb) → BufTy
  | .hbm, ⟨0, _⟩ => ⟨S2x8448x2048, .bf16⟩
  | .hbm, ⟨1, _⟩ => ⟨S2048x1536, .bf16⟩
  | .hbm, ⟨2, _⟩ => ⟨S2x8448x2048, .f32⟩
  | .hbm, ⟨3, _⟩ => ⟨S2048x768, .bf16⟩
  | .hbm, ⟨4, _⟩ => ⟨S2048x768, .f32⟩
  | .hbm, ⟨5, _⟩ => ⟨S2x8448x768, .f32⟩
  | _, _ => ⟨S2x8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Glu.lean ====
abbrev S2x8448x768 : Shape := ⟨3, ![2, 8448, 768]⟩
abbrev S2x8448x2048 : Shape := ⟨3, ![2, 8448, 2048]⟩
abbrev S2048x1536 : Shape := ⟨2, ![2048, 1536]⟩
abbrev S768x768 : Shape := ⟨2, ![768, 768]⟩
abbrev S1x768 : Shape := ⟨2, ![1, 768]⟩
abbrev S1x1056x768 : Shape := ⟨3, ![1, 1056, 768]⟩
abbrev S1x1056x2048 : Shape := ⟨3, ![1, 1056, 2048]⟩
abbrev S2048x768 : Shape := ⟨2, ![2048, 768]⟩
abbrev S1056x768 : Shape := ⟨2, ![1056, 768]⟩
abbrev S1056x2048 : Shape := ⟨2, ![1056, 2048]⟩

abbrev nBuf : Space → Nat
  | .hbm => 6
  | .vmem => 9
  | .smem => 0
  | _ => 0

abbrev bufTy : (tb : Table) → Fin (tcTables nBuf tb) → BufTy
  | .hbm, ⟨0, _⟩ => ⟨S2x8448x768, .f32⟩
  | .hbm, ⟨1, _⟩ => ⟨S2x8448x2048, .bf16⟩
  | .hbm, ⟨2, _⟩ => ⟨S2048x1536, .bf16⟩
  | .hbm, ⟨3, _⟩ => ⟨S768x768, .bf16⟩
  | .hbm, ⟨4, _⟩ => ⟨S1x768, .f32⟩
  | .hbm, ⟨5, _⟩ => ⟨S2x8448x768, .bf16⟩
  | .local _ .vmem, ⟨0, _⟩ => ⟨S1x1056x768, .f32⟩
  | .local _ .vmem, ⟨1, _⟩ => ⟨S1x1056x768, .f32⟩
  | .local _ .vmem, ⟨2, _⟩ => ⟨S1x1056x2048, .bf16⟩
  | .local _ .vmem, ⟨3, _⟩ => ⟨S1x1056x2048, .bf16⟩
  | .local _ .vmem, ⟨4, _⟩ => ⟨S2048x768, .bf16⟩
  | .local _ .vmem, ⟨5, _⟩ => ⟨S768x768, .bf16⟩
  | .local _ .vmem, ⟨6, _⟩ => ⟨S1x768, .f32⟩
  | .local _ .vmem, ⟨7, _⟩ => ⟨S1x1056x768, .bf16⟩
  | .local _ .vmem, ⟨8, _⟩ => ⟨S1x1056x768, .bf16⟩
  | _, _ => ⟨S2x8448x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1056x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1056x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1056x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GluReferenceIdeal.lean ====
abbrev S2x8448x768 : Shape := ⟨3, ![2, 8448, 768]⟩
abbrev S2x8448x2048 : Shape := ⟨3, ![2, 8448, 2048]⟩
abbrev S2048x1536 : Shape := ⟨2, ![2048, 1536]⟩
abbrev S768x768 : Shape := ⟨2, ![768, 768]⟩
abbrev S1x768 : Shape := ⟨2, ![1, 768]⟩
abbrev S_ : Shape := ⟨0, ![]⟩
abbrev S768 : Shape := ⟨1, ![768]⟩
abbrev S1x1x768 : Shape := ⟨3, ![1, 1, 768]⟩
abbrev S2048x768 : Shape := ⟨2, ![2048, 768]⟩

abbrev nBuf : Space → Nat
  | .hbm => 52
  | .vmem => 0
  | .smem => 0
  | _ => 0

abbrev bufTy : (tb : Table) → Fin (tcTables nBuf tb) → BufTy
  | .hbm, ⟨0, _⟩ => ⟨S2x8448x768, .f32⟩
  | .hbm, ⟨1, _⟩ => ⟨S2x8448x2048, .bf16⟩
  | .hbm, ⟨2, _⟩ => ⟨S2048x1536, .bf16⟩
  | .hbm, ⟨3, _⟩ => ⟨S768x768, .bf16⟩
  | .hbm, ⟨4, _⟩ => ⟨S1x768, .f32⟩
  | .hbm, ⟨5, _⟩ => ⟨S2x8448x768, .f32⟩
  | .hbm, ⟨6, _⟩ => ⟨S2x8448x768, .f32⟩
  | .hbm, ⟨7, _⟩ => ⟨S_, .f32⟩
  | .hbm, ⟨8, _⟩ => ⟨S2x8448x768, .f32⟩
  | .hbm, ⟨9, _⟩ => ⟨S2x8448x768, .f32⟩
  | .hbm, ⟨10, _⟩ => ⟨S2x8448x768, .f32⟩
  | .hbm, ⟨11, _⟩ => ⟨S_, .f32⟩
  | .hbm, ⟨12, _⟩ => ⟨S2x8448x768, .f32⟩
  | .hbm, ⟨13, _⟩ => ⟨S2x8448x768, .f32⟩
  | .hbm, ⟨14, _⟩ => ⟨S2x8448x768, .f32⟩
  | .hbm, ⟨15, _⟩ => ⟨S_, .f32⟩
  | .hbm, ⟨16, _⟩ => ⟨S2x8448x768, .f32⟩
  | .hbm, ⟨17, _⟩ => ⟨S2x8448x768, .f32⟩
  | .hbm, ⟨18, _⟩ => ⟨S_, .f32⟩
  | .hbm, ⟨19, _⟩ => ⟨S2x8448x768, .f32⟩
  | .hbm, ⟨20, _⟩ => ⟨S2x8448x768, .f32⟩
  | .hbm, ⟨21, _⟩ => ⟨S2x8448x768, .f32⟩
  | .hbm, ⟨22, _⟩ => ⟨S768x768, .f32⟩
  | .hbm, ⟨23, _⟩ => ⟨S2x8448x768, .f32⟩
  | .hbm, ⟨24, _⟩ => ⟨S768, .f32⟩
  | .hbm, ⟨25, _⟩ => ⟨S1x1x768, .f32⟩
  | .hbm, ⟨26, _⟩ => ⟨S2x8448x768, .f32⟩
  | .hbm, ⟨27, _⟩ => ⟨S2x8448x768, .f32⟩
  | .hbm, ⟨28, _⟩ => ⟨S2x8448x768, .f32⟩
  | .hbm, ⟨29, _⟩ => ⟨S2x8448x768, .f32⟩
  | .hbm, ⟨30, _⟩ => ⟨S_, .f32⟩
  | .hbm, ⟨31, _⟩ => ⟨S2x8448x768, .f32⟩
  | .hbm, ⟨32, _⟩ => ⟨S2x8448x768, .f32⟩
  | .hbm, ⟨33, _⟩ => ⟨S_, .f32⟩
  | .hbm, ⟨34, _⟩ => ⟨S2x8448x768, .f32⟩
  | .hbm, ⟨35, _⟩ => ⟨S2x8448x768, .f32⟩
  | .hbm, ⟨36, _⟩ => ⟨S2x8448x768, .f32⟩
  | .hbm, ⟨37, _⟩ => ⟨S2x8448x2048, .f32⟩
  | .hbm, ⟨38, _⟩ => ⟨S2048x768, .bf16⟩
  | .hbm, ⟨39, _⟩ => ⟨S2048x768, .f32⟩
  | .hbm, ⟨40, _⟩ => ⟨S2x8448x768, .f32⟩
  | .hbm, ⟨41, _⟩ => ⟨S2x8448x768, .f32⟩
  | .hbm, ⟨42, _⟩ => ⟨S2x8448x768, .f32⟩
  | .hbm, ⟨43, _⟩ => ⟨S_, .f32⟩
  | .hbm, ⟨44, _⟩ => ⟨S2x8448x768, .f32⟩
  | .hbm, ⟨45, _⟩ => ⟨S2x8448x768, .f32⟩
  | .hbm, ⟨46, _⟩ => ⟨S_, .f32⟩
  | .hbm, ⟨47, _⟩ => ⟨S2x8448x768, .f32⟩
  | .hbm, ⟨48, _⟩ => ⟨S2x8448x768, .f32⟩
  | .hbm, ⟨49, _⟩ => ⟨S2x8448x768, .f32⟩
  | .hbm, ⟨50, _⟩ => ⟨S2x8448x768, .f32⟩
  | .hbm, ⟨51, _⟩ => ⟨S2x8448x768, .bf16⟩
  | _, _ => ⟨S2x8448x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== Out.lean ====
abbrev S2x8448x2048 : Shape := ⟨3, ![2, 8448, 2048]⟩
abbrev S2048x2048 : Shape := ⟨2, ![2048, 2048]⟩
abbrev S2x2x3x2048 : Shape := ⟨4, ![2, 2, 3, 2048]⟩
abbrev S2048 : Shape := ⟨1, ![2048]⟩
abbrev S1x2048 : Shape := ⟨2, ![1, 2048]⟩
abbrev S2x8192x2048 : Shape := ⟨3, ![2, 8192, 2048]⟩
abbrev S1x256x2048 : Shape := ⟨3, ![1, 256, 2048]⟩
abbrev S1x1x3x2048 : Shape := ⟨4, ![1, 1, 3, 2048]⟩
abbrev S256x2048 : Shape := ⟨2, ![256, 2048]⟩
abbrev S256x1 : Shape := ⟨2, ![256, 1]⟩
abbrev S2048x512 : Shape := ⟨2, ![2048, 512]⟩
abbrev S256x512 : Shape := ⟨2, ![256, 512]⟩
abbrev S1x256x512 : Shape := ⟨3, ![1, 256, 512]⟩
abbrev S1x1x1x512 : Shape := ⟨4, ![1, 1, 1, 512]⟩
abbrev S1x512 : Shape := ⟨2, ![1, 512]⟩
abbrev S256 : Shape := ⟨1, ![256]⟩

abbrev nBuf : Space → Nat
  | .hbm => 9
  | .vmem => 14
  | .smem => 0
  | _ => 0

abbrev bufTy : (tb : Table) → Fin (tcTables nBuf tb) → BufTy
  | .hbm, ⟨0, _⟩ => ⟨S2x8448x2048, .bf16⟩
  | .hbm, ⟨1, _⟩ => ⟨S2048x2048, .bf16⟩
  | .hbm, ⟨2, _⟩ => ⟨S2x8448x2048, .f32⟩
  | .hbm, ⟨3, _⟩ => ⟨S2x2x3x2048, .f32⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S2x8192x2048, .f32⟩
  | .local _ .vmem, ⟨0, _⟩ => ⟨S1x256x2048, .bf16⟩
  | .local _ .vmem, ⟨1, _⟩ => ⟨S1x256x2048, .bf16⟩
  | .local _ .vmem, ⟨2, _⟩ => ⟨S2048x2048, .bf16⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x1x3x2048, .f32⟩
  | .local _ .vmem, ⟨8, _⟩ => ⟨S1x1x3x2048, .f32⟩
  | .local _ .vmem, ⟨9, _⟩ => ⟨S1x2048, .f32⟩
  | .local _ .vmem, ⟨10, _⟩ => ⟨S1x2048, .f32⟩
  | .local _ .vmem, ⟨11, _⟩ => ⟨S1x256x2048, .f32⟩
  | .local _ .vmem, ⟨12, _⟩ => ⟨S1x256x2048, .f32⟩
  | .local _ .vmem, ⟨13, _⟩ => ⟨S256x2048, .f32⟩
  | _, _ => ⟨S2x8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.minsi v0 c1_i32_0
  let c0_i32 : BitVec 32 := 0#32
  let c0_i32_1 : BitVec 32 := 0#32
  let c0_i32_2 : BitVec 32 := 0#32
  ![arg0.toNat, v1.toNat, c0_i32.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x3x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OutReferenceIdeal.lean ====
abbrev S2x8448x2048 : Shape := ⟨3, ![2, 8448, 2048]⟩
abbrev S2048x2048 : Shape := ⟨2, ![2048, 2048]⟩
abbrev S2x2x3x2048 : Shape := ⟨4, ![2, 2, 3, 2048]⟩
abbrev S2048 : Shape := ⟨1, ![2048]⟩
abbrev S2x8192x2048 : Shape := ⟨3, ![2, 8192, 2048]⟩
abbrev S_ : Shape := ⟨0, ![]⟩
abbrev S2x1x1x2048 : Shape := ⟨4, ![2, 1, 1, 2048]⟩
abbrev S2x2048 : Shape := ⟨2, ![2, 2048]⟩
abbrev S2x1x2048 : Shape := ⟨3, ![2, 1, 2048]⟩
abbrev S2x8192 : Shape := ⟨2, ![2, 8192]⟩
abbrev S2x8192x1 : Shape := ⟨3, ![2, 8192, 1]⟩
abbrev S1x1x2048 : Shape := ⟨3, ![1, 1, 2048]⟩

abbrev nBuf : Space → Nat
  | .hbm => 49
  | .vmem => 0
  | .smem => 0
  | _ => 0

abbrev bufTy : (tb : Table) → Fin (tcTables nBuf tb) → BufTy
  | .hbm, ⟨0, _⟩ => ⟨S2x8448x2048, .bf16⟩
  | .hbm, ⟨1, _⟩ => ⟨S2048x2048, .bf16⟩
  | .hbm, ⟨2, _⟩ => ⟨S2x8448x2048, .f32⟩
  | .hbm, ⟨3, _⟩ => ⟨S2x2x3x2048, .f32⟩
  | .hbm, ⟨4, _⟩ => ⟨S2048, .f32⟩
  | .hbm, ⟨5, _⟩ => ⟨S2048, .f32⟩
  | .hbm, ⟨6, _⟩ => ⟨S2x8192x2048, .bf16⟩
  | .hbm, ⟨7, _⟩ => ⟨S2x8192x2048, .f32⟩
  | .hbm, ⟨8, _⟩ => ⟨S2048x2048, .f32⟩
  | .hbm, ⟨9, _⟩ => ⟨S2x8192x2048, .f32⟩
  | .hbm, ⟨10, _⟩ => ⟨S2x8192x2048, .f32⟩
  | .hbm, ⟨11, _⟩ => ⟨S_, .f32⟩
  | .hbm, ⟨12, _⟩ => ⟨S2x8192x2048, .f32⟩
  | .hbm, ⟨13, _⟩ => ⟨S2x8192x2048, .f32⟩
  | .hbm, ⟨14, _⟩ => ⟨S2x1x1x2048, .f32⟩
  | .hbm, ⟨15, _⟩ => ⟨S2x2048, .f32⟩
  | .hbm, ⟨16, _⟩ => ⟨S2x1x2048, .f32⟩
  | .hbm, ⟨17, _⟩ => ⟨S2x8192x2048, .f32⟩
  | .hbm, ⟨18, _⟩ => ⟨S2x8192x2048, .f32⟩
  | .hbm, ⟨19, _⟩ => ⟨S2x8192x2048, .f32⟩
  | .hbm, ⟨20, _⟩ => ⟨S_, .f32⟩
  | .hbm, ⟨21, _⟩ => ⟨S2x8192, .f32⟩
  | .hbm, ⟨22, _⟩ => ⟨S2x8192x1, .f32⟩
  | .hbm, ⟨23, _⟩ => ⟨S_, .f32⟩
  | .hbm, ⟨24, _⟩ => ⟨S2x8192x1, .f32⟩
  | .hbm, ⟨25, _⟩ => ⟨S2x8192x1, .f32⟩
  | .hbm, ⟨26, _⟩ => ⟨S2x8192x2048, .f32⟩
  | .hbm, ⟨27, _⟩ => ⟨S2x8192x2048, .f32⟩
  | .hbm, ⟨28, _⟩ => ⟨S2x8192x2048, .f32⟩
  | .hbm, ⟨29, _⟩ => ⟨S_, .f32⟩
  | .hbm, ⟨30, _⟩ => ⟨S2x8192, .f32⟩
  | .hbm, ⟨31, _⟩ => ⟨S2x8192x1, .f32⟩
  | .hbm, ⟨32, _⟩ => ⟨S_, .f32⟩
  | .hbm, ⟨33, _⟩ => ⟨S2x8192x1, .f32⟩
  | .hbm, ⟨34, _⟩ => ⟨S2x8192x1, .f32⟩
  | .hbm, ⟨35, _⟩ => ⟨S2x8192x2048, .f32⟩
  | .hbm, ⟨36, _⟩ => ⟨S2x8192x2048, .f32⟩
  | .hbm, ⟨37, _⟩ => ⟨S_, .f32⟩
  | .hbm, ⟨38, _⟩ => ⟨S2x8192x1, .f32⟩
  | .hbm, ⟨39, _⟩ => ⟨S2x8192x1, .f32⟩
  | .hbm, ⟨40, _⟩ => ⟨S2x8192x1, .f32⟩
  | .hbm, ⟨41, _⟩ => ⟨S2x8192x2048, .f32⟩
  | .hbm, ⟨42, _⟩ => ⟨S2x8192x2048, .f32⟩
  | .hbm, ⟨43, _⟩ => ⟨S1x1x2048, .f32⟩
  | .hbm, ⟨44, _⟩ => ⟨S2x8192x2048, .f32⟩
  | .hbm, ⟨45, _⟩ => ⟨S2x8192x2048, .f32⟩
  | .hbm, ⟨46, _⟩ => ⟨S1x1x2048, .f32⟩
  | .hbm, ⟨47, _⟩ => ⟨S2x8192x2048, .f32⟩
  | .hbm, ⟨48, _⟩ => ⟨S2x8192x2048, .f32⟩
  | _, _ => ⟨S2x8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Lead.lean ====
abbrev S2x8448x2048 : Shape := ⟨3, ![2, 8448, 2048]⟩
abbrev S2048x2048 : Shape := ⟨2, ![2048, 2048]⟩
abbrev S2x256x2048 : Shape := ⟨3, ![2, 256, 2048]⟩
abbrev S2x8192x2048 : Shape := ⟨3, ![2, 8192, 2048]⟩
abbrev S2x2x3x2048 : Shape := ⟨4, ![2, 2, 3, 2048]⟩
abbrev S2048 : Shape := ⟨1, ![2048]⟩
abbrev S1x2048 : Shape := ⟨2, ![1, 2048]⟩
abbrev S1x256x2048 : Shape := ⟨3, ![1, 256, 2048]⟩
abbrev S1x1x3x2048 : Shape := ⟨4, ![1, 1, 3, 2048]⟩
abbrev S256x2048 : Shape := ⟨2, ![256, 2048]⟩
abbrev S256x1 : Shape := ⟨2, ![256, 1]⟩
abbrev S2048x512 : Shape := ⟨2, ![2048, 512]⟩
abbrev S256x512 : Shape := ⟨2, ![256, 512]⟩
abbrev S1x256x512 : Shape := ⟨3, ![1, 256, 512]⟩
abbrev S1x1x1x512 : Shape := ⟨4, ![1, 1, 1, 512]⟩
abbrev S1x512 : Shape := ⟨2, ![1, 512]⟩
abbrev S256 : Shape := ⟨1, ![256]⟩
abbrev S1x1x1x2048 : Shape := ⟨4, ![1, 1, 1, 2048]⟩

abbrev nBuf : Space → Nat
  | .hbm => 12
  | .vmem => 18
  | .smem => 0
  | _ => 0

abbrev bufTy : (tb : Table) → Fin (tcTables nBuf tb) → BufTy
  | .hbm, ⟨0, _⟩ => ⟨S2x8448x2048, .bf16⟩
  | .hbm, ⟨1, _⟩ => ⟨S2048x2048, .bf16⟩
  | .hbm, ⟨2, _⟩ => ⟨S2x256x2048, .f32⟩
  | .hbm, ⟨3, _⟩ => ⟨S2x8192x2048, .f32⟩
  | .hbm, ⟨4, _⟩ => ⟨S2x2x3x2048, .f32⟩
  | .hbm, ⟨5, _⟩ => ⟨S2048, .f32⟩
  | .hbm, ⟨6, _⟩ => ⟨S2048, .f32⟩
  | .hbm, ⟨7, _⟩ => ⟨S2x2x3x2048, .f32⟩
  | .hbm, ⟨8, _⟩ => ⟨S1x2048, .f32⟩
  | .hbm, ⟨9, _⟩ => ⟨S1x2048, .f32⟩
  | .hbm, ⟨10, _⟩ => ⟨S2x8448x2048, .f32⟩
  | .hbm, ⟨11, _⟩ => ⟨S2x8448x2048, .bf16⟩
  | .local _ .vmem, ⟨0, _⟩ => ⟨S1x256x2048, .bf16⟩
  | .local _ .vmem, ⟨1, _⟩ => ⟨S1x256x2048, .bf16⟩
  | .local _ .vmem, ⟨2, _⟩ => ⟨S2048x2048, .bf16⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x1x3x2048, .f32⟩
  | .local _ .vmem, ⟨8, _⟩ => ⟨S1x1x3x2048, .f32⟩
  | .local _ .vmem, ⟨9, _⟩ => ⟨S1x2048, .f32⟩
  | .local _ .vmem, ⟨10, _⟩ => ⟨S1x2048, .f32⟩
  | .local _ .vmem, ⟨11, _⟩ => ⟨S1x1x3x2048, .f32⟩
  | .local _ .vmem, ⟨12, _⟩ => ⟨S1x1x3x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .bf16⟩
  | .local _ .vmem, ⟨16, _⟩ => ⟨S1x256x2048, .bf16⟩
  | .local _ .vmem, ⟨17, _⟩ => ⟨S256x2048, .f32⟩
  | _, _ => ⟨S2x8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![2, 33], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c_m1_i32 : BitVec 32 := 4294967295#32
  let v0 : BitVec 32 := Scalar.addi arg1 c_m1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 32 := Scalar.minsi v0 c1_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 32 := Scalar.minsi v0 c1_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x3x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x3x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== LeadReferenceIdeal.lean ====
abbrev S2x8448x2048 : Shape := ⟨3, ![2, 8448, 2048]⟩
abbrev S2048x2048 : Shape := ⟨2, ![2048, 2048]⟩
abbrev S2x256x2048 : Shape := ⟨3, ![2, 256, 2048]⟩
abbrev S2x8192x2048 : Shape := ⟨3, ![2, 8192, 2048]⟩
abbrev S2x2x3x2048 : Shape := ⟨4, ![2, 2, 3, 2048]⟩
abbrev S2048 : Shape := ⟨1, ![2048]⟩
abbrev S2x1x3x2048 : Shape := ⟨4, ![2, 1, 3, 2048]⟩
abbrev S2x3x2048 : Shape := ⟨3, ![2, 3, 2048]⟩
abbrev S_ : Shape := ⟨0, ![]⟩
abbrev S2x1x2048 : Shape := ⟨3, ![2, 1, 2048]⟩
abbrev S2x2048 : Shape := ⟨2, ![2, 2048]⟩
abbrev S2x256 : Shape := ⟨2, ![2, 256]⟩
abbrev S2x256x1 : Shape := ⟨3, ![2, 256, 1]⟩
abbrev S1x1x2048 : Shape := ⟨3, ![1, 1, 2048]⟩
abbrev S2x8192 : Shape := ⟨2, ![2, 8192]⟩
abbrev S2x8192x1 : Shape := ⟨3, ![2, 8192, 1]⟩

abbrev nBuf : Space → Nat
  | .hbm => 129
  | .vmem => 0
  | .smem => 0
  | _ => 0

abbrev hbmTy0_0 (i : Nat) : BufTy := match i % 128 with
  | 0 => ⟨S2x8448x2048, .bf16⟩
  | 1 => ⟨S2048x2048, .bf16⟩
  | 2 => ⟨S2x256x2048, .f32⟩
  | 3 => ⟨S2x8192x2048, .f32⟩
  | 4 => ⟨S2x2x3x2048, .f32⟩
  | 5 => ⟨S2048, .f32⟩
  | 6 => ⟨S2048, .f32⟩
  | 7 => ⟨S2x2x3x2048, .f32⟩
  | 8 => ⟨S2x256x2048, .bf16⟩
  | 9 => ⟨S2x1x3x2048, .f32⟩
  | 10 => ⟨S2x3x2048, .f32⟩
  | 11 => ⟨S2x1x3x2048, .f32⟩
  | 12 => ⟨S2x3x2048, .f32⟩
  | 13 => ⟨S2x256x2048, .f32⟩
  | 14 => ⟨S2048x2048, .f32⟩
  | 15 => ⟨S2x256x2048, .f32⟩
  | 16 => ⟨S_, .f32⟩
  | 17 => ⟨S2x256x2048, .f32⟩
  | 18 => ⟨S2x256x2048, .f32⟩
  | 19 => ⟨S2x1x2048, .f32⟩
  | 20 => ⟨S2x2048, .f32⟩
  | 21 => ⟨S2x1x2048, .f32⟩
  | 22 => ⟨S2x256x2048, .f32⟩
  | 23 => ⟨S2x256x2048, .f32⟩
  | 24 => ⟨S2x256x2048, .f32⟩
  | 25 => ⟨S_, .f32⟩
  | 26 => ⟨S2x256, .f32⟩
  | 27 => ⟨S2x256x1, .f32⟩
  | 28 => ⟨S_, .f32⟩
  | 29 => ⟨S2x256x1, .f32⟩
  | 30 => ⟨S2x256x1, .f32⟩
  | 31 => ⟨S2x256x2048, .f32⟩
  | 32 => ⟨S2x256x2048, .f32⟩
  | 33 => ⟨S2x256x2048, .f32⟩
  | 34 => ⟨S_, .f32⟩
  | 35 => ⟨S2x256, .f32⟩
  | 36 => ⟨S2x256x1, .f32⟩
  | 37 => ⟨S_, .f32⟩
  | 38 => ⟨S2x256x1, .f32⟩
  | 39 => ⟨S2x256x1, .f32⟩
  | 40 => ⟨S2x256x2048, .f32⟩
  | 41 => ⟨S2x256x2048, .f32⟩
  | 42 => ⟨S_, .f32⟩
  | 43 => ⟨S2x256x1, .f32⟩
  | 44 => ⟨S2x256x1, .f32⟩
  | 45 => ⟨S2x256x1, .f32⟩
  | 46 => ⟨S2x256x2048, .f32⟩
  | 47 => ⟨S2x256x2048, .f32⟩
  | 48 => ⟨S1x1x2048, .f32⟩
  | 49 => ⟨S2x256x2048, .f32⟩
  | 50 => ⟨S2x256x2048, .f32⟩
  | 51 => ⟨S1x1x2048, .f32⟩
  | 52 => ⟨S2x256x2048, .f32⟩
  | 53 => ⟨S2x256x2048, .f32⟩
  | 54 => ⟨S2x1x2048, .f32⟩
  | 55 => ⟨S2x2048, .f32⟩
  | 56 => ⟨S2x1x2048, .f32⟩
  | 57 => ⟨S_, .f32⟩
  | 58 => ⟨S2x1x2048, .f32⟩
  | 59 => ⟨S2x1x2048, .f32⟩
  | 60 => ⟨S2x256x2048, .f32⟩
  | 61 => ⟨S2x256x2048, .f32⟩
  | 62 => ⟨S2x1x2048, .f32⟩
  | 63 => ⟨S2x2048, .f32⟩
  | 64 => ⟨S2x1x2048, .f32⟩
  | 65 => ⟨S2x256x2048, .f32⟩
  | 66 => ⟨S2x256x2048, .f32⟩
  | 67 => ⟨S2x8192x2048, .bf16⟩
  | 68 => ⟨S2x1x3x2048, .f32⟩
  | 69 => ⟨S2x3x2048, .f32⟩
  | 70 => ⟨S2x1x3x2048, .f32⟩
  | 71 => ⟨S2x3x2048, .f32⟩
  | 72 => ⟨S2x8192x2048, .f32⟩
  | 73 => ⟨S2048x2048, .f32⟩
  | 74 => ⟨S2x8192x2048, .f32⟩
  | 75 => ⟨S_, .f32⟩
  | 76 => ⟨S2x8192x2048, .f32⟩
  | 77 => ⟨S2x8192x2048, .f32⟩
  | 78 => ⟨S2x1x2048, .f32⟩
  | 79 => ⟨S2x2048, .f32⟩
  | 80 => ⟨S2x1x2048, .f32⟩
  | 81 => ⟨S2x8192x2048, .f32⟩
  | 82 => ⟨S2x8192x2048, .f32⟩
  | 83 => ⟨S2x8192x2048, .f32⟩
  | 84 => ⟨S_, .f32⟩
  | 85 => ⟨S2x8192, .f32⟩
  | 86 => ⟨S2x8192x1, .f32⟩
  | 87 => ⟨S_, .f32⟩
  | 88 => ⟨S2x8192x1, .f32⟩
  | 89 => ⟨S2x8192x1, .f32⟩
  | 90 => ⟨S2x8192x2048, .f32⟩
  | 91 => ⟨S2x8192x2048, .f32⟩
  | 92 => ⟨S2x8192x2048, .f32⟩
  | 93 => ⟨S_, .f32⟩
  | 94 => ⟨S2x8192, .f32⟩
  | 95 => ⟨S2x8192x1, .f32⟩
  | 96 => ⟨S_, .f32⟩
  | 97 => ⟨S2x8192x1, .f32⟩
  | 98 => ⟨S2x8192x1, .f32⟩
  | 99 => ⟨S2x8192x2048, .f32⟩
  | 100 => ⟨S2x8192x2048, .f32⟩
  | 101 => ⟨S_, .f32⟩
  | 102 => ⟨S2x8192x1, .f32⟩
  | 103 => ⟨S2x8192x1, .f32⟩
  | 104 => ⟨S2x8192x1, .f32⟩
  | 105 => ⟨S2x8192x2048, .f32⟩
  | 106 => ⟨S2x8192x2048, .f32⟩
  | 107 => ⟨S1x1x2048, .f32⟩
  | 108 => ⟨S2x8192x2048, .f32⟩
  | 109 => ⟨S2x8192x2048, .f32⟩
  | 110 => ⟨S1x1x2048, .f32⟩
  | 111 => ⟨S2x8192x2048, .f32⟩
  | 112 => ⟨S2x8192x2048, .f32⟩
  | 113 => ⟨S2x1x2048, .f32⟩
  | 114 => ⟨S2x2048, .f32⟩
  | 115 => ⟨S2x1x2048, .f32⟩
  | 116 => ⟨S_, .f32⟩
  | 117 => ⟨S2x1x2048, .f32⟩
  | 118 => ⟨S2x1x2048, .f32⟩
  | 119 => ⟨S2x8192x2048, .f32⟩
  | 120 => ⟨S2x8192x2048, .f32⟩
  | 121 => ⟨S2x1x2048, .f32⟩
  | 122 => ⟨S2x2048, .f32⟩
  | 123 => ⟨S2x1x2048, .f32⟩
  | 124 => ⟨S2x8192x2048, .f32⟩
  | 125 => ⟨S2x8192x2048, .f32⟩
  | 126 => ⟨S2x8448x2048, .f32⟩
  | 127 => ⟨S2x8448x2048, .f32⟩
  | _ => ⟨S2x8448x2048, .bf16⟩

abbrev hbmTy0_1 (i : Nat) : BufTy := match i % 128 with
  | 0 => ⟨S2x8448x2048, .bf16⟩
  | _ => ⟨S2x8448x2048, .bf16⟩

abbrev hbmTy (i : Nat) : BufTy := match i / 128 with
  | 0 => hbmTy0_0 i
  | 1 => hbmTy0_1 i
  | _ => ⟨S2x8448x2048, .bf16⟩

abbrev bufTy : (tb : Table) → Fin (tcTables nBuf tb) → BufTy
  | .hbm, ⟨i, _⟩ => hbmTy i
  | _, _ => ⟨S2x8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_6 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_7 : Ref sig .tc := ⟨.hbm, 84, rfl⟩
abbrev main_v68 : Ref sig .tc := ⟨.hbm, 85, rfl⟩
abbrev main_v69 : Ref sig .tc := ⟨.hbm, 86, rfl⟩
abbrev main_cst_8 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_9 : Ref sig .tc := ⟨.hbm, 93, rfl⟩
abbrev main_v75 : Ref sig .tc := ⟨.hbm, 94, rfl⟩
abbrev main_v76 : Ref sig .tc := ⟨.hbm, 95, rfl⟩
abbrev main_cst_10 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_11 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_cst_12 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩

abbrev nD : Nat := 1
abbrev τ : Topo := Topo.v7x

variable {F : FTy → Type} [FloatOps F]
-- ==== Proof.Reals.lean ====
module
public import Idealize.ShloMosaic.PureOps.Ideal
public import Mathlib.Analysis.SpecialFunctions.Pow.Real

@[expose] public section
noncomputable section
namespace Cert.Attn
open Idealize.ShloMosaic
open scoped BigOperators

/-! # Facts on extended reals that the softmax needs

A finite score is an extended real that is a real number. The weights of a softmax are positive reals, while the
values they multiply may be any extended reals. -/

/-- `x` is a real number. -/
def IsR (x : EReal) : Prop := ∃ r : ℝ, x = (r : EReal)

/-- A real, read as an extended real, is a real. -/
theorem isR_coe (r : ℝ) : IsR (r : EReal) := ⟨r, rfl⟩

/-- A real is not infinity. -/
theorem IsR.ne_top {x : EReal} (h : IsR x) : x ≠ ⊤ := by
  obtain ⟨r, rfl⟩ := h; exact EReal.coe_ne_top r

/-- The larger of something below `⊤` and a real is a real. -/
theorem isR_max {a b : EReal} (ha : a ≠ ⊤) (hb : IsR b) : IsR (max a b) := by
  obtain ⟨r, rfl⟩ := hb
  induction a with
  | bot => exact ⟨r, by simp⟩
  | top => exact absurd rfl ha
  | coe a =>
    rcases le_total (a : EReal) (r : EReal) with h | h
    · exact ⟨r, max_eq_right h⟩
    · exact ⟨a, max_eq_left h⟩

/-- The largest of finitely many reals, from `⊥`, is a real. -/
theorem isR_fold_max {ι : Type} [Fintype ι] [Nonempty ι] (b : EReal) (hb : b = ⊥) (f : ι → EReal) (hf : ∀ i, IsR (f i)) :
    IsR (Finset.univ.fold max b f) := by
  subst hb
  have key : ∀ s : Finset ι, s.Nonempty → IsR (s.fold max ⊥ f) := by
    intro s hs
    induction hs using Finset.Nonempty.cons_induction with
    | singleton i => rw [Finset.fold_singleton, max_bot_right]; exact hf i
    | cons i s hi hs ih => rw [Finset.fold_cons, max_comm]; exact isR_max ih.ne_top (hf i)
  exact key _ Finset.univ_nonempty

/-- A sum of reals, taken among the extended reals, is the sum of the reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A real factor at least zero goes inside a sum of any extended reals. -/
theorem mul_sum_coe {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert i s hi ih =>
    rw [Finset.sum_insert hi, Finset.sum_insert hi,
      EReal.left_distrib_of_nonneg_of_ne_top (EReal.coe_nonneg.mpr hc) (EReal.coe_ne_top c), ih]

/-- Two to a real power. -/
def p2 (x : ℝ) : ℝ := Real.rpow 2 x

/-- A power of two is positive. -/
theorem p2_pos (x : ℝ) : 0 < p2 x := Real.rpow_pos_of_pos two_pos x
/-- Two to a sum is the product of the powers. -/
theorem p2_add (x y : ℝ) : p2 (x + y) = p2 x * p2 y := Real.rpow_add two_pos x y

/-- Two to a real. -/
theorem exp2_coe (x : ℝ) : Ideal.exp2 (x : EReal) = ((p2 x : ℝ) : EReal) := rfl

/-- Two to the difference of two reals. -/
theorem exp2_sub (x y : ℝ) : Ideal.exp2 ((x : EReal) - (y : EReal)) = ((p2 (x - y) : ℝ) : EReal) := by
  rw [← EReal.coe_sub]; rfl

/-! ## The softmax-weighted sum -/

/-- What the softmax of the scores `s` over the first `n` keys makes of the values `v`: the weights are two to the
score over the sum of them. -/
def attnVal (n : ℕ) (s : ℕ → ℝ) (v : ℕ → EReal) : EReal :=
  ∑ j ∈ Finset.range n, ((p2 (s j) / ∑ i ∈ Finset.range n, p2 (s i) : ℝ) : EReal) * v j

/-- The unnormalised sum over the first `n` keys, the scores taken down by `M`. -/
def accVal (n : ℕ) (s : ℕ → ℝ) (M : ℝ) (v : ℕ → EReal) : EReal :=
  ∑ j ∈ Finset.range n, ((p2 (s j - M) : ℝ) : EReal) * v j

/-- The empty sum. -/
theorem accVal_zero (s : ℕ → ℝ) (M : ℝ) (v : ℕ → EReal) : accVal 0 s M v = 0 := by simp [accVal]

/-- Changing the offset multiplies the sum by a power of two. -/
theorem accVal_rescale (n : ℕ) (s : ℕ → ℝ) (M M' : ℝ) (v : ℕ → EReal) :
    accVal n s M v * ((p2 (M - M') : ℝ) : EReal) = accVal n s M' v := by
  unfold accVal
  rw [mul_comm, mul_sum_coe _ _ (p2_pos _).le]
  refine Finset.sum_congr rfl fun j _ => ?_
  rw [← mul_assoc, ← EReal.coe_mul, ← p2_add]
  congr 3; ring

/-- The sum of 128 further keys, from key `n` on. -/
def blk (s : ℕ → ℝ) (M : ℝ) (v : ℕ → EReal) (n : ℕ) : EReal :=
  ∑ x : Fin 128, ((p2 (s (n + x) - M) : ℝ) : EReal) * v (n + x)

/-- The sum over a further block of keys. -/
theorem accVal_blk (n : ℕ) (s : ℕ → ℝ) (M : ℝ) (v : ℕ → EReal) :
    accVal n s M v + blk s M v n = accVal (n + 128) s M v := by
  unfold accVal blk
  rw [Finset.sum_range_add, Finset.sum_range fun x => ((p2 (s (n + x) - M) : ℝ) : EReal) * v (n + x)]

/-- Over a sum of weights against the constant one, the weighted sum is the softmax's. -/
theorem acc_div (n : ℕ) (hn : 0 < n) (s : ℕ → ℝ) (M : ℝ) (v : ℕ → EReal) :
    Ideal.div (accVal n s M v) (accVal n s M fun _ => 1) = attnVal n s v := by
  have hpos : 0 < ∑ i ∈ Finset.range n, p2 (s i - M) :=
    Finset.sum_pos (fun i _ => p2_pos _) (Finset.nonempty_range_iff.mpr hn.ne')
  have hden : accVal n s M (fun _ => 1) = ((∑ i ∈ Finset.range n, p2 (s i - M) : ℝ) : EReal) := by
    rw [coe_sum]; unfold accVal; simp
  rw [hden]
  have hne : ((∑ i ∈ Finset.range n, p2 (s i - M) : ℝ) : EReal) ≠ 0 := by
    rw [Ne, EReal.coe_eq_zero]; exact hpos.ne'
  unfold Ideal.div
  rw [if_neg hne, ← EReal.coe_inv, mul_comm]
  unfold accVal attnVal
  rw [mul_sum_coe _ _ (inv_nonneg.mpr hpos.le)]
  refine Finset.sum_congr rfl fun j _ => ?_
  rw [← mul_assoc, ← EReal.coe_mul]
  congr 2
  have e : ∀ i, p2 (s i) = p2 M * p2 (s i - M) := fun i => by rw [← p2_add]; congr 1; ring
  rw [e j, Finset.sum_congr rfl (fun i _ => e i), ← Finset.mul_sum, mul_div_mul_left _ _ (p2_pos M).ne',
    inv_mul_eq_div]

/-- The softmax in base `e`, of the scores times `log 2` and taken down by any real, has the same weights. -/
theorem softmax_exp (n : ℕ) (s : ℕ → ℝ) (M : ℝ) (j : ℕ) :
    Real.exp (s j * Real.log 2 - M) / ∑ i ∈ Finset.range n, Real.exp (s i * Real.log 2 - M)
      = p2 (s j) / ∑ i ∈ Finset.range n, p2 (s i) := by
  have e : ∀ i, Real.exp (s i * Real.log 2 - M) = Real.exp (-M) * p2 (s i) := fun i => by
    rw [sub_eq_add_neg, Real.exp_add, mul_comm (Real.exp _)]
    congr 1
    show _ = (2 : ℝ) ^ (s i)
    rw [Real.rpow_def_of_pos two_pos, mul_comm]
  rw [e j, Finset.sum_congr rfl (fun i _ => e i), ← Finset.mul_sum, mul_div_mul_left _ _ (Real.exp_pos _).ne']

end Cert.Attn
-- ==== Proof.Spec.lean ====
module
public import proofs.«01_k».proof.Proof.Reals
public import Idealize.ShloMosaic.Lib.Pointwise
public import Idealize.ShloMosaic.Lib.ValueIdx

@[expose] public section
noncomputable section
namespace Cert.Attn
open Idealize.ShloMosaic
open scoped BigOperators

/-! # Grouped-query attention as one function of the mixed projection

Eight query heads of 128 columns begin at column 3072, two key heads at 4096, two value heads at 4352; four query heads share a key head.
The scores are in base two (the query columns hold the query scaled by `log2 e / √128`). -/

/-- The entry of batch `b`, row `j`, column `c`. -/
def ent (x : (⟨3, ![2, 8448, 4608]⟩ : Shape).Idx → EReal) (b : Fin 2) (j c : ℕ) : EReal :=
  if h : j < 8448 ∧ c < 4608 then x (ix3 b ⟨j, h.1⟩ ⟨c, h.2⟩) else 1

/-- An entry inside the array. -/
theorem ent_eq (x : (⟨3, ![2, 8448, 4608]⟩ : Shape).Idx → EReal) (b : Fin 2) (j c : ℕ) (hj : j < 8448) (hc : c < 4608) :
    ent x b j c = x (ix3 b ⟨j, hj⟩ ⟨c, hc⟩) := dif_pos ⟨hj, hc⟩

/-- The score of row `r` under query head `h` with key row `j`. -/
def score (x : (⟨3, ![2, 8448, 4608]⟩ : Shape).Idx → EReal) (b : Fin 2) (h r j : ℕ) : ℝ :=
  ∑ e : Fin 128, (ent x b r (3072 + h * 128 + e)).toReal * (ent x b j (4096 + h / 4 * 128 + e)).toReal

/-- The attention of row `r`, head `h`, at value lane `d`: context rows attend to the context, latent rows to every row. -/
def attnAt (x : (⟨3, ![2, 8448, 4608]⟩ : Shape).Idx → EReal) (b : Fin 2) (r h d : ℕ) : EReal :=
  attnVal (if r < 256 then 256 else 8448) (score x b h r) fun j => ent x b j (4352 + h / 4 * 128 + d)

/-- The attention's result array. -/
def attn (x : (⟨3, ![2, 8448, 4608]⟩ : Shape).Idx → EReal) : (⟨3, ![2, 8448, 1024]⟩ : Shape).Idx → EReal := fun i =>
  attnAt x (i 0) (i 1).val ((i 2).val / 128) ((i 2).val % 128)

/-- Every query and key entry is a real. -/
def RealKeys (x : (⟨3, ![2, 8448, 4608]⟩ : Shape).Idx → EReal) : Prop :=
  ∀ b j c, 3072 ≤ c → c < 4352 → IsR (ent x b j c)

/-- A real is the real that it is read as. -/
theorem IsR.coe_toReal {x : EReal} (h : IsR x) : ((x.toReal : ℝ) : EReal) = x := by
  obtain ⟨r, rfl⟩ := h; rfl

end Cert.Attn
-- ==== Proof.Ops.lean ====
module
public import proofs.«01_k».proof.Proof.Gen.KernelIdeal.Value
public import proofs.«01_k».proof.Proof.Reals
public import Idealize.ShloMosaic.Lib.Pipeline.ReadBack
public import Idealize.ShloMosaic.Lib.Pipeline.ValueKit
public import Idealize.ShloMosaic.PureOps.Ideal
public import Idealize.ShloMosaic.Lib.Pointwise
public import Idealize.ShloMosaic.Lib.ValueIdx

@[expose] public section
noncomputable section
namespace Cert.Attn
open Idealize.ShloMosaic Idealize.SL.Sem Cert.KernelIdeal Cert.KernelIdeal.Gen
open scoped BigOperators

/-! # The kernel body's vector operations, one row and one column at a time -/

/-- The score of query row `r` against key `j`. -/
def sc (Q : Fin 1024 → Fin 128 → ℝ) (K : ℕ → Fin 128 → ℝ) (r : Fin 1024) (j : ℕ) : ℝ := ∑ e, Q r e * K j e

/-- A value lane of the values beside their ones. -/
theorem lo_lt (d : Fin 128) : d.val < 256 := by omega

/-- A lane of ones beside the values. -/
theorem hi_lt (d : Fin 128) : 128 + d.val < 256 := by omega

/-- A column of four heads side by side. -/
theorem col_lt (g : Fin 4) (e : Fin 128) : g.val * 128 + e.val < 512 := by omega

/-- A row of four heads stacked. -/
theorem row_lt (g : Fin 4) (p : Fin 256) : g.val * 256 + p.val < 1024 := by omega

/-- The scores of 2048 keys from key `b` on. -/
theorem pay10_real (Q : Fin 1024 → Fin 128 → ℝ) (K : ℕ → Fin 128 → ℝ) (b : ℕ)
    (k : Vec Ideal S1x2048x128 .bf16) (q : Vec Ideal S1024x128 .bf16)
    (hq : ∀ r e, q (ix2 r e) = ((Q r e : ℝ) : EReal)) (hk : ∀ j : Fin 2048, ∀ e, k (ix3 0 j e) = ((K (b + j) e : ℝ) : EReal))
    (r : Fin 1024) (j : Fin 2048) : k0_pay10 k q (ix2 r j) = ((sc Q K r (b + j) : ℝ) : EReal) := by
  have h : k0_pay10 k q (ix2 r j) = ∑ e : Fin 128, q (ix2 r e) * k (ix3 0 j e) := by pointwise [k0_pay10]
  rw [h]
  unfold sc
  rw [coe_sum]
  exact Finset.sum_congr rfl fun e _ => by rw [hq, hk, EReal.coe_mul]

/-- The scores of 256 keys from key `b` on. -/
theorem pay3_real (Q : Fin 1024 → Fin 128 → ℝ) (K : ℕ → Fin 128 → ℝ) (b : ℕ)
    (k : Vec Ideal S1x256x128 .bf16) (q : Vec Ideal S1024x128 .bf16)
    (hq : ∀ r e, q (ix2 r e) = ((Q r e : ℝ) : EReal)) (hk : ∀ j : Fin 256, ∀ e, k (ix3 0 j e) = ((K (b + j) e : ℝ) : EReal))
    (r : Fin 1024) (j : Fin 256) : k0_pay3 k q (ix2 r j) = ((sc Q K r (b + j) : ℝ) : EReal) := by
  have h : k0_pay3 k q (ix2 r j) = ∑ e : Fin 128, q (ix2 r e) * k (ix3 0 j e) := by pointwise [k0_pay3]
  rw [h]
  unfold sc
  rw [coe_sum]
  exact Finset.sum_congr rfl fun e _ => by rw [hq, hk, EReal.coe_mul]

/-- Every element of an array of lane maxima is below `⊤`. -/
def Below (x : FVec Ideal S1024x128 .f32) : Prop := ∀ r l, (x (ix2 r l) : EReal) ≠ ⊤

/-- Every element of an array of lane maxima is a real. -/
def Real2 (x : FVec Ideal S1024x128 .f32) : Prop := ∀ r l, IsR (x (ix2 r l))

/-- An array of reals stays below infinity. -/
theorem Real2.below {x : FVec Ideal S1024x128 .f32} (h : Real2 x) : Below x := fun r l => (h r l).ne_top

/-- The lane maxima of sixteen 128-column slices of scores. -/
theorem maxes16 (k : Vec Ideal S1x2048x128 .bf16) (q : Vec Ideal S1024x128 .bf16) (x : FVec Ideal S1024x128 .f32) (hx : Below x)
    (hs : ∀ r (j : Fin 2048), IsR (k0_pay10 k q (ix2 r j))) : Real2 (k0_pay13 (k0_pay12 k q x)) := by
  intro r l
  have e : k0_pay13 (k0_pay12 k q x) = k0_pay26 (k0_pay10 k q) (k0_pay25 k q x) := rfl
  rw [e]
  unfold k0_pay25
  rw [show k0_pay23 k q = k0_pay10 k q from rfl]
  generalize k0_pay10 k q = s at *
  pointwise [k0_pay26]
  iterate 15 refine isR_max (IsR.ne_top ?_) (hs _ _)
  exact isR_max (hx _ _) (hs _ _)

/-- The lane maxima of two 128-column slices of scores. -/
theorem maxes2 (k : Vec Ideal S1x256x128 .bf16) (q : Vec Ideal S1024x128 .bf16) (x : FVec Ideal S1024x128 .f32) (hx : Below x)
    (hs : ∀ r (j : Fin 256), IsR (k0_pay3 k q (ix2 r j))) : Real2 (k0_pay5 k q x) := by
  intro r l
  unfold k0_pay5
  generalize k0_pay3 k q = s at *
  pointwise
  iterate 1 refine isR_max (IsR.ne_top ?_) (hs _ _)
  exact isR_max (hx _ _) (hs _ _)

/-- Every row of `m` holds one extended real below `⊤` in all its lanes. -/
def RowBelow (m : FVec Ideal S1024x128 .f32) : Prop := ∀ r, ∃ a : EReal, a ≠ ⊤ ∧ ∀ l, m (ix2 r l) = a

/-- Row `r` of `m` holds the real `M r` in all its lanes. -/
def RowReal (m : FVec Ideal S1024x128 .f32) (M : Fin 1024 → ℝ) : Prop := ∀ r l, m (ix2 r l) = ((M r : ℝ) : EReal)

/-- An array with one real in each row stays below infinity. -/
theorem RowReal.below {m : FVec Ideal S1024x128 .f32} {M : Fin 1024 → ℝ} (h : RowReal m M) : RowBelow m :=
  fun r => ⟨_, EReal.coe_ne_top (M r), h r⟩

/-- The word of minus infinity. -/
theorem ofBits_neg_inf : Ideal.ofBits .f32 4286578688#32 = ⊥ := by simp [Ideal.ofBits, Ideal.ieee]

/-- The row maximum after a chunk: one real in every lane. -/
theorem settle (x m : FVec Ideal S1024x128 .f32) (hx : Real2 x) (hm : RowBelow m) : ∃ M, RowReal (k0_pay6 x m) M := by
  have h : ∀ r, ∃ a : ℝ, ∀ l, (k0_pay6 (F := Ideal) x m (ix2 r l) : EReal) = (a : EReal) := by
    intro r
    obtain ⟨a, ha, hl⟩ := hm r
    obtain ⟨b, hb⟩ := isR_max ha (isR_fold_max (Ideal.ofBits .f32 4286578688#32) ofBits_neg_inf (fun l => x (ix2 r l)) fun l => hx r l)
    refine ⟨b, fun l => ?_⟩
    rw [← hb]
    pointwise [k0_pay6]
    rw [hl]
  choose M hM using h
  exact ⟨M, hM⟩

/-- The first 128 keys of a slice, as the accumulation step adds them. -/
theorem sum_blk (S : ℕ → ℝ) (M : ℝ) (V : ℕ → EReal) (n : ℕ) (f : Fin 128 → EReal) (g : Fin 128 → EReal)
    (hf : ∀ x : Fin 128, f x = ((S (n + x) : ℝ) : EReal) - (M : EReal)) (hg : ∀ x : Fin 128, g x = V (n + x)) :
    ∑ x, Ideal.exp2 (f x) * g x = blk S M V n := by
  unfold blk
  exact Finset.sum_congr rfl fun x _ => by rw [hf, hg, exp2_sub]

/-- Two slices added to the accumulator. -/
theorem bstep2 (S : Fin 1024 → ℕ → ℝ) (M : Fin 1024 → ℝ) (V : ℕ → Fin 256 → EReal) (n : ℕ)
    (m : Vec Ideal S1024x128 .f32) (s0 s1 : Vec Ideal S1x1x1024x128 .f32) (acc : Vec Ideal S1024x256 .f32)
    (v : Vec Ideal S256x256 .bf16) (hm : RowReal m M)
    (h0 : ∀ r (x : Fin 128), s0 (ix4 0 0 r x) = ((S r (n + x) : ℝ) : EReal))
    (h1 : ∀ r (x : Fin 128), s1 (ix4 0 0 r x) = ((S r (n + 128 + x) : ℝ) : EReal))
    (hv : ∀ (j : Fin 256) d, v (ix2 j d) = V (n + j) d)
    (hacc : ∀ r d, acc (ix2 r d) = accVal n (S r) (M r) (fun j => V j d)) (r : Fin 1024) (d : Fin 256) :
    k0_pay39 m s0 s1 acc v (ix2 r d) = accVal (n + 256) (S r) (M r) (fun j => V j d) := by
  have h : k0_pay39 m s0 s1 acc v (ix2 r d) = acc (ix2 r d) +
      (∑ x : Fin 128, Ideal.exp2 (s0 (ix4 0 0 r x) - m (ix2 r x)) * v (ix2 ⟨x, by omega⟩ d) +
        ∑ x : Fin 128, Ideal.exp2 (s1 (ix4 0 0 r x) - m (ix2 r x)) * v (ix2 ⟨128 + x, by omega⟩ d)) := by
    pointwise [k0_pay39]
    rfl
  rw [h, hacc, sum_blk (S r) (M r) (fun j => V j d) n _ _ (fun x => by rw [h0, hm]) (fun x => hv _ d),
    sum_blk (S r) (M r) (fun j => V j d) (n + 128) _ _ (fun x => by rw [h1, hm]) (fun x => by rw [hv]; congr 1; simp only; omega),
    ← add_assoc, accVal_blk, accVal_blk]

/-- Sixteen slices of weights side by side. -/
def cat16 (m : FVec Ideal S1024x128 .f32) (s : Fin 16 → FVec Ideal S1x1x1024x128 .f32) : FVec Ideal S1024x2048 .f32 :=
  concatenate S1024x2048 1 (List.ofFn fun t : Fin 16 => (⟨S1024x128, k0_pay27 m (s t)⟩ : (s : Shape) × (s.Idx → Ideal .f32)))
    concatenates_S1024x128_S1024x128_S1024x128_S1024x128_S1024x128_S1024x128_S1024x128_S1024x128_S1024x128_S1024x128_S1024x128_S1024x128_S1024x128_S1024x128_S1024x128_S1024x128_S1024x2048_d1

/-- The weights at row `r` and key `j` of the chunk. -/
theorem cat16_apply (m : FVec Ideal S1024x128 .f32) (s : Fin 16 → FVec Ideal S1x1x1024x128 .f32) (r : Fin 1024) (j : Fin 2048) :
    cat16 m s (ix2 r j) = Ideal.exp2 (s ⟨j / 128, by omega⟩ (ix4 0 0 r ⟨j % 128, by omega⟩) - m (ix2 r ⟨j % 128, by omega⟩)) := by
  refine (concatenate_ofFn_apply (t := S1024x2048) (s₁ := S1024x128) 1 _ _ rfl 128 rfl (ix2 r j) ⟨j / 128, by omega⟩ rfl
    (ix2 r ⟨j % 128, by omega⟩) rfl ?_).trans ?_
  · intro b hb
    match b with
    | 0 => rfl
    | 1 => exact absurd rfl hb
  · pointwise [k0_pay27]
    rfl

/-- The accumulation step over sixteen 128-column slices of scores. -/
def acc16 (m : FVec Ideal S1024x128 .f32) (s : Fin 16 → FVec Ideal S1x1x1024x128 .f32) (acc : FVec Ideal S1024x256 .f32)
    (v : FVec Ideal S2048x256 .bf16) : FVec Ideal S1024x256 .f32 := k0_pay127 (cat16 m s) acc v

/-- Sixteen slices added to the accumulator. -/
theorem bstep16 (S : Fin 1024 → ℕ → ℝ) (M : Fin 1024 → ℝ) (V : ℕ → Fin 256 → EReal) (n : ℕ)
    (m : FVec Ideal S1024x128 .f32) (s : Fin 16 → FVec Ideal S1x1x1024x128 .f32) (acc : FVec Ideal S1024x256 .f32)
    (v : FVec Ideal S2048x256 .bf16) (hm : RowReal m M)
    (hs : ∀ (t : Fin 16) r (x : Fin 128), s t (ix4 0 0 r x) = ((S r (n + (128 * t + x)) : ℝ) : EReal))
    (hv : ∀ (j : Fin 2048) d, v (ix2 j d) = V (n + j) d)
    (hacc : ∀ r d, acc (ix2 r d) = accVal n (S r) (M r) (fun j => V j d)) (r : Fin 1024) (d : Fin 256) :
    acc16 m s acc v (ix2 r d) = accVal (n + 2048) (S r) (M r) (fun j => V j d) := by
  have h : acc16 m s acc v (ix2 r d) = acc (ix2 r d) + ∑ j : Fin 2048, cat16 m s (ix2 r j) * v (ix2 j d) := by
    unfold acc16
    generalize cat16 m s = P
    pointwise [k0_pay127]
  rw [h, hacc]
  unfold accVal
  rw [Finset.sum_range_add, Finset.sum_range fun x => ((p2 (S r (n + x) - M r) : ℝ) : EReal) * V (n + x) d]
  congr 1
  refine Finset.sum_congr rfl fun j _ => ?_
  rw [cat16_apply, hs, hm, hv, exp2_sub]
  congr 6
  exact Nat.div_add_mod _ _

variable (m : FVec Ideal S1024x128 .f32) (s : Fin 16 → FVec Ideal S1x1x1024x128 .f32) (acc : FVec Ideal S1024x256 .f32)
    (v : FVec Ideal S2048x256 .bf16)

/-- The first chunk's spelling of the step. -/
theorem acc16_first : k0_pay38 m (k0_pay27 m (s 0)) (k0_pay28 m (s 1)) (k0_pay29 m (s 2)) (k0_pay30 m (s 3)) (k0_pay31 m (s 4))
    (k0_pay32 m (s 5)) (k0_pay33 m (s 6)) (k0_pay34 m (s 7)) (k0_pay35 m (s 8)) (k0_pay36 m (s 9)) (k0_pay37 m (s 10))
    (s 11) (s 12) (s 13) (s 14) (s 15) acc v = acc16 m s acc v := rfl

/-- The last chunk's spelling of the weights. -/
theorem cat16_last : k0_pay126 (k0_pay96 m (s 0)) (k0_pay97 m (s 1)) (k0_pay98 m (s 2)) (k0_pay99 m (s 3)) (k0_pay100 m (s 4))
    (k0_pay102 m (k0_pay101 (s 5))) (k0_pay103 m (s 6)) (k0_pay104 m (s 7)) (k0_pay105 m (s 8)) (k0_pay106 m (s 9)) (k0_pay107 m (s 10))
    (k0_pay108 m (s 11)) (k0_pay109 m (s 12)) (k0_pay123 m (s 13)) (k0_pay124 m (s 14)) (k0_pay125 m (s 15)) = cat16 m s := rfl
end Cert.Attn
-- ==== Proof.Steps.lean ====
module
public import proofs.«01_k».proof.Proof.Ops

@[expose] public section
noncomputable section
namespace Cert.Attn
open Idealize.ShloMosaic Idealize.SL.Sem Cert.KernelIdeal Cert.KernelIdeal.Gen
open scoped BigOperators

/-! # The online softmax as a state: the row maxima and the accumulator -/

variable (S : Fin 1024 → ℕ → ℝ) (V : ℕ → Fin 256 → EReal)

/-- After `n` keys, whatever real the row maximum moves to next, taking the accumulator there gives the unnormalised
sum over those `n` keys. -/
def St (n : ℕ) (m : FVec Ideal S1024x128 .f32) (acc : FVec Ideal S1024x256 .f32) : Prop :=
  RowBelow m ∧ ∀ r d l (M' : ℝ), (acc (ix2 r d) : EReal) * Ideal.exp2 ((m (ix2 r l) : EReal) - (M' : EReal)) = accVal n (S r) M' fun j => V j d

/-- After `n` keys the rows of `m` are reals and the accumulator is the unnormalised sum over those keys, taken down
by them. -/
def Acc (n : ℕ) (m : FVec Ideal S1024x128 .f32) (acc : FVec Ideal S1024x256 .f32) : Prop :=
  ∃ M, RowReal m M ∧ ∀ r d, acc (ix2 r d) = accVal n (S r) (M r) fun j => V j d

variable {S V}

/-- The running maxima that an accumulator state goes with. -/
theorem Acc.st {n : ℕ} {m : FVec Ideal S1024x128 .f32} {acc : FVec Ideal S1024x256 .f32} (h : Acc S V n m acc) : St S V n m acc := by
  obtain ⟨M, hm, ha⟩ := h
  refine ⟨hm.below, fun r d l M' => ?_⟩
  rw [ha, hm, exp2_sub, accVal_rescale]

/-- The state before the first key: no maximum yet, nothing summed. -/
theorem st_zero : St S V 0 (k0_pay118 k0_pay116) k0_pay119 := by
  constructor
  · intro r
    refine ⟨⊥, bot_ne_top, fun l => ?_⟩
    rw [← ofBits_neg_inf]
    pointwise [k0_pay118, k0_pay116]
  · intro r d l M'
    have h : (k0_pay119 (F := Ideal) (ix2 r d) : EReal) = 0 := by
      pointwise [k0_pay119]
      try rfl
    rw [h, zero_mul, accVal_zero]

/-- The maxima of a new chunk settled: the row maxima move and the accumulator with them. -/
theorem St.settle {n : ℕ} {m : FVec Ideal S1024x128 .f32} {acc : FVec Ideal S1024x256 .f32} (h : St S V n m acc)
    (x : FVec Ideal S1024x128 .f32) (hx : Real2 x) (acc' : FVec Ideal S1024x256 .f32)
    (ha : ∀ r d, ∃ l, (acc' (ix2 r d) : EReal) = (acc (ix2 r d) : EReal) * (k0_pay7 (F := Ideal) x m (ix2 r l) : EReal)) :
    Acc S V n (k0_pay6 x m) acc' := by
  obtain ⟨M, hM⟩ := Cert.Attn.settle x m hx h.1
  refine ⟨M, hM, fun r d => ?_⟩
  obtain ⟨l, hl⟩ := ha r d
  rw [hl, ← h.2 r d l (M r)]
  congr 1
  rw [← hM r l]
  unfold k0_pay7
  generalize k0_pay6 (F := Ideal) x m = y
  pointwise
  rfl

/-- Sixteen slices more. -/
theorem Acc.step16 {n : ℕ} {m : FVec Ideal S1024x128 .f32} {acc : FVec Ideal S1024x256 .f32} (h : Acc S V n m acc)
    (s : Fin 16 → FVec Ideal S1x1x1024x128 .f32) (v : FVec Ideal S2048x256 .bf16)
    (hs : ∀ (t : Fin 16) r (x : Fin 128), s t (ix4 0 0 r x) = ((S r (n + (128 * t + x)) : ℝ) : EReal))
    (hv : ∀ (j : Fin 2048) d, v (ix2 j d) = V (n + j) d) : Acc S V (n + 2048) m (acc16 m s acc v) := by
  obtain ⟨M, hm, ha⟩ := h
  exact ⟨M, hm, fun r d => bstep16 S M V n m s acc v hm hs hv ha r d⟩

/-- Two slices more. -/
theorem Acc.step2 {n : ℕ} {m : FVec Ideal S1024x128 .f32} {acc : FVec Ideal S1024x256 .f32} (h : Acc S V n m acc)
    (s0 s1 : FVec Ideal S1x1x1024x128 .f32) (v : FVec Ideal S256x256 .bf16)
    (h0 : ∀ r (x : Fin 128), s0 (ix4 0 0 r x) = ((S r (n + x) : ℝ) : EReal))
    (h1 : ∀ r (x : Fin 128), s1 (ix4 0 0 r x) = ((S r (n + 128 + x) : ℝ) : EReal))
    (hv : ∀ (j : Fin 256) d, v (ix2 j d) = V (n + j) d) : Acc S V (n + 256) m (k0_pay39 m s0 s1 acc v) := by
  obtain ⟨M, hm, ha⟩ := h
  exact ⟨M, hm, fun r d => bstep2 S M V n m s0 s1 acc v hm h0 h1 hv ha r d⟩

/-- The stored maximum is the maximum. -/
theorem pay8_eq (x m : FVec Ideal S1024x128 .f32) : k0_pay8 (F := Ideal) x m = k0_pay6 (F := Ideal) x m := by
  unfold k0_pay8
  exact shapeCast_self _ _

/-- A scaled half at an element. -/
theorem pay20_apply (al a : FVec Ideal S1024x128 .f32) (r : Fin 1024) (l : Fin 128) :
    (k0_pay20 (F := Ideal) al a (ix2 r l) : EReal) = (a (ix2 r l) : EReal) * (al (ix2 r l) : EReal) := by
  pointwise [k0_pay20]

/-! ## The scratch buffers read back -/

variable {sig' : RefSig} {κ : Kind} {sp : Space}

/-- A load of a rectangle of a whole input block. -/
theorem block_read {s : Shape} {e : EltTy} (mr : Memref sig' κ sp s e) (h : mr.IsWhole) (x : s.Idx → Elt Ideal e)
    (r : Rect s) (j : r.shape.Idx) : View.readAt (Elt Ideal) mr.view r.toLoadRect (h.unread x) j = x (r.idx j) := by
  rw [View.readAt_eq_ld, h.read_unread]

/-- A slab of 2048 keys. -/
theorem keys2048 (arg4 : Memref sig' κ sp S1x8448x128 .bf16) (harg4 : arg4.IsWhole) (x1 : Vec Ideal S1x8448x128 .bf16) (K : ℕ → Fin 128 → ℝ)
    (hK : ∀ (j : Fin 8448) e, x1 (ix3 0 j e) = ((K j e : ℝ) : EReal)) (b : ℕ) (inb) (j : Fin 2048) (e : Fin 128) :
    View.readAt (Elt Ideal) arg4.view (Rect.unit (s := S1x8448x128) ![0, b, 0] S1x2048x128.size inb).toLoadRect (harg4.unread x1) (ix3 0 j e)
      = ((K (b + j) e : ℝ) : EReal) := by
  have hb : b + 2048 ≤ 8448 := inb 1
  rw [block_read, ← hK ⟨b + j, by omega⟩ e]
  congr 1
  funext a; apply Fin.ext
  match a with | 0 => simp | 1 => simp | 2 => simp

/-- A slab of 256 keys. -/
theorem keys256 (arg4 : Memref sig' κ sp S1x8448x128 .bf16) (harg4 : arg4.IsWhole) (x1 : Vec Ideal S1x8448x128 .bf16) (K : ℕ → Fin 128 → ℝ)
    (hK : ∀ (j : Fin 8448) e, x1 (ix3 0 j e) = ((K j e : ℝ) : EReal)) (b : ℕ) (inb) (j : Fin 256) (e : Fin 128) :
    View.readAt (Elt Ideal) arg4.view (Rect.unit (s := S1x8448x128) ![0, b, 0] S1x256x128.size inb).toLoadRect (harg4.unread x1) (ix3 0 j e)
      = ((K (b + j) e : ℝ) : EReal) := by
  have hb : b + 256 ≤ 8448 := inb 1
  rw [block_read, ← hK ⟨b + j, by omega⟩ e]
  congr 1
  funext a; apply Fin.ext
  match a with | 0 => simp | 1 => simp | 2 => simp

/-- The two halves of the accumulator scaled one after the other: every element is scaled. -/
theorem halves (v w : View sig' κ sp S1024x256 .f32) (L : List (View.Piece (Elt Ideal) S1024x256 .f32)) (al w0 w1 : FVec Ideal S1024x128 .f32) (i0 i0' i1 i1')
    (h0 : ∀ r l, (w0 (ix2 r l) : EReal) = (v.readCov L (Rect.unit (s := S1024x256) ![0, 0] S1024x128.size i0').toLoadRect (ix2 r l) : EReal) * (al (ix2 r l) : EReal))
    (h1 : ∀ r l, (w1 (ix2 r l) : EReal) = (w.readCov (⟨Rect.unit (s := S1024x256) ![0, 0] S1024x128.size i0, w0⟩ :: L) (Rect.unit (s := S1024x256) ![0, 128] S1024x128.size i1').toLoadRect (ix2 r l) : EReal)
      * (al (ix2 r l) : EReal)) (r : Fin 1024) (d : Fin 256) :
    ∃ l, (View.canon (⟨Rect.unit (s := S1024x256) ![0, 128] S1024x128.size i1, w1⟩ :: ⟨Rect.unit (s := S1024x256) ![0, 0] S1024x128.size i0, w0⟩ :: L) (ix2 r d : S1024x256.Idx) : EReal)
      = (View.canon L (ix2 r d) : EReal) * (al (ix2 r l) : EReal) := by
  by_cases hd : d.val < 128
  · refine ⟨⟨d, hd⟩, ?_⟩
    rw [View.canon_cons_of_not_mem _ _ (by
      rw [Rect.mem_set_unit]; intro h; have := (h 1).1; simp at this; omega)]
    rw [show ix2 r d = (Rect.unit (s := S1024x256) ![0, 0] S1024x128.size i0).emb (ix2 r ⟨d, hd⟩) from by
      funext a; apply Fin.ext; match a with | 0 => simp | 1 => simp, View.canon_cons_emb, h0, View.readCov_eq_canon']
    rfl
  · refine ⟨⟨d - 128, by omega⟩, ?_⟩
    rw [show ix2 r d = (Rect.unit (s := S1024x256) ![0, 128] S1024x128.size i1).emb (ix2 r ⟨d - 128, by omega⟩) from by
      funext a; apply Fin.ext; match a with | 0 => simp | 1 => simp; omega, View.canon_cons_emb, h1, View.readCov_eq_canon']
    dsimp only
    rw [View.canon_cons_of_not_mem _ _ (by
      rw [Rect.mem_set_unit]; intro h; have := (h 1).2; simp at this)]
    rfl

/-- The score buffer's newest piece, read in its own slot. -/
theorem buf_hit (b jj n : ℕ) (L : List (View.Piece (Elt Ideal) S2x2x1024x2048 .f32)) (inb)
    (w : (Rect.unit (s := S2x2x1024x2048) ![b, jj, 0, 0] ![1, 1, 1024, n] inb).shape.Idx → Elt Ideal .f32) (r : Fin 1024) (j : Fin n) (y : S2x2x1024x2048.Idx)
    (h0 : (y 0).val = b) (h1 : (y 1).val = jj) (h2 : (y 2).val = r) (h3 : (y 3).val = j) :
    View.canon (⟨Rect.unit ![b, jj, 0, 0] ![1, 1, 1024, n] inb, w⟩ :: L) y = w (ix4 0 0 r j) := by
  rw [show y = (Rect.unit (s := S2x2x1024x2048) ![b, jj, 0, 0] ![1, 1, 1024, n] inb).emb (ix4 0 0 r j) from by
      funext a; apply Fin.ext
      match a with
      | 0 => simpa using h0
      | 1 => simpa using h1
      | 2 => simpa using h2
      | 3 => simpa using h3, View.canon_cons_emb]

/-- Another slot's piece passed over. -/
theorem buf_skip (b jj n : ℕ) (L : List (View.Piece (Elt Ideal) S2x2x1024x2048 .f32)) (inb)
    (w : (Rect.unit (s := S2x2x1024x2048) ![b, jj, 0, 0] ![1, 1, 1024, n] inb).shape.Idx → Elt Ideal .f32) (y : S2x2x1024x2048.Idx)
    (h : (y 0).val ≠ b ∨ (y 1).val ≠ jj) :
    View.canon (⟨Rect.unit ![b, jj, 0, 0] ![1, 1, 1024, n] inb, w⟩ :: L) y = View.canon L y := by
  refine View.canon_cons_of_not_mem _ _ ?_
  rw [Rect.mem_set_unit]
  intro hy
  have e0 := hy 0
  have e1 := hy 1
  simp at e0 e1
  omega

/-- A load of the whole buffer. -/
theorem read_whole {s : Shape} (v : View sig' κ sp s .f32) (L : List (View.Piece (Elt Ideal) s .f32)) (off : Fin s.rank → ℕ) (inb)
    (h : ∀ a, off a = 0) : v.readCov L (Rect.unit off s.size inb).toLoadRect = View.canon L := by
  obtain rfl : off = fun _ => 0 := funext h
  rw [View.readCov_eq_canon']
  funext j
  congr 1
  funext a; apply Fin.ext
  show 0 + 1 * (j a).val = (j a).val
  omega

/-- The maxima settled and both halves of the accumulator scaled, in the buffers. -/
theorem St.settle_halves {n : ℕ} {m : FVec Ideal S1024x128 .f32} (v : View sig' κ sp S1024x256 .f32)
    (L : List (View.Piece (Elt Ideal) S1024x256 .f32)) (h : St S V n m (View.canon L)) (x : FVec Ideal S1024x128 .f32) (hx : Real2 x)
    (i0 i0' i1 i1') : Acc S V n (k0_pay8 (F := Ideal) x m) (View.canon
      (⟨Rect.unit (s := S1024x256) ![0, 128] S1024x128.size i1, k0_pay20 (k0_pay7 x m) (v.readCov
          (⟨Rect.unit (s := S1024x256) ![0, 0] S1024x128.size i0, k0_pay20 (k0_pay7 x m) (v.readCov L (Rect.unit (s := S1024x256) ![0, 0] S1024x128.size i0').toLoadRect)⟩ :: L)
          (Rect.unit (s := S1024x256) ![0, 128] S1024x128.size i1').toLoadRect)⟩
        :: ⟨Rect.unit (s := S1024x256) ![0, 0] S1024x128.size i0, k0_pay20 (k0_pay7 x m) (v.readCov L (Rect.unit (s := S1024x256) ![0, 0] S1024x128.size i0').toLoadRect)⟩
        :: L)) := by
  rw [pay8_eq]
  exact h.settle x hx _ fun r d => halves v v L (k0_pay7 x m) _ _ i0 i0' i1 i1' (fun r l => pay20_apply _ _ r l) (fun r l => pay20_apply _ _ r l) r d

/-- Sixteen slices added, in the buffers. -/
theorem Acc.put16 {n : ℕ} {m : FVec Ideal S1024x128 .f32} (v : View sig' κ sp S1024x256 .f32)
    (L : List (View.Piece (Elt Ideal) S1024x256 .f32)) (h : Acc S V n m (View.canon L))
    (s : Fin 16 → FVec Ideal S1x1x1024x128 .f32) (w : FVec Ideal S2048x256 .bf16)
    (hs : ∀ (t : Fin 16) r (x : Fin 128), s t (ix4 0 0 r x) = ((S r (n + (128 * t + x)) : ℝ) : EReal))
    (hv : ∀ (j : Fin 2048) d, w (ix2 j d) = V (n + j) d) (i i') :
    Acc S V (n + 2048) m (View.canon (⟨Rect.unit (s := S1024x256) ![0, 0] S1024x256.size i,
      acc16 m s (v.readCov L (Rect.unit (s := S1024x256) ![0, 0] S1024x256.size i').toLoadRect) w⟩ :: L)) := by
  rw [View.canon_cons_unit_lit' _ _ _ (by decide), read_whole _ _ _ _ (by decide)]
  exact h.step16 s w hs hv

/-- Two slices added, in the buffers. -/
theorem Acc.put2 {n : ℕ} {m : FVec Ideal S1024x128 .f32} (v : View sig' κ sp S1024x256 .f32)
    (L : List (View.Piece (Elt Ideal) S1024x256 .f32)) (h : Acc S V n m (View.canon L))
    (s0 s1 : FVec Ideal S1x1x1024x128 .f32) (w : FVec Ideal S256x256 .bf16)
    (h0 : ∀ r (x : Fin 128), s0 (ix4 0 0 r x) = ((S r (n + x) : ℝ) : EReal))
    (h1 : ∀ r (x : Fin 128), s1 (ix4 0 0 r x) = ((S r (n + 128 + x) : ℝ) : EReal))
    (hv : ∀ (j : Fin 256) d, w (ix2 j d) = V (n + j) d) (i i') :
    Acc S V (n + 256) m (View.canon (⟨Rect.unit (s := S1024x256) ![0, 0] S1024x256.size i,
      k0_pay39 m s0 s1 (v.readCov L (Rect.unit (s := S1024x256) ![0, 0] S1024x256.size i').toLoadRect) w⟩ :: L)) := by
  rw [View.canon_cons_unit_lit' _ _ _ (by decide), read_whole _ _ _ _ (by decide)]
  exact h.step2 s0 s1 w h0 h1 hv

/-! ## The queries stacked and the output laid out -/

/-- The newest block of rows, read in its own rows. -/
theorem row_hit (b : ℕ) (L : List (View.Piece (Elt Ideal) S1024x128 .bf16)) (inb)
    (w : (Rect.unit (s := S1024x128) ![b, 0] S256x128.size inb).shape.Idx → Elt Ideal .bf16) (p : Fin 256) (e : Fin 128) (y : S1024x128.Idx)
    (h0 : (y 0).val = b + p) (h1 : (y 1).val = e) :
    View.canon (⟨Rect.unit (s := S1024x128) ![b, 0] S256x128.size inb, w⟩ :: L) y = w (ix2 p e) := by
  rw [show y = (Rect.unit (s := S1024x128) ![b, 0] S256x128.size inb).emb (ix2 p e) from by
      funext a; apply Fin.ext
      match a with
      | 0 => simpa using h0
      | 1 => simpa using h1, View.canon_cons_emb]

/-- A block of later rows passed over. -/
theorem row_skip (b : ℕ) (L : List (View.Piece (Elt Ideal) S1024x128 .bf16)) (inb)
    (w : (Rect.unit (s := S1024x128) ![b, 0] S256x128.size inb).shape.Idx → Elt Ideal .bf16) (y : S1024x128.Idx) (h : (y 0).val < b) :
    View.canon (⟨Rect.unit (s := S1024x128) ![b, 0] S256x128.size inb, w⟩ :: L) y = View.canon L y := by
  refine View.canon_cons_of_not_mem _ _ ?_
  rw [Rect.mem_set_unit]
  intro hy
  have e0 := (hy 0).1
  simp at e0
  omega

/-- The newest block of columns, read in its own columns. -/
theorem col_hit (b : ℕ) (L : List (View.Piece (Elt Ideal) S1x256x512 .bf16)) (inb)
    (w : (Rect.unit (s := S1x256x512) ![0, 0, b] S1x256x128.size inb).shape.Idx → Elt Ideal .bf16) (p : Fin 256) (e : Fin 128) (y : S1x256x512.Idx)
    (h1 : (y 1).val = p) (h2 : (y 2).val = b + e) :
    View.canon (⟨Rect.unit (s := S1x256x512) ![0, 0, b] S1x256x128.size inb, w⟩ :: L) y = w (ix3 0 p e) := by
  have h0 : (y 0).val = 0 := by have := (y 0).isLt; simp at this ⊢
  rw [show y = (Rect.unit (s := S1x256x512) ![0, 0, b] S1x256x128.size inb).emb (ix3 0 p e) from by
      funext a; apply Fin.ext
      match a with
      | 0 => simpa using h0
      | 1 => simpa using h1
      | 2 => simpa using h2, View.canon_cons_emb]

/-- A block of later columns passed over. -/
theorem col_skip (b : ℕ) (L : List (View.Piece (Elt Ideal) S1x256x512 .bf16)) (inb)
    (w : (Rect.unit (s := S1x256x512) ![0, 0, b] S1x256x128.size inb).shape.Idx → Elt Ideal .bf16) (y : S1x256x512.Idx) (h : (y 2).val < b) :
    View.canon (⟨Rect.unit (s := S1x256x512) ![0, 0, b] S1x256x128.size inb, w⟩ :: L) y = View.canon L y := by
  refine View.canon_cons_of_not_mem _ _ ?_
  rw [Rect.mem_set_unit]
  intro hy
  have e0 := (hy 2).1
  simp at e0
  omega

/-- The stack of the four heads' queries. -/
abbrev stack (w0 w1 w2 w3 : FVec Ideal S256x128 .bf16) (i0 : ∀ a, (![0, 0] : Fin 2 → ℕ) a + S256x128.size a ≤ S1024x128.size a)
    (i1 : ∀ a, (![256, 0] : Fin 2 → ℕ) a + S256x128.size a ≤ S1024x128.size a) (i2 : ∀ a, (![512, 0] : Fin 2 → ℕ) a + S256x128.size a ≤ S1024x128.size a)
    (i3 : ∀ a, (![768, 0] : Fin 2 → ℕ) a + S256x128.size a ≤ S1024x128.size a) : List (View.Piece (Elt Ideal) S1024x128 .bf16) :=
  [⟨Rect.unit (s := S1024x128) ![768, 0] S256x128.size i3, w3⟩, ⟨Rect.unit (s := S1024x128) ![512, 0] S256x128.size i2, w2⟩,
    ⟨Rect.unit (s := S1024x128) ![256, 0] S256x128.size i1, w1⟩, ⟨Rect.unit (s := S1024x128) ![0, 0] S256x128.size i0, w0⟩]

/-- A row of the stack is a row of its head. -/
theorem stack_canon (w0 w1 w2 w3 : FVec Ideal S256x128 .bf16) (i0 i1 i2 i3) (g : Fin 4) (p : Fin 256) (e : Fin 128) :
    View.canon (stack w0 w1 w2 w3 i0 i1 i2 i3) (ix2 ⟨g * 256 + p, by omega⟩ e) = (![w0, w1, w2, w3] g) (ix2 p e) := by
  have hp := p.isLt
  match g with
  | 3 => exact row_hit 768 _ _ _ p e _ (by simp) (by simp)
  | 2 => exact (row_skip 768 _ _ _ _ (by simp; omega)).trans (row_hit 512 _ _ _ p e _ (by simp) (by simp))
  | 1 => exact (row_skip 768 _ _ _ _ (by simp; omega)).trans ((row_skip 512 _ _ _ _ (by simp; omega)).trans (row_hit 256 _ _ _ p e _ (by simp) (by simp)))
  | 0 => exact (row_skip 768 _ _ _ _ (by simp; omega)).trans ((row_skip 512 _ _ _ _ (by simp; omega)).trans
      ((row_skip 256 _ _ _ _ (by simp)).trans (row_hit 0 _ _ _ p e _ (by simp) (by simp))))

/-- One head's query columns, as rows of the stack. -/
theorem pay112_apply (w : FVec Ideal S1x256x128 .bf16) (p : Fin 256) (e : Fin 128) : k0_pay112 (F := Ideal) w (ix2 p e) = w (ix3 0 p e) := by
  pointwise [k0_pay112]

/-- The stack holds head `g`'s columns of the query block at rows from `g * 256`. -/
theorem stack_queries (mr : Memref sig' κ sp S1x256x512 .bf16) (h : mr.IsWhole) (x0 : Vec Ideal S1x256x512 .bf16) (i0 i1 i2 i3 j0 j1 j2 j3)
    (g : Fin 4) (p : Fin 256) (e : Fin 128) :
    View.canon (stack (k0_pay112 (View.readAt (Elt Ideal) mr.view (Rect.unit (s := S1x256x512) ![0, 0, 0] S1x256x128.size j0).toLoadRect (h.unread x0)))
      (k0_pay112 (View.readAt (Elt Ideal) mr.view (Rect.unit (s := S1x256x512) ![0, 0, 128] S1x256x128.size j1).toLoadRect (h.unread x0)))
      (k0_pay112 (View.readAt (Elt Ideal) mr.view (Rect.unit (s := S1x256x512) ![0, 0, 256] S1x256x128.size j2).toLoadRect (h.unread x0)))
      (k0_pay112 (View.readAt (Elt Ideal) mr.view (Rect.unit (s := S1x256x512) ![0, 0, 384] S1x256x128.size j3).toLoadRect (h.unread x0))) i0 i1 i2 i3)
      (ix2 ⟨g * 256 + p, by omega⟩ e) = x0 (ix3 0 p ⟨g * 128 + e, by omega⟩) := by
  rw [stack_canon]
  have hx : ∀ (b : ℕ) (hb : b + 128 ≤ 512) (j), k0_pay112 (F := Ideal) (View.readAt (Elt Ideal) mr.view (Rect.unit (s := S1x256x512) ![0, 0, b] S1x256x128.size j).toLoadRect (h.unread x0)) (ix2 p e)
      = x0 (ix3 0 p ⟨b + e, by omega⟩) := fun b hb j => by
    rw [pay112_apply, block_read]
    congr 1
    funext a; apply Fin.ext
    match a with | 0 => simp | 1 => simp | 2 => simp
  match g with
  | 0 => exact hx 0 (by omega) _
  | 1 => exact hx 128 (by omega) _
  | 2 => exact hx 256 (by omega) _
  | 3 => exact hx 384 (by omega) _

/-- The stack of queries read back: row `g * 256 + p` is head `g`'s row `p`. -/
theorem stack_real (v : View sig' κ sp S1024x128 .bf16) (mr : Memref sig' κ sp S1x256x512 .bf16) (h : mr.IsWhole) (x0 : Vec Ideal S1x256x512 .bf16)
    (Q : Fin 1024 → Fin 128 → ℝ) (hQ : ∀ (g : Fin 4) (p : Fin 256) (e : Fin 128), x0 (ix3 0 p ⟨g * 128 + e, by omega⟩) = ((Q ⟨g * 256 + p, by omega⟩ e : ℝ) : EReal))
    (i0 i1 i2 i3 j0 j1 j2 j3 inb) (r : Fin 1024) (e : Fin 128) :
    v.readCov (stack (k0_pay112 (View.readAt (Elt Ideal) mr.view (Rect.unit (s := S1x256x512) ![0, 0, 0] S1x256x128.size j0).toLoadRect (h.unread x0)))
      (k0_pay112 (View.readAt (Elt Ideal) mr.view (Rect.unit (s := S1x256x512) ![0, 0, 128] S1x256x128.size j1).toLoadRect (h.unread x0)))
      (k0_pay112 (View.readAt (Elt Ideal) mr.view (Rect.unit (s := S1x256x512) ![0, 0, 256] S1x256x128.size j2).toLoadRect (h.unread x0)))
      (k0_pay112 (View.readAt (Elt Ideal) mr.view (Rect.unit (s := S1x256x512) ![0, 0, 384] S1x256x128.size j3).toLoadRect (h.unread x0))) i0 i1 i2 i3)
      (Rect.unit (s := S1024x128) ![0, 0] S1024x128.size inb).toLoadRect (ix2 r e) = ((Q r e : ℝ) : EReal) := by
  rw [View.readCov_eq_canon']
  have hr : (⟨(r / 256) * 256 + r % 256, by omega⟩ : Fin 1024) = r := Fin.ext (by show r.val / 256 * 256 + r.val % 256 = r.val; omega)
  have hs := stack_queries mr h x0 i0 i1 i2 i3 j0 j1 j2 j3 ⟨r / 256, by omega⟩ ⟨r % 256, by omega⟩ e
  rw [hQ] at hs
  dsimp only at hs
  rw [hr] at hs
  refine Eq.trans (congrArg (View.canon _) ?_) hs
  funext a; apply Fin.ext
  match a with | 0 => simp | 1 => simp

/-- A quarter of the accumulator's rows, its sums over its weights. -/
theorem pay128_apply (a b : FVec Ideal S256x128 .f32) (p : Fin 256) (d : Fin 128) :
    (k0_pay128 (F := Ideal) a b (ix3 0 p d) : EReal) = Ideal.div (a (ix2 p d)) (b (ix2 p d)) := by
  pointwise [k0_pay128]

/-- The four heads' columns of the output block. -/
abbrev laid (w0 w1 w2 w3 : FVec Ideal S1x256x128 .bf16) (i0 : ∀ a, (![0, 0, 0] : Fin 3 → ℕ) a + S1x256x128.size a ≤ S1x256x512.size a)
    (i1 : ∀ a, (![0, 0, 128] : Fin 3 → ℕ) a + S1x256x128.size a ≤ S1x256x512.size a) (i2 : ∀ a, (![0, 0, 256] : Fin 3 → ℕ) a + S1x256x128.size a ≤ S1x256x512.size a)
    (i3 : ∀ a, (![0, 0, 384] : Fin 3 → ℕ) a + S1x256x128.size a ≤ S1x256x512.size a) : List (View.Piece (Elt Ideal) S1x256x512 .bf16) :=
  [⟨Rect.unit (s := S1x256x512) ![0, 0, 384] S1x256x128.size i3, w3⟩, ⟨Rect.unit (s := S1x256x512) ![0, 0, 256] S1x256x128.size i2, w2⟩,
    ⟨Rect.unit (s := S1x256x512) ![0, 0, 128] S1x256x128.size i1, w1⟩, ⟨Rect.unit (s := S1x256x512) ![0, 0, 0] S1x256x128.size i0, w0⟩]

/-- Four heads' blocks laid side by side, read at head `g`. -/
theorem laid_canon (w0 w1 w2 w3 : FVec Ideal S1x256x128 .bf16) (i0 i1 i2 i3) (g : Fin 4) (p : Fin 256) (e : Fin 128) :
    View.canon (laid w0 w1 w2 w3 i0 i1 i2 i3) (ix3 0 p ⟨g * 128 + e, by omega⟩) = (![w0, w1, w2, w3] g) (ix3 0 p e) := by
  have hp := e.isLt
  match g with
  | 3 => exact col_hit 384 _ _ _ p e _ (by simp) (by simp)
  | 2 => exact (col_skip 384 _ _ _ _ (by simp; omega)).trans (col_hit 256 _ _ _ p e _ (by simp) (by simp))
  | 1 => exact (col_skip 384 _ _ _ _ (by simp; omega)).trans ((col_skip 256 _ _ _ _ (by simp; omega)).trans (col_hit 128 _ _ _ p e _ (by simp) (by simp)))
  | 0 => exact (col_skip 384 _ _ _ _ (by simp; omega)).trans ((col_skip 256 _ _ _ _ (by simp; omega)).trans
      ((col_skip 128 _ _ _ _ (by simp)).trans (col_hit 0 _ _ _ p e _ (by simp) (by simp))))

/-- The quarter of the accumulator's rows from `r0`, its columns from `d0`. -/
abbrev quarter (v : View sig' κ sp S1024x256 .f32) (L : List (View.Piece (Elt Ideal) S1024x256 .f32)) (r0 d0 : ℕ)
    (inb : ∀ a, (![r0, d0] : Fin 2 → ℕ) a + S256x128.size a ≤ S1024x256.size a) : FVec Ideal S256x128 .f32 :=
  v.readCov L (Rect.unit (s := S1024x256) ![r0, d0] S256x128.size inb).toLoadRect

/-- Once `n` keys are in and the values' last 128 columns are ones, the output block holds the attention. -/
theorem Acc.out {n : ℕ} (hn : 0 < n) {m : FVec Ideal S1024x128 .f32} (v : View sig' κ sp S1024x256 .f32) (L : List (View.Piece (Elt Ideal) S1024x256 .f32))
    (h : Acc S V n m (View.canon L)) (hV : ∀ j, j < n → ∀ d : Fin 128, V j ⟨128 + d, by omega⟩ = 1) (i0 i1 i2 i3 j0 j1 j2 j3 k0 k1 k2 k3)
    (g : Fin 4) (p : Fin 256) (d : Fin 128) :
    View.canon (laid (k0_pay128 (quarter v L 0 0 j0) (quarter v L 0 128 k0)) (k0_pay128 (quarter v L 256 0 j1) (quarter v L 256 128 k1))
      (k0_pay128 (quarter v L 512 0 j2) (quarter v L 512 128 k2)) (k0_pay128 (quarter v L 768 0 j3) (quarter v L 768 128 k3)) i0 i1 i2 i3)
      (ix3 0 p ⟨g * 128 + d, by omega⟩) = attnVal n (S ⟨g * 256 + p, by omega⟩) fun j => V j ⟨d, by omega⟩ := by
  rw [laid_canon]
  obtain ⟨M, -, ha⟩ := h
  have hx : ∀ (b : ℕ) (hb : b + 256 ≤ 1024) (j k), (k0_pay128 (F := Ideal) (quarter v L b 0 j) (quarter v L b 128 k) (ix3 0 p d) : EReal)
      = attnVal n (S ⟨b + p, by omega⟩) fun j => V j ⟨d, by omega⟩ := fun b hb j k => by
    have e1 : quarter v L b 0 j (ix2 p d) = View.canon L (ix2 ⟨b + p, by omega⟩ ⟨d, by omega⟩) := by
      unfold quarter
      rw [View.readCov_eq_canon']
      refine congrArg (View.canon L) ?_
      funext a; apply Fin.ext
      match a with | 0 => simp | 1 => simp
    have e2 : quarter v L b 128 k (ix2 p d) = View.canon L (ix2 ⟨b + p, by omega⟩ ⟨128 + d, by omega⟩) := by
      unfold quarter
      rw [View.readCov_eq_canon']
      refine congrArg (View.canon L) ?_
      funext a; apply Fin.ext
      match a with | 0 => simp | 1 => simp
    rw [pay128_apply, e1, e2, ha, ha, ← acc_div n hn _ (M ⟨b + p, by omega⟩)]
    congr 1
    exact Finset.sum_congr rfl fun j hj => by dsimp only; rw [hV j (Finset.mem_range.mp hj) d]
  match g with
  | 0 => exact (hx 0 (by omega) _ _).trans (by congr 2)
  | 1 => exact hx 256 (by omega) _ _
  | 2 => exact hx 512 (by omega) _ _
  | 3 => exact hx 768 (by omega) _ _

/-! ## The values beside ones -/

/-- The scratch of values: the values in the first 128 columns, ones in the others. -/
theorem ones_canon (mr : Memref sig' κ sp S1x8448x128 .bf16) (h : mr.IsWhole) (x2 : Vec Ideal S1x8448x128 .bf16) (i0 i1 j)
    (hv : ∀ (k : Fin 8448) (d : Fin 128), x2 (ix3 0 k d) = V k ⟨d, by omega⟩) (h1 : ∀ k (d : Fin 128), V k ⟨128 + d, by omega⟩ = 1)
    (k : Fin 8448) (d : Fin 256) :
    View.canon [⟨Rect.unit (s := S8448x256) ![0, 128] S8448x128.size i1, k0_pay111 (F := Ideal)⟩,
      (⟨Rect.unit (s := S8448x256) ![0, 0] S8448x128.size i0, k0_pay110 (View.readAt (Elt Ideal) mr.view (Rect.unit (s := S1x8448x128) ![0, 0, 0] S1x8448x128.size j).toLoadRect (h.unread x2))⟩
        : View.Piece (Elt Ideal) S8448x256 .bf16)] (ix2 k d) = V k d := by
  by_cases hd : d.val < 128
  · rw [View.canon_cons_of_not_mem _ _ (by
      rw [Rect.mem_set_unit]; intro h; have := (h 1).1; simp at this; omega)]
    rw [show ix2 k d = (Rect.unit (s := S8448x256) ![0, 0] S8448x128.size i0).emb (ix2 k ⟨d, hd⟩) from by
      funext a; apply Fin.ext; match a with | 0 => simp | 1 => simp, View.canon_cons_emb]
    refine Eq.trans ?_ (hv k ⟨d, hd⟩)
    refine Eq.trans (b := View.readAt (Elt Ideal) mr.view (Rect.unit (s := S1x8448x128) ![0, 0, 0] S1x8448x128.size j).toLoadRect (h.unread x2) (ix3 0 k ⟨d, hd⟩)) ?_ ?_
    · pointwise [k0_pay110]
    · rw [block_read]
      refine congrArg x2 ?_
      funext a; apply Fin.ext
      match a with | 0 => simp | 1 => simp | 2 => simp
  · rw [show ix2 k d = (Rect.unit (s := S8448x256) ![0, 128] S8448x128.size i1).emb (ix2 k ⟨d - 128, by omega⟩) from by
      funext a; apply Fin.ext; match a with | 0 => simp | 1 => simp; omega, View.canon_cons_emb]
    have e : d = ⟨128 + (d - 128), by omega⟩ := Fin.ext (by simp; omega)
    refine Eq.trans ?_ ((congrArg (V k) e).trans (h1 k ⟨d - 128, by omega⟩)).symm
    pointwise [k0_pay111]

/-- The maxima before the first key are below every real. -/
theorem below_init : Below (k0_pay118 k0_pay116) := fun r l => by
  obtain ⟨a, ha, h⟩ := (st_zero (S := fun _ _ => 0) (V := fun _ _ => 0)).1 r
  rw [h]; exact ha

/-- A chunk's scores as stored. -/
theorem pay11_apply (k : Vec Ideal S1x2048x128 .bf16) (q : Vec Ideal S1024x128 .bf16) (r : Fin 1024) (j : Fin 2048) :
    k0_pay11 k q (ix4 0 0 r j) = k0_pay10 k q (ix2 r j) := by
  unfold k0_pay11
  generalize k0_pay10 k q = s
  pointwise

/-- The same of 256 keys. -/
theorem pay4_apply (k : Vec Ideal S1x256x128 .bf16) (q : Vec Ideal S1024x128 .bf16) (r : Fin 1024) (j : Fin 256) :
    k0_pay4 k q (ix4 0 0 r j) = k0_pay3 k q (ix2 r j) := by
  unfold k0_pay4
  generalize k0_pay3 k q = s
  pointwise

end Cert.Attn
-- ==== Proof.CaseA.lean ====
module
public import proofs.«01_k».proof.Proof.Steps

@[expose] public section
noncomputable section
namespace Cert.Attn.CaseA
open Idealize.ShloMosaic Idealize.SL.Sem Cert.KernelIdeal Cert.KernelIdeal.Gen Cert.Attn
open scoped BigOperators

/-! # A context query tile: one chunk of 256 keys -/

variable (c : Dev nD) (i : grid0.Coords) (arg3 : Memref sig .tc .vmem S1x256x512 .bf16) (harg3 : arg3.IsWhole)
  (arg4 : Memref sig .tc .vmem S1x8448x128 .bf16) (harg4 : arg4.IsWhole) (arg5 : Memref sig .tc .vmem S1x8448x128 .bf16) (harg5 : arg5.IsWhole)
  (arg6 : Memref sig .tc .vmem S1x256x512 .bf16) (harg6 : arg6.IsWhole)
  (arg7 : Memref sig .tc .vmem S8448x256 .bf16) (harg7 : arg7.IsWhole) (arg8 : Memref sig .tc .vmem S1024x128 .bf16) (harg8 : arg8.IsWhole)
  (arg9 : Memref sig .tc .vmem S2x2x1024x2048 .f32) (harg9 : arg9.IsWhole) (arg10 : Memref sig .tc .vmem S1024x128 .f32) (harg10 : arg10.IsWhole)
  (arg11 : Memref sig .tc .vmem S1024x128 .f32) (harg11 : arg11.IsWhole) (arg12 : Memref sig .tc .vmem S1024x256 .f32) (harg12 : arg12.IsWhole)
  (hc0 : cond0_0 i) (hc1 : cond0_1 i) (hc2 : ¬cond0_2 i)
  (x0 : Vec Ideal S1x256x512 .bf16) (x1 x2 : Vec Ideal S1x8448x128 .bf16)
  (Q : Fin 1024 → Fin 128 → ℝ) (K : ℕ → Fin 128 → ℝ) (V : ℕ → Fin 256 → EReal)
  (hQ : ∀ r e, kernelRun0_A.sl.v70 c arg3 harg3 arg8 x0 (ix2 r e) = ((Q r e : ℝ) : EReal))
  (hK : ∀ (j : Fin 8448) e, x1 (ix3 0 j e) = ((K j e : ℝ) : EReal))
  (hv : ∀ (k : Fin 8448) (d : Fin 128), x2 (ix3 0 k d) = V k ⟨d, lo_lt d⟩) (h1 : ∀ k (d : Fin 128), V k ⟨128 + d, hi_lt d⟩ = 1)

include hQ hK in
/-- The chunk's scores. -/
theorem scores (b : ℕ) (inb) (r : Fin 1024) (j : Fin 256) :
    k0_pay3 (View.readAt (Elt Ideal) arg4.view (Rect.unit (s := S1x8448x128) ![0, b, 0] S1x256x128.size inb).toLoadRect (harg4.unread x1))
      (kernelRun0_A.sl.v70 c arg3 harg3 arg8 x0) (ix2 r j) = ((sc Q K r (b + j) : ℝ) : EReal) :=
  pay3_real Q K b _ _ hQ (keys256 arg4 harg4 x1 K hK b inb) r j

include hQ hK in
/-- Its lane maxima. -/
theorem maxes : Real2 (kernelRun0_A.sl.v83 c arg3 harg3 arg4 harg4 arg8 arg10 x0 x1) := by
  have e : kernelRun0_A.sl.v83 c arg3 harg3 arg4 harg4 arg8 arg10 x0 x1
      = k0_pay5 _ (kernelRun0_A.sl.v70 c arg3 harg3 arg8 x0) (kernelRun0_A.sl.v75 c arg10) :=
    View.readCov_cons_unit_lit' _ _ _ _ _ (by decide) (by decide)
  have e' : kernelRun0_A.sl.v75 (F := Ideal) c arg10 = k0_pay118 (F := Ideal) k0_pay116 :=
    View.readCov_cons_unit_lit' _ _ _ _ _ (by decide) (by decide)
  rw [e, e']
  exact maxes2 _ _ _ below_init fun r j => ⟨_, scores c arg3 harg3 arg4 harg4 arg8 x0 x1 Q K hQ hK _ _ r j⟩

include hQ hK in
/-- A slice of its scores, read back. -/
theorem slice (b : ℕ) (hb : b + 128 ≤ 256) (inb) (r : Fin 1024) (x : Fin 128) :
    arg9.view.readCov (kernelRun0_A.sl.HS2_1 c arg3 harg3 arg4 harg4 arg8 x0 x1) (Rect.unit (s := S2x2x1024x2048) ![0, 0, 0, b] S1x1x1024x128.size inb).toLoadRect (ix4 0 0 r x)
      = ((sc Q K r (0 + (b + x)) : ℝ) : EReal) := by
  rw [View.readCov_eq_canon', kernelRun0_A.sl.HS2_1]
  dsimp only
  refine (buf_hit 0 0 256 _ _ _ r ⟨b + x, by omega⟩ _ (by simp) (by simp) (by simp) (by simp)).trans ?_
  exact (pay4_apply _ _ _ _).trans (scores c arg3 harg3 arg4 harg4 arg8 x0 x1 Q K hQ hK _ _ _ _)

include hQ hK in
/-- The chunk settled. -/
theorem acc0 : Acc (sc Q K) V 0 (kernelRun0_A.sl.v108 c arg3 harg3 arg4 harg4 arg8 arg10 arg11 x0 x1)
    (View.canon (kernelRun0_A.sl.HS5_3 c arg3 harg3 arg4 harg4 arg8 arg10 arg11 arg12 x0 x1)) := by
  have e : kernelRun0_A.sl.v108 c arg3 harg3 arg4 harg4 arg8 arg10 arg11 x0 x1
      = k0_pay8 (kernelRun0_A.sl.v83 c arg3 harg3 arg4 harg4 arg8 arg10 x0 x1) (kernelRun0_A.sl.v88 c arg11) :=
    View.readCov_cons_unit_lit' _ _ _ _ _ (by decide) (by decide)
  have e' : kernelRun0_A.sl.v88 (F := Ideal) c arg11 = k0_pay118 (F := Ideal) k0_pay116 :=
    View.readCov_cons_unit_lit' _ _ _ _ _ (by decide) (by decide)
  have h : St (sc Q K) V 0 (kernelRun0_A.sl.v88 (F := Ideal) c arg11) (View.canon (kernelRun0_A.sl.HS5_1 (F := Ideal))) := by
    rw [e', kernelRun0_A.sl.HS5_1, View.canon_cons_unit_lit' _ _ _ (by decide)]
    exact st_zero
  rw [e]
  exact h.settle_halves arg12.view _ _ (maxes c arg3 harg3 arg4 harg4 arg8 arg10 x0 x1 Q K hQ hK) _ _ _ _

include hv h1 in
/-- The scratch of values, as the tile leaves it. -/
theorem vals (k : Fin 8448) (d : Fin 256) : View.canon (kernelRun0_A.sl.HS0_2 c arg5 harg5 x2) (ix2 k d) = V k d :=
  ones_canon arg5 harg5 x2 _ _ _ hv h1 k d

include hQ hK hv h1 in
/-- The chunk added. -/
theorem acc1 : Acc (sc Q K) V 256 (kernelRun0_A.sl.v108 c arg3 harg3 arg4 harg4 arg8 arg10 arg11 x0 x1)
    (View.canon (kernelRun0_A.sl.HS5_4 c arg3 harg3 arg4 harg4 arg5 harg5 arg7 arg8 arg9 arg10 arg11 arg12 x0 x1 x2)) := by
  refine (acc0 c arg3 harg3 arg4 harg4 arg8 arg10 arg11 arg12 x0 x1 Q K V hQ hK).put2 arg12.view _ _ _ _
    (fun r x => (slice c arg3 harg3 arg4 harg4 arg8 arg9 x0 x1 Q K hQ hK 0 (by omega) _ r x).trans (by rw [Nat.zero_add]))
    (fun r x => (slice c arg3 harg3 arg4 harg4 arg8 arg9 x0 x1 Q K hQ hK 128 (by omega) _ r x).trans (by rw [Nat.add_assoc])) (fun j d => ?_) _ _
  have e := vals c arg5 harg5 x2 V hv h1 ⟨0 + j, by omega⟩ d
  refine Eq.trans ?_ e
  show arg7.view.readCov (kernelRun0_A.sl.HS0_2 c arg5 harg5 x2) _ _ = _
  rw [View.readCov_eq_canon']
  refine congrArg (View.canon _) ?_
  funext a; apply Fin.ext
  match a with | 0 => simp | 1 => simp

/-- The output block of a context tile: the attention over the context's 256 keys. -/
theorem out (hQ : ∀ (g : Fin 4) (p : Fin 256) (e : Fin 128), x0 (ix3 0 p ⟨g * 128 + e, col_lt g e⟩) = ((Q ⟨g * 256 + p, row_lt g p⟩ e : ℝ) : EReal))
    (hK : ∀ (j : Fin 8448) e, x1 (ix3 0 j e) = ((K j e : ℝ) : EReal))
    (hv : ∀ (k : Fin 8448) (d : Fin 128), x2 (ix3 0 k d) = V k ⟨d, lo_lt d⟩) (h1 : ∀ k (d : Fin 128), V k ⟨128 + d, hi_lt d⟩ = 1)
    (g : Fin 4) (p : Fin 256) (d : Fin 128) :
    out0_A_3 c i arg3 harg3 arg4 harg4 arg5 harg5 arg6 harg6 arg7 harg7 arg8 harg8 arg9 harg9 arg10 harg10 arg11 harg11 arg12 harg12 hc0 hc1 hc2 x0 x1 x2
      (ix3 0 p ⟨g * 128 + d, col_lt g d⟩) = attnVal 256 (sc Q K ⟨g * 256 + p, row_lt g p⟩) fun j => V j ⟨d, lo_lt d⟩ := by
  have hq : ∀ r e, kernelRun0_A.sl.v70 c arg3 harg3 arg8 x0 (ix2 r e) = ((Q r e : ℝ) : EReal) := fun r e =>
    stack_real arg8.view arg3 harg3 x0 Q hQ _ _ _ _ _ _ _ _ _ r e
  unfold out0_A_3
  rw [View.read_writes_junk_eq_canon]
  exact (acc1 c arg3 harg3 arg4 harg4 arg5 harg5 arg7 arg8 arg9 arg10 arg11 arg12 x0 x1 x2 Q K V hq hK hv h1).out (by omega) arg12.view _
    (fun j _ d => h1 j d) _ _ _ _ _ _ _ _ _ _ _ _ g p d

/-- The scratch a context tile leaves for the tiles after it: the values beside ones. -/
theorem scratch (hv : ∀ (k : Fin 8448) (d : Fin 128), x2 (ix3 0 k d) = V k ⟨d, lo_lt d⟩) (h1 : ∀ k (d : Fin 128), V k ⟨128 + d, hi_lt d⟩ = 1)
    (k : Fin 8448) (d : Fin 256) :
    sout0_A_0 c i arg3 harg3 arg4 harg4 arg5 harg5 arg6 harg6 arg7 harg7 arg8 harg8 arg9 harg9 arg10 harg10 arg11 harg11 arg12 harg12 hc0 hc1 hc2 x0 x1 x2
      (ix2 k d) = V k d := by
  unfold sout0_A_0
  rw [View.read_writes_junk_eq_canon]
  exact vals c arg5 harg5 x2 V hv h1 k d

end Cert.Attn.CaseA
-- ==== Proof.CaseB.lean ====
module
public import proofs.«01_k».proof.Proof.Steps

@[expose] public section
noncomputable section
namespace Cert.Attn.CaseB
open Idealize.ShloMosaic Idealize.SL.Sem Cert.KernelIdeal Cert.KernelIdeal.Gen Cert.Attn
open scoped BigOperators

/-! # A latent query tile: four chunks of keys -/

variable (c : Dev nD) (i : grid0.Coords) (arg3 : Memref sig .tc .vmem S1x256x512 .bf16) (harg3 : arg3.IsWhole)
  (arg4 : Memref sig .tc .vmem S1x8448x128 .bf16) (harg4 : arg4.IsWhole)
  (arg7 : Memref sig .tc .vmem S8448x256 .bf16) (harg7 : arg7.IsWhole) (arg8 : Memref sig .tc .vmem S1024x128 .bf16)
  (arg9 : Memref sig .tc .vmem S2x2x1024x2048 .f32) (arg10 arg11 : Memref sig .tc .vmem S1024x128 .f32)
  (arg12 : Memref sig .tc .vmem S1024x256 .f32) (hc2 : cond0_2 i)
  (x0 : Vec Ideal S1x256x512 .bf16) (x1 : Vec Ideal S1x8448x128 .bf16) (xs0 : Vec Ideal S8448x256 .bf16)
  (Q : Fin 1024 → Fin 128 → ℝ) (K : ℕ → Fin 128 → ℝ) (V : ℕ → Fin 256 → EReal)

/-- A slab of values and their ones, 2048 keys or 256. -/
theorem vals (n : ℕ) (hV : ∀ (j : Fin 8448) d, xs0 (ix2 j d) = V j d) (b : ℕ) (inb) (j : Fin n) (d : Fin 256) :
    View.readAt (Elt Ideal) arg7.view (Rect.unit (s := S8448x256) ![b, 0] ![n, 256] inb).toLoadRect (harg7.unread xs0) (ix2 j d) = V (b + j) d := by
  have hb : b + n ≤ 8448 := inb 0
  rw [block_read, ← hV ⟨b + j, by omega⟩ d]
  congr 1
  funext a; apply Fin.ext
  match a with | 0 => simp | 1 => simp

/-! ## The lane maxima of each chunk -/

variable (hQ : ∀ r e, kernelRun0_B.sl.v74 c arg3 harg3 arg8 x0 (ix2 r e) = ((Q r e : ℝ) : EReal))
  (hK : ∀ (j : Fin 8448) e, x1 (ix3 0 j e) = ((K j e : ℝ) : EReal))
  (hV : ∀ (j : Fin 8448) d, xs0 (ix2 j d) = V j d)

include hQ hK in
/-- The scores with 2048 keys from key `b` on. -/
theorem scores2048 (b : ℕ) (inb) (r : Fin 1024) (j : Fin 2048) :
    k0_pay10 (View.readAt (Elt Ideal) arg4.view (Rect.unit (s := S1x8448x128) ![0, b, 0] S1x2048x128.size inb).toLoadRect (harg4.unread x1))
      (kernelRun0_B.sl.v74 c arg3 harg3 arg8 x0) (ix2 r j) = ((sc Q K r (b + j) : ℝ) : EReal) :=
  pay10_real Q K b _ _ hQ (keys2048 arg4 harg4 x1 K hK b inb) r j

include hQ hK in
/-- The scores with 256 keys from key `b` on. -/
theorem scores256 (b : ℕ) (inb) (r : Fin 1024) (j : Fin 256) :
    k0_pay3 (View.readAt (Elt Ideal) arg4.view (Rect.unit (s := S1x8448x128) ![0, b, 0] S1x256x128.size inb).toLoadRect (harg4.unread x1))
      (kernelRun0_B.sl.v74 c arg3 harg3 arg8 x0) (ix2 r j) = ((sc Q K r (b + j) : ℝ) : EReal) :=
  pay3_real Q K b _ _ hQ (keys256 arg4 harg4 x1 K hK b inb) r j

include hQ hK in
/-- Chunk 0. -/
theorem max0 : Real2 (kernelRun0_B.sl.v131 c i arg3 harg3 arg4 harg4 arg8 arg10 hc2 x0 x1) := by
  have e : kernelRun0_B.sl.v131 c i arg3 harg3 arg4 harg4 arg8 arg10 hc2 x0 x1 = k0_pay16 _ (kernelRun0_B.sl.v74 c arg3 harg3 arg8 x0) (kernelRun0_B.sl.v123 c i arg3 harg3 arg4 harg4 arg8 arg10 hc2 x0 x1) :=
    View.readCov_cons_unit_lit' _ _ _ _ _ (by decide) (by decide)
  have e' : kernelRun0_B.sl.v123 c i arg3 harg3 arg4 harg4 arg8 arg10 hc2 x0 x1 = k0_pay13 (k0_pay12 _ (kernelRun0_B.sl.v74 c arg3 harg3 arg8 x0) (kernelRun0_B.sl.v80 c arg10)) :=
    View.readCov_cons_unit_lit' _ _ _ _ _ (by decide) (by decide)
  have e'' : kernelRun0_B.sl.v80 (F := Ideal) c arg10 = k0_pay118 (F := Ideal) k0_pay116 :=
    View.readCov_cons_unit_lit' _ _ _ _ _ (by decide) (by decide)
  rw [e, show ∀ a b c, k0_pay16 (F := Ideal) a b c = k0_pay5 a b c from fun _ _ _ => rfl]
  refine maxes2 _ _ _ ?_ fun r j => ⟨_, scores256 c arg3 harg3 arg4 harg4 arg8 x0 x1 Q K hQ hK _ _ r j⟩
  rw [e', e'']
  exact (maxes16 _ _ _ below_init fun r j => ⟨_, scores2048 c arg3 harg3 arg4 harg4 arg8 x0 x1 Q K hQ hK _ _ r j⟩).below

include hQ hK in
/-- Chunk 1. -/
theorem max1 : Real2 (kernelRun0_B.sl.v314 c i arg3 harg3 arg4 harg4 arg8 arg10 hc2 x0 x1) := by
  have e : kernelRun0_B.sl.v314 c i arg3 harg3 arg4 harg4 arg8 arg10 hc2 x0 x1
      = k0_pay13 (k0_pay12 _ (kernelRun0_B.sl.v74 c arg3 harg3 arg8 x0) (kernelRun0_B.sl.v168 c i arg3 harg3 arg4 harg4 arg8 arg10 hc2 x0 x1)) :=
    View.readCov_cons_unit_lit' _ _ _ _ _ (by decide) (by decide)
  have e' : kernelRun0_B.sl.v168 c i arg3 harg3 arg4 harg4 arg8 arg10 hc2 x0 x1 = k0_pay118 (F := Ideal) k0_pay116 :=
    View.readCov_cons_unit_lit' _ _ _ _ _ (by decide) (by decide)
  rw [e, e']
  exact maxes16 _ _ _ below_init fun r j => ⟨_, scores2048 c arg3 harg3 arg4 harg4 arg8 x0 x1 Q K hQ hK _ _ r j⟩

include hQ hK in
/-- Chunk 2. -/
theorem max2 : Real2 (kernelRun0_B.sl.v c i arg3 harg3 arg4 harg4 arg8 arg10 hc2 x0 x1) := by
  have e : kernelRun0_B.sl.v c i arg3 harg3 arg4 harg4 arg8 arg10 hc2 x0 x1
      = k0_pay13 (k0_pay12 _ (kernelRun0_B.sl.v74 c arg3 harg3 arg8 x0) (kernelRun0_B.sl.v351 c i arg3 harg3 arg4 harg4 arg8 arg10 hc2 x0 x1)) :=
    View.readCov_cons_unit_lit' _ _ _ _ _ (by decide) (by decide)
  have e' : kernelRun0_B.sl.v351 c i arg3 harg3 arg4 harg4 arg8 arg10 hc2 x0 x1 = k0_pay118 (F := Ideal) k0_pay116 :=
    View.readCov_cons_unit_lit' _ _ _ _ _ (by decide) (by decide)
  rw [e, e']
  exact maxes16 _ _ _ below_init fun r j => ⟨_, scores2048 c arg3 harg3 arg4 harg4 arg8 x0 x1 Q K hQ hK _ _ r j⟩

include hQ hK in
/-- Chunk 3. -/
theorem max3 : Real2 (kernelRun0_B.sl.v644 c i arg3 harg3 arg4 harg4 arg8 arg10 hc2 x0 x1) := by
  have e : kernelRun0_B.sl.v644 c i arg3 harg3 arg4 harg4 arg8 arg10 hc2 x0 x1
      = k0_pay13 (k0_pay12 _ (kernelRun0_B.sl.v74 c arg3 harg3 arg8 x0) (kernelRun0_B.sl.v516 c i arg3 harg3 arg4 harg4 arg8 arg10 hc2 x0 x1)) :=
    View.readCov_cons_unit_lit' _ _ _ _ _ (by decide) (by decide)
  have e' : kernelRun0_B.sl.v516 c i arg3 harg3 arg4 harg4 arg8 arg10 hc2 x0 x1 = k0_pay118 (F := Ideal) k0_pay116 :=
    View.readCov_cons_unit_lit' _ _ _ _ _ (by decide) (by decide)
  rw [e, e']
  exact maxes16 _ _ _ below_init fun r j => ⟨_, scores2048 c arg3 harg3 arg4 harg4 arg8 x0 x1 Q K hQ hK _ _ r j⟩

/-! ## The slices of scores read back from their buffer -/

include hQ hK in
/-- Chunk 0's first 2048 keys. -/
theorem slice0 (t : Fin 16) (inb) (r : Fin 1024) (x : Fin 128) :
    arg9.view.readCov (kernelRun0_B.sl.HS2_3 c i arg3 harg3 arg4 harg4 arg8 hc2 x0 x1) (Rect.unit (s := S2x2x1024x2048) ![0, 0, 0, 128 * t] S1x1x1024x128.size inb).toLoadRect (ix4 0 0 r x)
      = ((sc Q K r (0 + (128 * t + x)) : ℝ) : EReal) := by
  rw [View.readCov_eq_canon', kernelRun0_B.sl.HS2_3]
  dsimp only
  refine (buf_skip 1 0 2048 _ _ _ _ (Or.inl (by simp))).trans ((buf_skip 0 1 256 _ _ _ _ (Or.inr (by simp))).trans
    ((buf_hit 0 0 2048 _ _ _ r ⟨128 * t + x, by omega⟩ _ (by simp) (by simp) (by simp) (by simp)).trans ?_))
  exact (pay11_apply _ _ _ _).trans (scores2048 c arg3 harg3 arg4 harg4 arg8 x0 x1 Q K hQ hK _ _ _ _)

include hQ hK in
/-- Chunk 0's last 256 keys. -/
theorem slice0' (b : ℕ) (hb : b + 128 ≤ 256) (inb) (r : Fin 1024) (x : Fin 128) :
    arg9.view.readCov (kernelRun0_B.sl.HS2_3 c i arg3 harg3 arg4 harg4 arg8 hc2 x0 x1) (Rect.unit (s := S2x2x1024x2048) ![0, 1, 0, b] S1x1x1024x128.size inb).toLoadRect (ix4 0 0 r x)
      = ((sc Q K r (2048 + (b + x)) : ℝ) : EReal) := by
  rw [View.readCov_eq_canon', kernelRun0_B.sl.HS2_3]
  dsimp only
  refine (buf_skip 1 0 2048 _ _ _ _ (Or.inl (by simp))).trans
    ((buf_hit 0 1 256 _ _ _ r ⟨b + x, by omega⟩ _ (by simp) (by simp) (by simp) (by simp)).trans ?_)
  exact (pay4_apply _ _ _ _).trans (scores256 c arg3 harg3 arg4 harg4 arg8 x0 x1 Q K hQ hK _ _ _ _)

include hQ hK in
/-- Chunk 1. -/
theorem slice1 (t : Fin 16) (inb) (r : Fin 1024) (x : Fin 128) :
    arg9.view.readCov (kernelRun0_B.sl.HS2_4 c i arg3 harg3 arg4 harg4 arg8 hc2 x0 x1) (Rect.unit (s := S2x2x1024x2048) ![1, 0, 0, 128 * t] S1x1x1024x128.size inb).toLoadRect (ix4 0 0 r x)
      = ((sc Q K r (2304 + (128 * t + x)) : ℝ) : EReal) := by
  rw [View.readCov_eq_canon', kernelRun0_B.sl.HS2_4, kernelRun0_B.sl.HS2_3]
  dsimp only
  refine (buf_skip 0 0 2048 _ _ _ _ (Or.inl (by simp))).trans
    ((buf_hit 1 0 2048 _ _ _ r ⟨128 * t + x, by omega⟩ _ (by simp) (by simp) (by simp) (by simp)).trans ?_)
  exact (pay11_apply _ _ _ _).trans (scores2048 c arg3 harg3 arg4 harg4 arg8 x0 x1 Q K hQ hK _ _ _ _)

include hQ hK in
/-- Chunk 2. -/
theorem slice2 (t : Fin 16) (inb) (r : Fin 1024) (x : Fin 128) :
    arg9.view.readCov (kernelRun0_B.sl.HS2_5 c i arg3 harg3 arg4 harg4 arg8 hc2 x0 x1) (Rect.unit (s := S2x2x1024x2048) ![0, 0, 0, 128 * t] S1x1x1024x128.size inb).toLoadRect (ix4 0 0 r x)
      = ((sc Q K r (4352 + (128 * t + x)) : ℝ) : EReal) := by
  rw [View.readCov_eq_canon', kernelRun0_B.sl.HS2_5, kernelRun0_B.sl.HS2_4]
  dsimp only
  refine (buf_skip 1 0 2048 _ _ _ _ (Or.inl (by simp))).trans
    ((buf_hit 0 0 2048 _ _ _ r ⟨128 * t + x, by omega⟩ _ (by simp) (by simp) (by simp) (by simp)).trans ?_)
  exact (pay11_apply _ _ _ _).trans (scores2048 c arg3 harg3 arg4 harg4 arg8 x0 x1 Q K hQ hK _ _ _ _)

include hQ hK in
/-- Chunk 3. -/
theorem slice3 (t : Fin 16) (inb) (r : Fin 1024) (x : Fin 128) :
    arg9.view.readCov (kernelRun0_B.sl.HS2_5 c i arg3 harg3 arg4 harg4 arg8 hc2 x0 x1) (Rect.unit (s := S2x2x1024x2048) ![1, 0, 0, 128 * t] S1x1x1024x128.size inb).toLoadRect (ix4 0 0 r x)
      = ((sc Q K r (6400 + (128 * t + x)) : ℝ) : EReal) := by
  rw [View.readCov_eq_canon', kernelRun0_B.sl.HS2_5]
  dsimp only
  refine ((buf_hit 1 0 2048 _ _ _ r ⟨128 * t + x, by omega⟩ _ (by simp) (by simp) (by simp) (by simp)).trans ?_)
  exact (pay11_apply _ _ _ _).trans (scores2048 c arg3 harg3 arg4 harg4 arg8 x0 x1 Q K hQ hK _ _ _ _)

/-! ## The chunks in turn -/

/-- A 128-column slice lies in the score buffer. -/
theorem slice_inb (b jj : ℕ) (hb : b < 2) (hj : jj < 2) (t : Fin 16) (a : Fin 4) :
    (![b, jj, 0, 128 * t.val] : Fin 4 → ℕ) a + S1x1x1024x128.size a ≤ S2x2x1024x2048.size a := by
  match a with
  | 0 => show b + 1 ≤ 2; omega
  | 1 => show jj + 1 ≤ 2; omega
  | 2 => show 0 + 1024 ≤ 1024; omega
  | 3 => show 128 * t.val + 128 ≤ 2048; omega

include hQ hK in
/-- Chunk 0 settled. -/
theorem acc0 : Acc (sc Q K) V 0 (kernelRun0_B.sl.v205 c i arg3 harg3 arg4 harg4 arg8 arg10 arg11 hc2 x0 x1) (View.canon (kernelRun0_B.sl.HS5_3 c i arg3 harg3 arg4 harg4 arg8 arg10 arg11 arg12 hc2 x0 x1)) := by
  have e : kernelRun0_B.sl.v205 c i arg3 harg3 arg4 harg4 arg8 arg10 arg11 hc2 x0 x1 = k0_pay8 (kernelRun0_B.sl.v131 c i arg3 harg3 arg4 harg4 arg8 arg10 hc2 x0 x1) (kernelRun0_B.sl.v136 c arg11) :=
    View.readCov_cons_unit_lit' _ _ _ _ _ (by decide) (by decide)
  have e' : kernelRun0_B.sl.v136 (F := Ideal) c arg11 = k0_pay118 (F := Ideal) k0_pay116 :=
    View.readCov_cons_unit_lit' _ _ _ _ _ (by decide) (by decide)
  have h : St (sc Q K) V 0 (kernelRun0_B.sl.v136 (F := Ideal) c arg11) (View.canon (kernelRun0_B.sl.HS5_1 (F := Ideal))) := by
    rw [e', kernelRun0_B.sl.HS5_1, View.canon_cons_unit_lit' _ _ _ (by decide)]
    exact st_zero
  rw [e]
  exact h.settle_halves arg12.view _ _ (max0 c i arg3 harg3 arg4 harg4 arg8 arg10 hc2 x0 x1 Q K hQ hK) _ _ _ _

include hQ hK hV in
/-- Chunk 0 added. -/
theorem acc0' : Acc (sc Q K) V 2304 (kernelRun0_B.sl.v205 c i arg3 harg3 arg4 harg4 arg8 arg10 arg11 hc2 x0 x1) (View.canon (kernelRun0_B.sl.HS5_5 c i arg3 harg3 arg4 harg4 arg7 harg7 arg8 arg9 arg10 arg11 arg12 hc2 x0 x1 xs0)) := by
  have h := acc0 c i arg3 harg3 arg4 harg4 arg8 arg10 arg11 arg12 hc2 x0 x1 Q K V hQ hK
  have h1 : Acc (sc Q K) V 2048 (kernelRun0_B.sl.v205 c i arg3 harg3 arg4 harg4 arg8 arg10 arg11 hc2 x0 x1) (View.canon (kernelRun0_B.sl.HS5_4 c i arg3 harg3 arg4 harg4 arg7 harg7 arg8 arg9 arg10 arg11 arg12 hc2 x0 x1 xs0)) :=
    h.put16 arg12.view _ (fun t => arg9.view.readCov (kernelRun0_B.sl.HS2_3 c i arg3 harg3 arg4 harg4 arg8 hc2 x0 x1)
      (Rect.unit (s := S2x2x1024x2048) ![0, 0, 0, 128 * t] S1x1x1024x128.size (slice_inb 0 0 (by omega) (by omega) t)).toLoadRect) _
      (fun t r x => slice0 c i arg3 harg3 arg4 harg4 arg8 arg9 hc2 x0 x1 Q K hQ hK t _ r x) (fun j d => vals arg7 harg7 xs0 V 2048 hV 0 _ j d) _ _
  exact h1.put2 arg12.view _ _ _ _ (fun r x => (slice0' c i arg3 harg3 arg4 harg4 arg8 arg9 hc2 x0 x1 Q K hQ hK 0 (by omega) _ r x).trans (by rw [Nat.zero_add]))
    (fun r x => (slice0' c i arg3 harg3 arg4 harg4 arg8 arg9 hc2 x0 x1 Q K hQ hK 128 (by omega) _ r x).trans (by rw [Nat.add_assoc])) (fun j d => vals arg7 harg7 xs0 V 256 hV 2048 _ j d) _ _

include hQ hK hV in
/-- Chunk 1 settled and added. -/
theorem acc1 : Acc (sc Q K) V 4352 (kernelRun0_B.sl.v388 c i arg3 harg3 arg4 harg4 arg8 arg10 arg11 hc2 x0 x1) (View.canon (kernelRun0_B.sl.HS5_8 c i arg3 harg3 arg4 harg4 arg7 harg7 arg8 arg9 arg10 arg11 arg12 hc2 x0 x1 xs0)) := by
  have e : kernelRun0_B.sl.v388 c i arg3 harg3 arg4 harg4 arg8 arg10 arg11 hc2 x0 x1 = k0_pay8 (kernelRun0_B.sl.v314 c i arg3 harg3 arg4 harg4 arg8 arg10 hc2 x0 x1) (kernelRun0_B.sl.v205 c i arg3 harg3 arg4 harg4 arg8 arg10 arg11 hc2 x0 x1) :=
    View.readCov_cons_unit_lit' _ _ _ _ _ (by decide) (by decide)
  have h : Acc (sc Q K) V 2304 (kernelRun0_B.sl.v388 c i arg3 harg3 arg4 harg4 arg8 arg10 arg11 hc2 x0 x1) (View.canon (kernelRun0_B.sl.HS5_7 c i arg3 harg3 arg4 harg4 arg7 harg7 arg8 arg9 arg10 arg11 arg12 hc2 x0 x1 xs0)) := by
    rw [e]
    exact (acc0' c i arg3 harg3 arg4 harg4 arg7 harg7 arg8 arg9 arg10 arg11 arg12 hc2 x0 x1 xs0 Q K V hQ hK hV).st.settle_halves arg12.view _ _ (max1 c i arg3 harg3 arg4 harg4 arg8 arg10 hc2 x0 x1 Q K hQ hK) _ _ _ _
  exact h.put16 arg12.view _ (fun t => arg9.view.readCov (kernelRun0_B.sl.HS2_4 c i arg3 harg3 arg4 harg4 arg8 hc2 x0 x1)
      (Rect.unit (s := S2x2x1024x2048) ![1, 0, 0, 128 * t] S1x1x1024x128.size (slice_inb 1 0 (by omega) (by omega) t)).toLoadRect) _
      (fun t r x => slice1 c i arg3 harg3 arg4 harg4 arg8 arg9 hc2 x0 x1 Q K hQ hK t _ r x) (fun j d => vals arg7 harg7 xs0 V 2048 hV 2304 _ j d) _ _

include hQ hK hV in
/-- Chunk 2 settled and added. -/
theorem acc2 : Acc (sc Q K) V 6400 (kernelRun0_B.sl.v553 c i arg3 harg3 arg4 harg4 arg8 arg10 arg11 hc2 x0 x1) (View.canon (kernelRun0_B.sl.HS5_11 c i arg3 harg3 arg4 harg4 arg7 harg7 arg8 arg9 arg10 arg11 arg12 hc2 x0 x1 xs0)) := by
  have e : kernelRun0_B.sl.v553 c i arg3 harg3 arg4 harg4 arg8 arg10 arg11 hc2 x0 x1 = k0_pay8 (kernelRun0_B.sl.v c i arg3 harg3 arg4 harg4 arg8 arg10 hc2 x0 x1) (kernelRun0_B.sl.v388 c i arg3 harg3 arg4 harg4 arg8 arg10 arg11 hc2 x0 x1) :=
    View.readCov_cons_unit_lit' _ _ _ _ _ (by decide) (by decide)
  have h : Acc (sc Q K) V 4352 (kernelRun0_B.sl.v553 c i arg3 harg3 arg4 harg4 arg8 arg10 arg11 hc2 x0 x1) (View.canon (kernelRun0_B.sl.HS5_10 c i arg3 harg3 arg4 harg4 arg7 harg7 arg8 arg9 arg10 arg11 arg12 hc2 x0 x1 xs0)) := by
    rw [e]
    exact (acc1 c i arg3 harg3 arg4 harg4 arg7 harg7 arg8 arg9 arg10 arg11 arg12 hc2 x0 x1 xs0 Q K V hQ hK hV).st.settle_halves arg12.view _ _ (max2 c i arg3 harg3 arg4 harg4 arg8 arg10 hc2 x0 x1 Q K hQ hK) _ _ _ _
  exact h.put16 arg12.view _ (fun t => arg9.view.readCov (kernelRun0_B.sl.HS2_5 c i arg3 harg3 arg4 harg4 arg8 hc2 x0 x1)
      (Rect.unit (s := S2x2x1024x2048) ![0, 0, 0, 128 * t] S1x1x1024x128.size (slice_inb 0 0 (by omega) (by omega) t)).toLoadRect) _
      (fun t r x => slice2 c i arg3 harg3 arg4 harg4 arg8 arg9 hc2 x0 x1 Q K hQ hK t _ r x) (fun j d => vals arg7 harg7 xs0 V 2048 hV 4352 _ j d) _ _

/-- The weights of the last chunk, spelled as the earlier ones are. -/
theorem weights3 : kernelRun0_B.sl.v753 c i arg3 harg3 arg4 harg4 arg8 arg9 arg10 arg11 hc2 x0 x1
    = cat16 (kernelRun0_B.sl.v672 c i arg3 harg3 arg4 harg4 arg8 arg10 arg11 hc2 x0 x1) fun t => arg9.view.readCov (kernelRun0_B.sl.HS2_5 c i arg3 harg3 arg4 harg4 arg8 hc2 x0 x1)
      (Rect.unit (s := S2x2x1024x2048) ![1, 0, 0, 128 * t] S1x1x1024x128.size (slice_inb 1 0 (by omega) (by omega) t)).toLoadRect :=
  cat16_last (kernelRun0_B.sl.v672 c i arg3 harg3 arg4 harg4 arg8 arg10 arg11 hc2 x0 x1) fun t => arg9.view.readCov (kernelRun0_B.sl.HS2_5 c i arg3 harg3 arg4 harg4 arg8 hc2 x0 x1)
      (Rect.unit (s := S2x2x1024x2048) ![1, 0, 0, 128 * t] S1x1x1024x128.size (slice_inb 1 0 (by omega) (by omega) t)).toLoadRect

include hQ hK hV in
/-- Chunk 3 settled and added. -/
theorem acc3 : Acc (sc Q K) V 8448 (kernelRun0_B.sl.v672 c i arg3 harg3 arg4 harg4 arg8 arg10 arg11 hc2 x0 x1) (View.canon (kernelRun0_B.sl.HS5_14 c i arg3 harg3 arg4 harg4 arg7 harg7 arg8 arg9 arg10 arg11 arg12 hc2 x0 x1 xs0)) := by
  have e : kernelRun0_B.sl.v672 c i arg3 harg3 arg4 harg4 arg8 arg10 arg11 hc2 x0 x1 = k0_pay8 (kernelRun0_B.sl.v644 c i arg3 harg3 arg4 harg4 arg8 arg10 hc2 x0 x1) (kernelRun0_B.sl.v553 c i arg3 harg3 arg4 harg4 arg8 arg10 arg11 hc2 x0 x1) :=
    View.readCov_cons_unit_lit' _ _ _ _ _ (by decide) (by decide)
  have h : Acc (sc Q K) V 6400 (kernelRun0_B.sl.v672 c i arg3 harg3 arg4 harg4 arg8 arg10 arg11 hc2 x0 x1) (View.canon (kernelRun0_B.sl.HS5_13 c i arg3 harg3 arg4 harg4 arg7 harg7 arg8 arg9 arg10 arg11 arg12 hc2 x0 x1 xs0)) := by
    rw [e]
    exact (acc2 c i arg3 harg3 arg4 harg4 arg7 harg7 arg8 arg9 arg10 arg11 arg12 hc2 x0 x1 xs0 Q K V hQ hK hV).st.settle_halves arg12.view _ _ (max3 c i arg3 harg3 arg4 harg4 arg8 arg10 hc2 x0 x1 Q K hQ hK) _ _ _ _
  rw [kernelRun0_B.sl.HS5_14, weights3]
  exact h.put16 arg12.view _ (fun t => arg9.view.readCov (kernelRun0_B.sl.HS2_5 c i arg3 harg3 arg4 harg4 arg8 hc2 x0 x1)
      (Rect.unit (s := S2x2x1024x2048) ![1, 0, 0, 128 * t] S1x1x1024x128.size (slice_inb 1 0 (by omega) (by omega) t)).toLoadRect) _
      (fun t r x => slice3 c i arg3 harg3 arg4 harg4 arg8 arg9 hc2 x0 x1 Q K hQ hK t _ r x) (fun j d => vals arg7 harg7 xs0 V 2048 hV 6400 _ j d) _ _

/-- The output block of a latent tile: the attention over all 8448 keys. -/
theorem out (arg5 : Memref sig .tc .vmem S1x8448x128 .bf16) (harg5 : arg5.IsWhole) (arg6 : Memref sig .tc .vmem S1x256x512 .bf16) (harg6 : arg6.IsWhole)
    (harg8 : arg8.IsWhole) (harg9 : arg9.IsWhole) (harg10 : arg10.IsWhole) (harg11 : arg11.IsWhole) (harg12 : arg12.IsWhole)
    (hc0 : ¬cond0_0 i) (hc1 : ¬cond0_1 i) (x2 : Vec Ideal S1x8448x128 .bf16)
    (hQ : ∀ (g : Fin 4) (p : Fin 256) (e : Fin 128), x0 (ix3 0 p ⟨g * 128 + e, col_lt g e⟩) = ((Q ⟨g * 256 + p, row_lt g p⟩ e : ℝ) : EReal))
    (hK : ∀ (j : Fin 8448) e, x1 (ix3 0 j e) = ((K j e : ℝ) : EReal)) (hV : ∀ (j : Fin 8448) d, xs0 (ix2 j d) = V j d)
    (h1 : ∀ j (d : Fin 128), V j ⟨128 + d, hi_lt d⟩ = 1) (g : Fin 4) (p : Fin 256) (d : Fin 128) :
    out0_B_3 c i arg3 harg3 arg4 harg4 arg5 harg5 arg6 harg6 arg7 harg7 arg8 harg8 arg9 harg9 arg10 harg10 arg11 harg11 arg12 harg12 hc0 hc1 hc2 x0 x1 x2 xs0
      (ix3 0 p ⟨g * 128 + d, col_lt g d⟩) = attnVal 8448 (sc Q K ⟨g * 256 + p, row_lt g p⟩) fun j => V j ⟨d, lo_lt d⟩ := by
  have hq : ∀ r e, kernelRun0_B.sl.v74 c arg3 harg3 arg8 x0 (ix2 r e) = ((Q r e : ℝ) : EReal) := fun r e =>
    stack_real arg8.view arg3 harg3 x0 Q hQ _ _ _ _ _ _ _ _ _ r e
  unfold out0_B_3
  rw [View.read_writes_junk_eq_canon]
  exact (acc3 c i arg3 harg3 arg4 harg4 arg7 harg7 arg8 arg9 arg10 arg11 arg12 hc2 x0 x1 xs0 Q K V hq hK hV).out (by omega) arg12.view _
    (fun j _ d => h1 j d) _ _ _ _ _ _ _ _ _ _ _ _ g p d

end Cert.Attn.CaseB
-- ==== Proof.Array.lean ====
module
public import proofs.«01_k».proof.Proof.Spec
public import proofs.«01_k».proof.Proof.CaseA
public import proofs.«01_k».proof.Proof.CaseB
public import proofs.«01_k».proof.Proof.Gen.KernelIdeal.Value
public import Idealize.ShloMosaic.Lib.Pipeline.ValueKit

@[expose] public section
noncomputable section
namespace Cert.Attn.Array
open Idealize.ShloMosaic Idealize.ShloMosaic.TcCoe Idealize.SL.Sem Cert.KernelIdeal Cert.KernelIdeal.Gen Cert.Attn
open scoped BigOperators

/-! # The kernel's result array: the grid's blocks put together

Point `t` is query tile `t % 33` of key head `t / 33 % 2` of batch `t / 66`. -/

variable (m : (ℓ : Loc nD τ sig) → Buf (Elt Ideal) ℓ) (c : Dev nD)

/-- The kernel's argument. -/
abbrev arg : (⟨3, ![2, 8448, 4608]⟩ : Shape).Idx → EReal := m ((c.tc : Thread nD τ).loc main_arg0)

/-- The windows' block indices at point `t`. -/
theorem idx : ∀ t : Fin cfg0.N, win0_0.index t = ![t.val / 66, t.val % 33, 6 + t.val / 33 % 2] ∧ win0_1.index t = ![t.val / 66, 0, 32 + t.val / 33 % 2]
    ∧ win0_2.index t = ![t.val / 66, 0, 34 + t.val / 33 % 2] ∧ win0_3.index t = ![t.val / 66, t.val % 33, t.val / 33 % 2] :=
  (by decide +kernel : ∀ t : Fin grid0.N, _)

/-- The batch of a point. -/
def batch (t : Fin cfg0.N) : Fin 2 := ⟨t.val / 66, by have h : t.val < 132 := t.isLt; omega⟩

/-- The point's queries: row `r` of the stacked tile is row `r % 256` of query head `r / 256` of the group. -/
def Q (t : Fin cfg0.N) (r : Fin 1024) (e : Fin 128) : ℝ :=
  (ent (arg m c) (batch t) (t.val % 33 * 256 + r.val % 256) (3072 + (t.val / 33 % 2 * 4 + r.val / 256) * 128 + e)).toReal

/-- The point's keys. -/
def K (t : Fin cfg0.N) (j : ℕ) (e : Fin 128) : ℝ := (ent (arg m c) (batch t) j (4096 + t.val / 33 % 2 * 128 + e)).toReal

/-- The point's values, with a lane of ones beside each. -/
def V' (t : Fin cfg0.N) (j : ℕ) (d : Fin 256) : EReal :=
  if d.val < 128 then ent (arg m c) (batch t) j (4352 + t.val / 33 % 2 * 128 + d) else 1

/-- The lanes beside the values are ones. -/
theorem ones (t : Fin cfg0.N) (k) (d : Fin 128) : V' m c t k ⟨128 + d, hi_lt d⟩ = 1 := if_neg (by simp)

/-- The query block's entries are `Q`. -/
theorem queries (hR : RealKeys (arg m c)) (t : Fin cfg0.N) (g : Fin 4) (p : Fin 256) (e : Fin 128) :
    iblk m c 0 t (ix3 0 p ⟨g * 128 + e, col_lt g e⟩) = ((Q m c t ⟨g * 256 + p, row_lt g p⟩ e : ℝ) : EReal) := by
  have ht : t.val < 132 := t.isLt
  have e1 : (g.val * 256 + p.val) % 256 = p := by omega
  have e2 : (g.val * 256 + p.val) / 256 = g := by omega
  unfold Q
  dsimp only
  rw [e1, e2, (hR _ _ _ (by omega) (by omega)).coe_toReal, ent_eq _ _ _ _ (by omega) (by omega)]
  have h := idx t
  blk_ext [iblk, V, h, batch]

/-- The key block's entries are `K`. -/
theorem keys (hR : RealKeys (arg m c)) (t : Fin cfg0.N) (j : Fin 8448) (e : Fin 128) :
    iblk m c 1 t (ix3 0 j e) = ((K m c t j e : ℝ) : EReal) := by
  have ht : t.val < 132 := t.isLt
  unfold K
  rw [(hR _ _ _ (by omega) (by omega)).coe_toReal, ent_eq _ _ _ _ (by omega) (by omega)]
  have h := idx t
  blk_ext [iblk, V, h, batch]

/-- The value block's entries are the first lanes of `V'`. -/
theorem vals (t : Fin cfg0.N) (k : Fin 8448) (d : Fin 128) : iblk m c 2 t (ix3 0 k d) = V' m c t k ⟨d, lo_lt d⟩ := by
  have ht : t.val < 132 := t.isLt
  unfold V'
  rw [if_pos (by exact d.isLt), ent_eq _ _ _ _ (by omega) (by dsimp only; omega)]
  have h := idx t
  blk_ext [iblk, V, h, batch]

/-- Points of one group share their keys and values. -/
theorem V'_congr (t s : Fin cfg0.N) (h : t.val / 33 = s.val / 33) : V' m c t = V' m c s := by
  have hb : batch t = batch s := Fin.ext (show t.val / 66 = s.val / 66 by omega)
  unfold V'
  rw [h, hb]

/-- What the carried scratch holds after a point: the group's values beside their ones. -/
theorem carried (n : ℕ) : ∀ (hn : n < cfg0.N) (k : Fin 8448) (d : Fin 256), (outsAt0 m c n hn).2 (ix2 k d) = V' m c ⟨n, hn⟩ k d := by
  induction n with
  | zero =>
    intro hn k d
    rw [outsAt0_A m c ⟨0, hn⟩ rfl rfl (by simp)]
    dsimp only
    exact CaseA.scratch (V := V' m c ⟨0, hn⟩) (hv := vals m c ⟨0, hn⟩) (h1 := ones m c ⟨0, hn⟩) ..
  | succ n ih =>
    intro hn k d
    by_cases h : (n + 1) % 33 = 0
    · rw [outsAt0_A m c ⟨n + 1, hn⟩ h h (by dsimp only; omega)]
      dsimp only
      exact CaseA.scratch (V := V' m c ⟨n + 1, hn⟩) (hv := vals m c ⟨n + 1, hn⟩) (h1 := ones m c ⟨n + 1, hn⟩) ..
    · rw [outsAt0_B m c ⟨n + 1, hn⟩ h h (by dsimp only; omega)]
      refine (ih (Nat.lt_of_succ_lt hn) k d).trans (congrFun (congrFun (V'_congr m c _ _ ?_) k.val) d)
      show n / 33 = (n + 1) / 33
      omega

/-- The point's scores are the scores of its rows. -/
theorem sc_eq (t : Fin cfg0.N) (g : Fin 4) (p : Fin 256) :
    sc (Q m c t) (K m c t) ⟨g * 256 + p, row_lt g p⟩ = score (arg m c) (batch t) (t.val / 33 % 2 * 4 + g) (t.val % 33 * 256 + p) := by
  have e1 : (g.val * 256 + p.val) % 256 = p := by omega
  have e2 : (g.val * 256 + p.val) / 256 = g := by omega
  have e3 : (t.val / 33 % 2 * 4 + g.val) / 4 = t.val / 33 % 2 := by omega
  funext j
  unfold sc score Q K
  dsimp only
  rw [e1, e2, e3]

/-- What a point writes. -/
theorem written (hR : RealKeys (arg m c)) (t : Fin cfg0.N) (g : Fin 4) (p : Fin 256) (d : Fin 128) :
    (outsAt0 m c t.val t.isLt).1 (ix3 0 p ⟨g * 128 + d, col_lt g d⟩)
      = attnAt (arg m c) (batch t) (t.val % 33 * 256 + p) (t.val / 33 % 2 * 4 + g) d := by
  have e3 : (t.val / 33 % 2 * 4 + g.val) / 4 = t.val / 33 % 2 := by omega
  have hv : (fun j => V' m c t j ⟨d, lo_lt d⟩) = fun j => ent (arg m c) (batch t) j (4352 + (t.val / 33 % 2 * 4 + g.val) / 4 * 128 + d) := by
    funext j
    unfold V'
    rw [if_pos (by exact d.isLt), e3]
  unfold attnAt
  rw [← sc_eq, ← hv]
  by_cases h : t.val % 33 = 0
  · rw [outsAt0_A m c t h h (by omega), if_pos (by omega)]
    dsimp only
    exact CaseA.out (Q := Q m c t) (K := K m c t) (V := V' m c t) (hQ := queries m c hR t) (hK := keys m c hR t) (hv := vals m c t) (h1 := ones m c t) ..
  · rw [outsAt0_B m c t h h (by omega), if_neg (by omega)]
    dsimp only
    refine CaseB.out (Q := Q m c t) (K := K m c t) (V := V' m c t) (hQ := queries m c hR t) (hK := keys m c hR t) (hV := fun k d => ?_) (h1 := ones m c t) ..
    rw [carried, V'_congr m c _ t (by dsimp only; omega)]

/-- The result array after the run. -/
theorem final (hR : RealKeys (arg m c)) : (dats m 0 c).arrAt 3 cfg0.N = attn (arg m c) := by
  refine (dats m 0 c).arrAt_eq_of_covers 3 _ (by decide +kernel) fun t hf y => ?_
  blk_simp
  rw [after0_3]
  obtain ⟨a, p, l, rfl⟩ : ∃ (a : Fin 1) (p : Fin 256) (l : Fin 512), y = ix3 a p l := ⟨y 0, y 1, y 2, by funext a; match a with | 0 => rfl | 1 => rfl | 2 => rfl⟩
  obtain rfl : a = 0 := Fin.ext (by omega)
  have e : l = ⟨(⟨l / 128, by omega⟩ : Fin 4) * 128 + (⟨l % 128, by omega⟩ : Fin 128), col_lt _ _⟩ := Fin.ext (by show l.val = l.val / 128 * 128 + l.val % 128; omega)
  have h := (idx t).2.2.2
  have ht : t.val < 132 := t.isLt
  have h0 : ((win0_3.blk t).view.emb (ix3 0 p l) 0).val = t.val / 66 := by blk_simp [h]; simp
  have h1 : ((win0_3.blk t).view.emb (ix3 0 p l) 1).val = t.val % 33 * 256 + p := by blk_simp [h]
  have h2 : ((win0_3.blk t).view.emb (ix3 0 p l) 2).val = t.val / 33 % 2 * 512 + l := by blk_simp [h]
  have hb : (win0_3.blk t).view.emb (ix3 0 p l) 0 = batch t := Fin.ext h0
  have e1 : (t.val / 33 % 2 * 512 + l.val) / 128 = t.val / 33 % 2 * 4 + l.val / 128 := by omega
  have e2 : (t.val / 33 % 2 * 512 + l.val) % 128 = l.val % 128 := by omega
  have w := written m c hR t ⟨l / 128, by omega⟩ p ⟨l % 128, by omega⟩
  rw [← e] at w
  unfold attn
  rw [h1, h2, hb, e1, e2]
  exact w

end Cert.Attn.Array
-- ==== Proof.Reference.lean ====
module
public import proofs.«01_k».proof.Proof.Spec
public import proofs.«01_k».proof.Proof.Gen.ReferenceIdeal.Read
public import Idealize.ShloMosaic.Lib.IdealHost
public import Idealize.ShloMosaic.Lib.Pipeline.ValueKit

@[expose] public section
noncomputable section
namespace Cert.Attn.Reference
open Idealize.ShloMosaic Cert.ReferenceIdeal Cert.ReferenceIdeal.Read Cert.Attn
open scoped BigOperators

/-! # The reference computes the attention -/

/-- The logarithm of the literal two. -/
theorem log_two : (FloatOps.hostUnary (F := Ideal) .log (FloatOps.ofBits (F := Ideal) .f32 0x40000000#32) : EReal) = ((Real.log 2 : ℝ) : EReal) := by
  have h : (FloatOps.ofBits (F := Ideal) .f32 0x40000000#32 : EReal) = ((2 : ℝ) : EReal) := by
    show Ideal.ofBits .f32 _ = _
    simp [Ideal.ofBits, Ideal.ieee]
    norm_num
    rw [← EReal.coe_mul]
    norm_num
  rw [h]
  exact if_neg (by norm_num)

/-- The exponential of a scaled score less a real. -/
theorem exp_sub (s M : ℝ) : (FloatOps.hostUnary (F := Ideal) (φ := .f32) .exp (((s : EReal) * ((Real.log 2 : ℝ) : EReal)) - (M : EReal)) : EReal)
    = ((Real.exp (s * Real.log 2 - M) : ℝ) : EReal) := by
  rw [← EReal.coe_mul, ← EReal.coe_sub]; rfl

/-- A softmax of scores in base two, with any real taken off, weighing the values. -/
theorem softmax (n : ℕ) (hn : 0 < n) (s : ℕ → ℝ) (M : EReal) (hM : IsR M) (v : ℕ → EReal) (w d : Fin n → EReal)
    (hw : ∀ k, w k = FloatOps.hostUnary (F := Ideal) (φ := .f32) .exp (((s k : ℝ) : EReal) * ((Real.log 2 : ℝ) : EReal) - M))
    (hd : ∀ k, d k = 0 + ∑ i, w i) : ∑ k : Fin n, v k * Ideal.div (w k) (d k) = attnVal n s v := by
  obtain ⟨M, rfl⟩ := hM
  have hw' : ∀ k, w k = ((Real.exp (s k * Real.log 2 - M) : ℝ) : EReal) := fun k => (hw k).trans (exp_sub _ _)
  have hd' : ∀ k, d k = ((∑ i ∈ Finset.range n, Real.exp (s i * Real.log 2 - M) : ℝ) : EReal) := fun k => by
    rw [hd, zero_add, coe_sum, Finset.sum_range]
    exact Finset.sum_congr rfl fun i _ => hw' i
  have hpos : 0 < ∑ i ∈ Finset.range n, Real.exp (s i * Real.log 2 - M) :=
    Finset.sum_pos (fun i _ => Real.exp_pos _) (Finset.nonempty_range_iff.mpr hn.ne')
  unfold attnVal
  rw [Finset.sum_range]
  refine Finset.sum_congr rfl fun k _ => ?_
  rw [hw', hd', mul_comm, ← softmax_exp n s M k]
  congr 1
  unfold Ideal.div
  rw [if_neg (by exact_mod_cast hpos.ne'), ← EReal.coe_inv, ← EReal.coe_mul, div_eq_mul_inv]

variable (x : (⟨3, ![2, 8448, 4608]⟩ : Shape).Idx → EReal)

/-- An entry of the query heads. -/
theorem query (a : Fin 2) (b : Fin 8448) (c : Fin 2) (d : Fin 4) (e : Fin 128) :
    val_main_v2 (F := Ideal) x (ix5 a b c d e) = ent x a b (3072 + (c * 4 + d) * 128 + e) := by
  rw [val_main_v2_apply, val_main_v1_apply, val_main_v0_apply, ent_eq _ _ _ _ b.isLt (by omega)]
  show x _ = x _
  blk_ext []

/-- An entry of the key heads. -/
theorem key (a : Fin 2) (b : Fin 8448) (c : Fin 2) (e : Fin 128) :
    val_main_v5 (F := Ideal) x (ix4 a b c e) = ent x a b (4096 + c * 128 + e) := by
  rw [val_main_v5_apply, val_main_v4_apply, val_main_v3_apply, ent_eq _ _ _ _ b.isLt (by omega)]
  show x _ = x _
  blk_ext []

/-- An entry of the value heads. -/
theorem value (a : Fin 2) (b : Fin 8448) (c : Fin 2) (e : Fin 128) :
    val_main_v8 (F := Ideal) x (ix4 a b c e) = ent x a b (4352 + c * 128 + e) := by
  rw [val_main_v8_apply, val_main_v7_apply, val_main_v6_apply, ent_eq _ _ _ _ b.isLt (by omega)]
  show x _ = x _
  blk_ext []

/-- A sum of products of key and query entries is a score. -/
theorem score_eq (hR : RealKeys x) (b : Fin 2) (c : Fin 2) (d : Fin 4) (r j : ℕ) :
    ∑ e : Fin 128, ent x b j (4096 + c * 128 + e) * ent x b r (3072 + (c.val * 4 + d) * 128 + e) = ((score x b (c * 4 + d) r j : ℝ) : EReal) := by
  have h : (c.val * 4 + d.val) / 4 = c := by omega
  unfold score
  rw [coe_sum, h]
  refine Finset.sum_congr rfl fun e _ => ?_
  rw [EReal.coe_mul, (hR b r _ (by omega) (by omega)).coe_toReal, (hR b j _ (by omega) (by omega)).coe_toReal, mul_comm]

/-- The scores of the context rows. -/
theorem score_ctx (hR : RealKeys x) (b : Fin 2) (c : Fin 2) (d : Fin 4) (r j : Fin 256) :
    val_main_v13 (F := Ideal) x (ix5 b c d r j) = ((score x b (c * 4 + d) r j : ℝ) : EReal) := by
  rw [val_main_v13_apply, val_main_v12_apply, ← score_eq x hR]
  refine Finset.sum_congr rfl fun e _ => ?_
  rw [val_main_v10_apply, val_main_v9_apply]
  refine congrArg₂ (· * ·) (Eq.trans (congrArg _ ?_) (key x b ⟨j, by omega⟩ c e)) (Eq.trans (congrArg _ ?_) (query x b ⟨r, by omega⟩ c d e)) <;> blk_ext []

/-- The scores of the latent rows. -/
theorem score_lat (hR : RealKeys x) (b : Fin 2) (c : Fin 2) (d : Fin 4) (r : Fin 8192) (j : Fin 8448) :
    val_main_v32 (F := Ideal) x (ix5 b c d r j) = ((score x b (c * 4 + d) (256 + r) j : ℝ) : EReal) := by
  rw [val_main_v32_apply, val_main_v31_apply, ← score_eq x hR]
  refine Finset.sum_congr rfl fun e _ => ?_
  rw [val_main_v30_apply]
  refine congrArg₂ (· * ·) (Eq.trans (congrArg _ ?_) (key x b j c e)) (Eq.trans (congrArg _ ?_) (query x b ⟨256 + r, by omega⟩ c d e)) <;> blk_ext []

/-- The scores times the logarithm of two. -/
theorem scaled_ctx (hR : RealKeys x) (b : Fin 2) (c : Fin 2) (d : Fin 4) (r j : Fin 256) :
    val_main_v16 (F := Ideal) x (ix5 b c d r j) = ((score x b (c * 4 + d) r j : ℝ) : EReal) * ((Real.log 2 : ℝ) : EReal) := by
  rw [val_main_v16_apply, val_main_v15_apply, val_main_v14_apply, val_main_cst_apply, log_two, score_ctx x hR]
  rfl

/-- The latent rows' scores times the logarithm of two. -/
theorem scaled_lat (hR : RealKeys x) (b : Fin 2) (c : Fin 2) (d : Fin 4) (r : Fin 8192) (j : Fin 8448) :
    val_main_v35 (F := Ideal) x (ix5 b c d r j) = ((score x b (c * 4 + d) (256 + r) j : ℝ) : EReal) * ((Real.log 2 : ℝ) : EReal) := by
  rw [val_main_v35_apply, val_main_v34_apply, val_main_v33_apply, val_main_cst_3_apply, log_two, score_lat x hR]
  rfl

/-- The literal of minus infinity. -/
theorem neg_inf : (FloatOps.ofBits (F := Ideal) .f32 0xFF800000#32 : EReal) = ⊥ := by
  show Ideal.ofBits .f32 _ = _
  simp [Ideal.ofBits, Ideal.ieee]

/-- The literal zero. -/
theorem zero : (FloatOps.ofBits (F := Ideal) .f32 0x00000000#32 : EReal) = 0 := by
  show Ideal.ofBits .f32 _ = _
  simp [Ideal.ofBits, Ideal.ieee]

/-- The maximum taken off each row is a real. -/
theorem max_ctx (hR : RealKeys x) (b : Fin 2) (c : Fin 2) (d : Fin 4) (r : Fin 256) : IsR (val_main_v19 (F := Ideal) x (ix4 b c d r)) := by
  rw [val_main_v19_apply, val_main_v18_apply, val_main_cst_1_apply, neg_inf]
  refine isR_max (by simp) ?_
  have h := scaled_ctx x hR b c d r
  unfold val_main_v17
  generalize val_main_v16 (F := Ideal) x = y at h ⊢
  pointwise
  exact isR_fold_max _ neg_inf _ fun j => ⟨_, (h j).trans (EReal.coe_mul _ _).symm⟩

/-- The same of the latent rows. -/
theorem max_lat (hR : RealKeys x) (b : Fin 2) (c : Fin 2) (d : Fin 4) (r : Fin 8192) : IsR (val_main_v38 (F := Ideal) x (ix4 b c d r)) := by
  rw [val_main_v38_apply, val_main_v37_apply, val_main_cst_5_apply, neg_inf]
  refine isR_max (by simp) ?_
  have h := scaled_lat x hR b c d r
  unfold val_main_v36
  generalize val_main_v35 (F := Ideal) x = y at h ⊢
  pointwise
  exact isR_fold_max _ neg_inf _ fun j => ⟨_, (h j).trans (EReal.coe_mul _ _).symm⟩

/-- The context rows. -/
theorem ctx (hR : RealKeys x) (b : Fin 2) (r : Fin 256) (c : Fin 2) (d : Fin 4) (l : Fin 128) :
    val_main_v29 (F := Ideal) x (ix5 b r c d l) = attnVal 256 (score x b (c * 4 + d) r) fun j => ent x b j (4352 + c * 128 + l) := by
  rw [val_main_v29_apply, val_main_v28_apply,
    ← softmax 256 (by omega) _ _ (max_ctx x hR b c d r) _ (fun k => val_main_v23 (F := Ideal) x (ix5 b c d r k))
      (fun k => val_main_v26 (F := Ideal) x (ix5 b c d r k)) (fun k => ?_) (fun k => ?_)]
  · refine Finset.sum_congr rfl fun k _ => ?_
    rw [val_main_v11_apply, val_main_v27_apply]
    refine congrArg₂ (· * ·) (Eq.trans (congrArg _ ?_) (value x b ⟨k, by omega⟩ c l)) (congrArg₂ Ideal.div (congrArg _ ?_) (congrArg _ ?_)) <;> blk_ext []
  · rw [val_main_v23_apply, val_main_v22_apply, val_main_v21_apply, val_main_v20_apply, scaled_ctx x hR]
    refine congrArg (fun z => FloatOps.hostUnary (F := Ideal) (φ := .f32) .exp (_ - val_main_v19 (F := Ideal) x z)) ?_
    blk_ext []
  · rw [val_main_v26_apply, val_main_v25_apply, val_main_v24_apply, val_main_cst_2_apply, zero]
    refine congrArg (0 + ·) (Finset.sum_congr rfl fun i _ => congrArg _ ?_)
    blk_ext []

/-- The latent rows. -/
theorem lat (hR : RealKeys x) (b : Fin 2) (r : Fin 8192) (c : Fin 2) (d : Fin 4) (l : Fin 128) :
    val_main_v48 (F := Ideal) x (ix5 b r c d l) = attnVal 8448 (score x b (c * 4 + d) (256 + r)) fun j => ent x b j (4352 + c * 128 + l) := by
  rw [val_main_v48_apply, val_main_v47_apply,
    ← softmax 8448 (by omega) _ _ (max_lat x hR b c d r) _ (fun k => val_main_v42 (F := Ideal) x (ix5 b c d r k))
      (fun k => val_main_v45 (F := Ideal) x (ix5 b c d r k)) (fun k => ?_) (fun k => ?_)]
  · refine Finset.sum_congr rfl fun k _ => ?_
    rw [val_main_v46_apply]
    refine congrArg₂ (· * ·) (Eq.trans (congrArg _ ?_) (value x b k c l)) (congrArg₂ Ideal.div (congrArg _ ?_) (congrArg _ ?_)) <;> blk_ext []
  · rw [val_main_v42_apply, val_main_v41_apply, val_main_v40_apply, val_main_v39_apply, scaled_lat x hR]
    refine congrArg (fun z => FloatOps.hostUnary (F := Ideal) (φ := .f32) .exp (_ - val_main_v38 (F := Ideal) x z)) ?_
    blk_ext []
  · rw [val_main_v45_apply, val_main_v44_apply, val_main_v43_apply, val_main_cst_6_apply, zero]
    refine congrArg (0 + ·) (Finset.sum_congr rfl fun i _ => congrArg _ ?_)
    blk_ext []

/-- The reference's result. -/
theorem result (hR : RealKeys x) : val_main_v51 (F := Ideal) x = attn x := by
  funext i
  obtain ⟨b, r, l, rfl⟩ : ∃ (b : Fin 2) (r : Fin 8448) (l : Fin 1024), i = ix3 b r l :=
    ⟨i 0, i 1, i 2, by funext a; match a with | 0 => rfl | 1 => rfl | 2 => rfl⟩
  have e : idx_main_v50 (ix3 b r l) = ix5 b r ⟨l / 512, by omega⟩ ⟨l / 128 % 4, by omega⟩ ⟨l % 128, by omega⟩ := by blk_ext []
  have e1 : l.val / 512 * 4 + l.val / 128 % 4 = l.val / 128 := by omega
  have e2 : l.val / 128 / 4 = l.val / 512 := by omega
  have h1 := ctx x hR b
  have h2 := lat x hR b
  rw [val_main_v51_apply, val_main_v50_apply, e]
  show val_main_v49 (F := Ideal) x _ = attnAt x b r.val (l.val / 128) (l.val % 128)
  unfold val_main_v49 attnAt
  generalize val_main_v29 (F := Ideal) x = y at h1 ⊢
  generalize val_main_v48 (F := Ideal) x = z at h2 ⊢
  pointwise
  rw [e2]
  split
  · rw [h1]
    dsimp only
    rw [e1]
  · rw [h2]
    dsimp only
    rw [e1, show 256 + (r.val - 256) = r.val by omega]

end Cert.Attn.Reference
-- ==== Proof.Pre.lean ====
module
public import proofs.«01_k».proof.Pre_finite
public import proofs.«01_k».proof.Proof.Spec
public import Idealize.ShloMosaic.Lib.IdealHost
public import Idealize.ShloMosaic.Lib.Pipeline.ValueKit

@[expose] public section
noncomputable section
namespace Cert.Attn.Pre
open Idealize.ShloMosaic Cert.Attn Cert.Pre_finite

/-! # The precondition: the query and key columns are reals -/

/-- The side conditions that the precondition's text states. -/
theorem facts : Cert.Pre_finite.Facts := ⟨by decide, by decide, by decide⟩

/-- The literal of infinity. -/
theorem inf : (FloatOps.ofBits (F := Ideal) .f32 0x7F800000#32 : EReal) = ⊤ := by
  show Ideal.ofBits .f32 _ = _
  simp [Ideal.ofBits, Ideal.ieee]

/-- An entry whose magnitude is below infinity is a real. -/
theorem real_of_abs (x : EReal) (h : max x (-x) < ⊤) : IsR x := by
  induction x with
  | bot => simp at h
  | top => simp at h
  | coe r => exact ⟨r, rfl⟩

/-- A truth bit that is one says that the proposition holds. -/
theorem of_ofBool {p : Prop} [Decidable p] (h : BitVec.ofBool (decide p) = 1#1) : p := by
  by_contra hp
  simp [hp] at h

/-- Where the precondition is all ones, every query and key entry is a real. -/
theorem realKeys [Cert.Pre_finite.Facts] (x : (⟨3, ![2, 8448, 4608]⟩ : Shape).Idx → EReal)
    (h : Cert.Pre_finite.fn (F := Ideal) x = fun _ => 1#1) : RealKeys x := by
  intro b j c h1 h2
  by_cases hj : j < 8448
  · rw [ent_eq _ _ _ _ hj (by omega)]
    have e := congrFun h (ix3 b ⟨j, hj⟩ (⟨c - 3072, by omega⟩ : Fin 1280))
    unfold Cert.Pre_finite.fn at e
    pointwise at e
    have hc : (⟨3072 + (c - 3072), by omega⟩ : Fin 4608) = ⟨c, by omega⟩ := Fin.ext (by show 3072 + (c - 3072) = c; omega)
    rw [show Ideal.ofBits .f32 0x7F800000#32 = ⊤ from inf, hc] at e
    exact real_of_abs _ (of_ofBool e)
  · unfold ent
    rw [dif_neg (by omega)]
    exact ⟨1, rfl⟩

end Cert.Attn.Pre
-- ==== Proof.Blocks.lean ====
module
public import Idealize.ShloMosaic.Lib.Pointwise
public import Idealize.ShloMosaic.Lib.Pipeline.FrameBody
public import Idealize.ShloMosaic.Lib.Pipeline.ValueKit

@[expose] public section
noncomputable section
namespace Cert.Blocks
open Idealize.ShloMosaic Idealize.ShloMosaic.TcCoe
open scoped BigOperators

/-! # Reading what several stores left in a block -/

variable {s : Shape} {e : EltTy} {off size : Fin s.rank → ℕ} {inb : ∀ a, off a + size a ≤ s.size a}
  {w : (Rect.unit (s := s) off size inb).shape.Idx → Elt Ideal e} {L : List (View.Piece (Elt Ideal) s e)} {y : s.Idx}

/-- Inside the last store's rectangle, what it stored. -/
theorem hit (x : (Rect.unit (s := s) off size inb).shape.Idx) (h : ∀ a, (y a).val = off a + (x a).val) :
    View.canon (⟨Rect.unit off size inb, w⟩ :: L) y = w x := by
  rw [show y = (Rect.unit (s := s) off size inb).emb x from by funext a; apply Fin.ext; rw [h]; simp, View.canon_cons_emb]

/-- Before the last store's rectangle along an axis, what was there before it. -/
theorem skip (a : Fin s.rank) (h : (y a).val < off a) : View.canon (⟨Rect.unit off size inb, w⟩ :: L) y = View.canon L y := by
  refine View.canon_cons_of_not_mem _ _ ?_
  rw [Rect.mem_set_unit]
  intro hy
  exact absurd (hy a).1 (by omega)

/-- An index of three coordinates is its coordinates. -/
theorem eq_ix3 {a b c : ℕ} (y : (⟨3, ![a, b, c]⟩ : Shape).Idx) : ∃ (i : Fin a) (j : Fin b) (k : Fin c), y = ix3 i j k :=
  ⟨y 0, y 1, y 2, by funext a; match a with | 0 => rfl | 1 => rfl | 2 => rfl⟩

/-- A position behind an offset. -/
def sh {k : ℕ} (n o : ℕ) (h : o + k ≤ n) (i : Fin k) : Fin n := ⟨o + i, by omega⟩

/-- A sum of products is determined by its factors. -/
theorem sum_mul {n : ℕ} {f f' g g' : Fin n → EReal} (h : ∀ k, f k = f' k) (h' : ∀ k, g k = g' k) : ∑ k, f k * g k = ∑ k, f' k * g' k :=
  Finset.sum_congr rfl fun k _ => congrArg₂ (· * ·) (h k) (h' k)

end Cert.Blocks
-- ==== Proof.MergeCall.lean ====
module
public import proofs.«01_k».proof.Proof.Blocks
public import proofs.«01_k».proof.Proof.Gen.MergeIdeal.Value
public import proofs.«01_k».proof.Proof.Gen.MergeReferenceIdeal.Run
public import proofs.«01_k».proof.Proof.Gen.MergeReferenceIdeal.Read
public import Idealize.ShloMosaic.Lib.IdealHost

@[expose] public section
noncomputable section
namespace Cert.MergeCall
open Idealize.ShloMosaic Idealize.ShloMosaic.TcCoe Idealize.SL.Sem Cert.Blocks
open scoped BigOperators

/-! # The gated merge of the three branches -/

/-- One branch's share: its gate, the logistic of the gate columns' product, times its projection. -/
def term {n m : ℕ} (u : Fin n → EReal) (g : Fin n → EReal) (z w : Fin m → EReal) : EReal :=
  Ideal.logistic (∑ k, u k * g k) * ∑ k, z k * w k

/-- A branch's share is determined by its rows and columns. -/
theorem term_congr {n m : ℕ} {u u' g g' : Fin n → EReal} {z z' w w' : Fin m → EReal} (hu : ∀ k, u k = u' k) (hg : ∀ k, g k = g' k)
    (hz : ∀ k, z k = z' k) (hw : ∀ k, w k = w' k) : term u g z w = term u' g' z' w' := by
  rw [funext hu, funext hg, funext hz, funext hw]

/-- The merge: at every token and feature the three branches' shares added up. -/
def merge (u zra : (⟨3, ![2, 8448, 2048]⟩ : Shape).Idx → EReal) (zs : (⟨3, ![2, 8448, 768]⟩ : Shape).Idx → EReal)
    (wb : (⟨3, ![2, 2048, 14336]⟩ : Shape).Idx → EReal) (wr wa : (⟨2, ![1024, 2048]⟩ : Shape).Idx → EReal)
    (ws : (⟨2, ![768, 2048]⟩ : Shape).Idx → EReal) : (⟨3, ![2, 8448, 2048]⟩ : Shape).Idx → EReal := fun i =>
  term (fun k : Fin 2048 => u (ix3 (i 0) (i 1) k)) (fun k => wb (ix3 0 k (sh 14336 8192 (by decide) (i 2 : Fin 2048))))
      (fun k : Fin 1024 => zra (ix3 (i 0) (i 1) (sh 2048 0 (by decide) k))) (fun k => wr (ix2 k (i 2)))
    + term (fun k : Fin 2048 => u (ix3 (i 0) (i 1) k)) (fun k => wb (ix3 0 k (sh 14336 10240 (by decide) (i 2 : Fin 2048))))
      (fun k : Fin 1024 => zra (ix3 (i 0) (i 1) (sh 2048 1024 (by decide) k))) (fun k => wa (ix2 k (i 2)))
    + term (fun k : Fin 2048 => u (ix3 (i 0) (i 1) k)) (fun k => wb (ix3 0 k (sh 14336 12288 (by decide) (i 2 : Fin 2048))))
      (fun k : Fin 768 => zs (ix3 (i 0) (i 1) k)) (fun k => ws (ix2 k (i 2)))

section Kernel
open Cert.MergeIdeal Cert.MergeIdeal.Gen

/-- What a grid point writes, from the blocks that it reads. -/
theorem tile (x0 x1 : Vec Ideal S1x1056x2048 .bf16) (x2 : Vec Ideal S1x1056x768 .bf16) (x3 x4 x5 : Vec Ideal S1x2048x512 .bf16)
    (x6 x7 : Vec Ideal S1024x512 .bf16) (x8 : Vec Ideal S768x512 .bf16) (p : Fin 1056) (j : Fin 512) :
    out0_9 x0 x1 x2 x3 x4 x5 x6 x7 x8 (ix3 0 p j)
      = term (fun k : Fin 2048 => x0 (ix3 0 p k)) (fun k => x3 (ix3 0 k j)) (fun k : Fin 1024 => x1 (ix3 0 p (sh 2048 0 (by decide) k))) (fun k => x6 (ix2 k j))
        + term (fun k : Fin 2048 => x0 (ix3 0 p k)) (fun k => x4 (ix3 0 k j)) (fun k : Fin 1024 => x1 (ix3 0 p (sh 2048 1024 (by decide) k))) (fun k => x7 (ix2 k j))
        + term (fun k : Fin 2048 => x0 (ix3 0 p k)) (fun k => x5 (ix3 0 k j)) (fun k : Fin 768 => x2 (ix3 0 p k)) (fun k => x8 (ix2 k j)) := by
  unfold out0_9
  by_cases hp : p.val < 528
  · rw [skip 1 (by simpa using hp), hit (ix3 0 ⟨p, hp⟩ j) (by intro a; match a with | 0 => rfl | 1 => simp | 2 => simp)]
    pointwise [k0_pay6, k0_pay3, k0_pay4, k0_pay5, k0_pay2]
    simp only [term, sh, Nat.zero_add]
  · rw [hit (ix3 0 ⟨p - 528, by omega⟩ j) (by intro a; match a with | 0 => rfl | 1 => simp; omega | 2 => simp)]
    have e : (⟨528 + (p.val - 528), by omega⟩ : Fin 1056) = p := Fin.ext (by simp; omega)
    pointwise [k0_pay1, k0_pay7, k0_pay8, k0_pay9, k0_pay10, k0_pay11]
    simp only [term, sh, Nat.zero_add, e]

variable (m : (ℓ : Loc nD τ sig) → Buf (Elt Ideal) ℓ) (c : Dev nD)

/-- The windows' block indices at point `t`: column tile `t % 4` of row tile `t / 4 % 8` of batch `t / 32`. -/
theorem idx : ∀ t : Fin cfg0.N, win0_0.index t = ![t.val / 32, t.val / 4 % 8, 0] ∧ win0_1.index t = ![t.val / 32, t.val / 4 % 8, 0]
    ∧ win0_2.index t = ![t.val / 32, t.val / 4 % 8, 0] ∧ win0_3.index t = ![0, 0, 16 + t.val % 4] ∧ win0_4.index t = ![0, 0, 20 + t.val % 4]
    ∧ win0_5.index t = ![0, 0, 24 + t.val % 4] ∧ win0_6.index t = ![0, t.val % 4] ∧ win0_7.index t = ![0, t.val % 4] ∧ win0_8.index t = ![0, t.val % 4]
    ∧ win0_9.index t = ![t.val / 32, t.val / 4 % 8, t.val % 4] :=
  (by decide +kernel : ∀ t : Fin grid0.N, _)

set_option maxHeartbeats 2000000 in
/-- The result array after the run. -/
theorem final : (dats m 0 c).arrAt 9 cfg0.N = merge (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) := by
  refine (dats m 0 c).arrAt_eq_of_covers 9 _ (by decide +kernel) fun t hf y => ?_
  blk_simp
  rw [after0_9]
  obtain ⟨a, p, l, rfl⟩ := eq_ix3 (a := 1) (b := 1056) (c := 512) y
  obtain rfl : a = 0 := Fin.ext (by omega)
  have h := idx t
  have ht : t.val < 64 := t.isLt
  refine (tile ..).trans ?_
  unfold merge
  refine congrArg₂ (· + ·) (congrArg₂ (· + ·) (term_congr ?_ ?_ ?_ ?_) (term_congr ?_ ?_ ?_ ?_)) (term_congr ?_ ?_ ?_ ?_) <;> intro k <;>
    blk_ext [iblk, V, h, sh]

end Kernel

section Reference
open Cert.MergeReferenceIdeal Cert.MergeReferenceIdeal.Read

/-- A feature's column among one branch's gates. -/
def branch (b : Fin 3) (d : Fin 2048) : Fin 6144 := ⟨b * 2048 + d, by omega⟩

/-- The reference's gates. -/
theorem gate (u : (⟨3, ![2, 8448, 2048]⟩ : Shape).Idx → EReal) (wb : (⟨3, ![2, 2048, 14336]⟩ : Shape).Idx → EReal) (y : S2x8448x6144.Idx) :
    val_main_v10 (F := Ideal) u wb y = Ideal.logistic (∑ k : Fin 2048, u (ix3 (y 0) (y 1) k) * wb (ix3 0 k (sh 14336 8192 (by decide) (y 2 : Fin 6144)))) := by
  rw [val_main_v10_apply, val_main_v9_apply, val_main_v8_apply, val_main_v7_apply, val_main_v6_apply, val_main_v5_apply, val_main_v4_apply]
  have one : (FloatOps.ofBits (F := Ideal) .f32 0x3F800000#32 : EReal) = 1 := Ideal.ofBits_one_f32
  show Ideal.div (FloatOps.ofBits (F := Ideal) .f32 0x3F800000#32) ((FloatOps.ofBits (F := Ideal) .f32 0x3F800000#32 : EReal) + Ideal.exp (-_)) = Ideal.logistic _
  rw [one]
  unfold Ideal.logistic
  refine congrArg (fun x => Ideal.div 1 (1 + Ideal.exp (-x))) (sum_mul (fun k => ?_) fun k => ?_)
  · show u _ = u _
    blk_ext []
  · rw [val_main_v3_apply, val_main_v1_apply, val_main_v0_apply]
    show wb _ = wb _
    blk_ext [sh]

/-- The reference computes the merge. -/
theorem result (u zra : (⟨3, ![2, 8448, 2048]⟩ : Shape).Idx → EReal) (zs : (⟨3, ![2, 8448, 768]⟩ : Shape).Idx → EReal)
    (wb : (⟨3, ![2, 2048, 14336]⟩ : Shape).Idx → EReal) (wr wa : (⟨2, ![1024, 2048]⟩ : Shape).Idx → EReal) (ws : (⟨2, ![768, 2048]⟩ : Shape).Idx → EReal) :
    val_main_v34 (F := Ideal) u zra zs wb wr wa ws = merge u zra zs wb wr wa ws := by
  funext i
  obtain ⟨a, t, d, rfl⟩ := eq_ix3 (a := 2) (b := 8448) (c := 2048) i
  have e0 : idx_main_v12 (idx_main_v13 (ix3 a t d)) = ix4 a t 0 d := by blk_ext []
  have e1 : idx_main_v19 (idx_main_v20 (ix3 a t d)) = ix4 a t 1 d := by blk_ext []
  have e2 : idx_main_v27 (idx_main_v28 (ix3 a t d)) = ix4 a t 2 d := by blk_ext []
  have e : ∀ b : Fin 3, idx_main_v11 (ix4 a t b d) = ix3 a t (branch b d) := fun b => by blk_ext [branch]
  rw [val_main_v34_apply, val_main_v33_apply, val_main_v26_apply, val_main_v32_apply, val_main_v18_apply, val_main_v25_apply,
    val_main_v13_apply, val_main_v12_apply, val_main_v20_apply, val_main_v19_apply, val_main_v28_apply, val_main_v27_apply,
    val_main_v11_apply, val_main_v11_apply, val_main_v11_apply, e0, e1, e2, e, e, e, gate, gate, gate, val_main_v17_apply, val_main_v24_apply, val_main_v31_apply]
  unfold merge
  refine congrArg₂ (· + ·) (congrArg₂ (· + ·) (term_congr ?_ ?_ ?_ ?_) (term_congr ?_ ?_ ?_ ?_)) (term_congr ?_ ?_ ?_ ?_) <;> intro k
  all_goals first | rw [val_main_v15_apply] | rw [val_main_v22_apply] | skip
  all_goals try rw [val_main_v14_apply]
  all_goals try rw [val_main_v21_apply]
  all_goals first
    | (show u _ = u _; blk_ext [sh])
    | (show wb _ = wb _; blk_ext [sh, branch])
    | (show zra _ = zra _; blk_ext [sh])
    | (show wr _ = wr _; blk_ext [])
    | (show wa _ = wa _; blk_ext [])
    | (show zs _ = zs _; blk_ext [])
    | (show ws _ = ws _; blk_ext [])

end Reference
end Cert.MergeCall
-- ==== Proof.Consts.lean ====
module
public import proofs.«01_k».proof.Proof.Reference

@[expose] public section
noncomputable section
namespace Cert.Consts
open Idealize.ShloMosaic
open scoped BigOperators

/-! # The numbers that some float literals denote -/

/-- The literal 2048. -/
theorem n2048 : Ideal.ofBits .f32 0x45000000#32 = ((2048 : ℝ) : EReal) := by
  simp [Ideal.ofBits, Ideal.ieee]
  norm_num
  rw [← EReal.coe_mul]
  norm_num

/-- The literal 1/2048. -/
theorem inv2048 : Ideal.ofBits .f32 0x3A000000#32 = ((1 / 2048 : ℝ) : EReal) := by
  simp [Ideal.ofBits, Ideal.ieee]
  norm_num
  try rw [← EReal.coe_mul]
  norm_num

/-- The literal 128. -/
theorem n128 : Ideal.ofBits .f32 0x43000000#32 = ((128 : ℝ) : EReal) := by
  simp [Ideal.ofBits, Ideal.ieee]
  norm_num
  rw [← EReal.coe_mul]
  norm_num

/-- The literal 1/128. -/
theorem inv128 : Ideal.ofBits .f32 0x3C000000#32 = ((1 / 128 : ℝ) : EReal) := by
  simp [Ideal.ofBits, Ideal.ieee]
  norm_num
  try rw [← EReal.coe_mul]
  norm_num

/-- The literal 1/16. -/
theorem inv16 : Ideal.ofBits .f32 0x3D800000#32 = ((1 / 16 : ℝ) : EReal) := by
  simp [Ideal.ofBits, Ideal.ieee]
  norm_num
  try rw [← EReal.coe_mul]
  norm_num

/-- Dividing by a nonzero real is multiplying by its reciprocal. -/
theorem mul_inv (x : EReal) {r : ℝ} (h : r ≠ 0) : x * ((1 / r : ℝ) : EReal) = Ideal.div x (r : EReal) := by
  unfold Ideal.div
  rw [if_neg (by simpa using h), one_div, EReal.coe_inv]

end Cert.Consts
-- ==== Proof.MixSpec.lean ====
module
public import proofs.«01_k».proof.Proof.Blocks
public import proofs.«01_k».proof.Proof.Consts

@[expose] public section
noncomputable section
namespace Cert.MixCall
open Idealize.ShloMosaic Idealize.ShloMosaic.TcCoe Cert.Blocks Cert.Consts
open scoped BigOperators

/-! # The mixed projection: queries, keys and values of the two branches -/

/-- The number that a float literal denotes. -/
abbrev lit (b : BitVec 32) : EReal := Ideal.ofBits .f32 b

/-- The attention queries' scale, by which a score's base-two exponential is the softmax's. -/
def qscale : EReal := (((Real.sqrt 128)⁻¹ * (Real.log 2)⁻¹ : ℝ) : EReal)

/-- Half `d` of a pair `(a, b)` turned by the angle of cosine `c` and sine `s`. -/
def turn (d : Fin 2) (a b c s : EReal) : EReal := if d.val = 0 then a * c - b * s else b * c + a * s

/-- The lane that is half a head away. -/
def opp (e : Fin 128) : Fin 128 := ⟨(e + 128 - 64) % 128, by omega⟩

/-- A head divided by the root of its mean square, weighted. -/
def unit (x w : Fin 128 → EReal) (e : Fin 128) : EReal :=
  x e * Ideal.rsqrt (Ideal.div (∑ k, x k * x k) (lit 0x43000000#32) + lit 0x358637BD#32) * w e

/-- A normalized head turned. -/
def att (x w C S : Fin 128 → EReal) (e : Fin 128) : EReal := unit x w e * C e + unit x w (opp e) * S e

/-- The column of lane `e` of half `d` of the retention branch's head `h`, the four queries before the four keys. -/
def cRet (h : Fin 8) (d : Fin 2) (e : Fin 128) : Fin 4608 := ⟨256 * h + 128 * d + e, by omega⟩

/-- A column of the retention branch's values. -/
def cVal (e : Fin 1024) : Fin 4608 := ⟨2048 + e, by omega⟩

/-- The column of lane `e` of the attention's head `h`, the eight queries before the two keys. -/
def cAtt (h : Fin 10) (e : Fin 128) : Fin 4608 := ⟨3072 + 128 * h + e, by omega⟩

/-- A column of the attention's values. -/
def cLast (e : Fin 256) : Fin 4608 := ⟨4352 + e, by omega⟩

/-- A column's lane. -/
def lane (j : Fin 4608) : Fin 128 := ⟨j % 128, by omega⟩

/-- A retention column's half. -/
def half (j : Fin 4608) : Fin 2 := ⟨j / 128 % 2, by omega⟩

/-- A retention column's head. -/
def headR (j : Fin 4608) : Fin 8 := ⟨j / 256 % 8, by omega⟩

/-- An attention column's head. -/
def headA (j : Fin 4608) : Fin 10 := ⟨(j - 3072) / 128 % 10, by omega⟩

/-- A retention query or key: turned, the keys scaled by 1/16. -/
def retPart (P : Fin 4608 → EReal) (c s : Fin 128 → EReal) (h : Fin 8) (d : Fin 2) (e : Fin 128) : EReal :=
  turn d (P (cRet h 0 e)) (P (cRet h 1 e)) (c e) (s e) * if h.val < 4 then 1 else lit 0x3D800000#32

/-- An attention query or key: normalized and turned, the queries scaled. -/
def attPart (P : Fin 4608 → EReal) (C S q k : Fin 128 → EReal) (h : Fin 10) (e : Fin 128) : EReal :=
  att (fun e => P (cAtt h e)) (if h.val < 8 then q else k) C S e * if h.val < 8 then qscale else 1

/-- A row of the result from the row's projections `P`, its angles and the two norms' weights. -/
def col (P : Fin 4608 → EReal) (c s C S q k : Fin 128 → EReal) (j : Fin 4608) : EReal :=
  if j.val < 2048 then retPart P c s (headR j) (half j) (lane j)
  else if 3072 ≤ j.val ∧ j.val < 4352 then attPart P C S q k (headA j) (lane j)
  else P j

/-- A table that starts at the first latent: the context's rows hold `z`. -/
def tbl {n : ℕ} (z : EReal) (f : (⟨2, ![8192, n]⟩ : Shape).Idx → EReal) (t : Fin 8448) (e : Fin n) : EReal :=
  if h : t.val < 256 then z else f (ix2 ⟨t - 256, by omega⟩ e)

/-- A lane of a head's half. -/
def lane64 (e : Fin 128) : Fin 64 := ⟨e % 64, by omega⟩

/-- The attention's cosines. -/
def cosA (f : (⟨2, ![8192, 64]⟩ : Shape).Idx → EReal) (t : Fin 8448) (e : Fin 128) : EReal := tbl 1 f t (lane64 e)

/-- The attention's sines, negated on the first half. -/
def sinA (f : (⟨2, ![8192, 64]⟩ : Shape).Idx → EReal) (t : Fin 8448) (e : Fin 128) : EReal :=
  if e.val < 64 then -tbl 0 f t (lane64 e) else tbl 0 f t (lane64 e)

/-- The weight's column of a result's column: a thousand and twenty-four columns are not this call's. -/
def wcol (j : Fin 4608) : Fin 14336 := ⟨if j.val < 3072 then j else j + 1024, by split <;> omega⟩

/-- A row's projection onto a column. -/
def proj (u : (⟨3, ![2, 8448, 2048]⟩ : Shape).Idx → EReal) (w : (⟨3, ![2, 2048, 14336]⟩ : Shape).Idx → EReal) (b : Fin 2) (t : Fin 8448)
    (j : Fin 4608) : EReal := ∑ k : Fin 2048, u (ix3 b t k) * w (ix3 0 k (wcol j))

/-- The call. -/
def mix (u : (⟨3, ![2, 8448, 2048]⟩ : Shape).Idx → EReal) (w : (⟨3, ![2, 2048, 14336]⟩ : Shape).Idx → EReal)
    (cr sr : (⟨2, ![8192, 128]⟩ : Shape).Idx → EReal) (ca sa : (⟨2, ![8192, 64]⟩ : Shape).Idx → EReal)
    (qn kn : (⟨2, ![1, 128]⟩ : Shape).Idx → EReal) : (⟨3, ![2, 8448, 4608]⟩ : Shape).Idx → EReal := fun i =>
  col (proj u w (i 0) (i 1)) (tbl 1 cr (i 1)) (tbl 0 sr (i 1)) (cosA ca (i 1)) (sinA sa (i 1))
    (fun e => qn (ix2 0 e)) (fun e => kn (ix2 0 e)) (i 2)

/-- The weight's column, before the gap. -/
theorem wcol_lo {j : Fin 4608} (h : j.val < 3072) : (wcol j).val = j.val := by
  show (if j.val < 3072 then j.val else j.val + 1024) = _
  rw [if_pos h]

/-- The weight's column, behind the gap. -/
theorem wcol_hi {j : Fin 4608} (h : ¬j.val < 3072) : (wcol j).val = j.val + 1024 := by
  show (if j.val < 3072 then j.val else j.val + 1024) = _
  rw [if_neg h]

section Columns
variable (P : Fin 4608 → EReal) (c s C S q k : Fin 128 → EReal)

/-- A retention query's or key's column. -/
theorem col_ret (h : Fin 8) (d : Fin 2) (e : Fin 128) : col P c s C S q k (cRet h d e) = retPart P c s h d e := by
  have e1 : headR (cRet h d e) = h := Fin.ext (by show (256 * h.val + 128 * d.val + e.val) / 256 % 8 = h.val; omega)
  have e2 : half (cRet h d e) = d := Fin.ext (by show (256 * h.val + 128 * d.val + e.val) / 128 % 2 = d.val; omega)
  have e3 : lane (cRet h d e) = e := Fin.ext (by show (256 * h.val + 128 * d.val + e.val) % 128 = e.val; omega)
  unfold col
  rw [if_pos (by show 256 * h.val + 128 * d.val + e.val < 2048; omega), e1, e2, e3]

/-- A retention value's column. -/
theorem col_val (e : Fin 1024) : col P c s C S q k (cVal e) = P (cVal e) := by
  unfold col
  rw [if_neg (by show ¬2048 + e.val < 2048; omega), if_neg (by show ¬(3072 ≤ 2048 + e.val ∧ 2048 + e.val < 4352); omega)]

/-- An attention query's or key's column. -/
theorem col_att (h : Fin 10) (e : Fin 128) : col P c s C S q k (cAtt h e) = attPart P C S q k h e := by
  have e1 : headA (cAtt h e) = h := Fin.ext (by show (3072 + 128 * h.val + e.val - 3072) / 128 % 10 = h.val; omega)
  have e3 : lane (cAtt h e) = e := Fin.ext (by show (3072 + 128 * h.val + e.val) % 128 = e.val; omega)
  unfold col
  rw [if_neg (by show ¬3072 + 128 * h.val + e.val < 2048; omega),
    if_pos (by show 3072 ≤ 3072 + 128 * h.val + e.val ∧ 3072 + 128 * h.val + e.val < 4352; omega), e1, e3]

/-- An attention value's column. -/
theorem col_last (e : Fin 256) : col P c s C S q k (cLast e) = P (cLast e) := by
  unfold col
  rw [if_neg (by show ¬4352 + e.val < 2048; omega), if_neg (by show ¬(3072 ≤ 4352 + e.val ∧ 4352 + e.val < 4352); omega)]

end Columns

/-- Every column is of one of the four kinds. -/
theorem cases (j : Fin 4608) : (∃ h d e, j = cRet h d e) ∨ (∃ e, j = cVal e) ∨ (∃ h e, j = cAtt h e) ∨ ∃ e, j = cLast e := by
  by_cases h1 : j.val < 2048
  · exact .inl ⟨⟨j.val / 256, by omega⟩, ⟨j.val % 256 / 128, by omega⟩, ⟨j.val % 128, by omega⟩,
      Fin.ext (by show j.val = 256 * (j.val / 256) + 128 * (j.val % 256 / 128) + j.val % 128; omega)⟩
  by_cases h2 : j.val < 3072
  · exact .inr (.inl ⟨⟨j.val - 2048, by omega⟩, Fin.ext (by show j.val = 2048 + (j.val - 2048); omega)⟩)
  by_cases h3 : j.val < 4352
  · exact .inr (.inr (.inl ⟨⟨(j.val - 3072) / 128, by omega⟩, ⟨j.val % 128, by omega⟩,
      Fin.ext (by show j.val = 3072 + 128 * ((j.val - 3072) / 128) + j.val % 128; omega)⟩))
  · exact .inr (.inr (.inr ⟨⟨j.val - 4352, by omega⟩, Fin.ext (by show j.val = 4352 + (j.val - 4352); omega)⟩))

/-- A latent's row among all rows. -/
def latent (t : Fin 8192) : Fin 8448 := ⟨256 + t, by omega⟩

/-- A row is the context's or a latent's. -/
theorem rows (t : Fin 8448) : t.val < 256 ∨ ∃ τ, t = latent τ := by
  by_cases h : t.val < 256
  · exact .inl h
  · exact .inr ⟨⟨t.val - 256, by omega⟩, Fin.ext (by show t.val = 256 + (t.val - 256); omega)⟩

/-- A table at a row of the context. -/
theorem tbl_ctx {n : ℕ} (z : EReal) (f : (⟨2, ![8192, n]⟩ : Shape).Idx → EReal) {t : Fin 8448} (h : t.val < 256) (e : Fin n) : tbl z f t e = z := by
  unfold tbl
  rw [dif_pos h]

/-- A table at a latent's row. -/
theorem tbl_lat {n : ℕ} (z : EReal) (f : (⟨2, ![8192, n]⟩ : Shape).Idx → EReal) (τ : Fin 8192) (e : Fin n) : tbl z f (latent τ) e = f (ix2 τ e) := by
  unfold tbl
  rw [dif_neg (by show ¬256 + τ.val < 256; omega)]
  refine congrArg (fun r => f (ix2 r e)) (Fin.ext ?_)
  show 256 + τ.val - 256 = τ.val
  omega

/-- A pair's first half. -/
theorem turn_lo (a b c s : EReal) : turn 0 a b c s = a * c - b * s := if_pos rfl

/-- A pair's second half. -/
theorem turn_hi (a b c s : EReal) : turn 1 a b c s = b * c + a * s := if_neg (by decide)

/-- A pair turned by nothing. -/
theorem turn_none (d : Fin 2) (f : Fin 2 → EReal) : turn d (f 0) (f 1) 1 0 = f d := by
  match d with
  | 0 => rw [turn_lo, mul_one, mul_zero, sub_zero]
  | 1 => rw [turn_hi, mul_one, mul_zero, add_zero]

/-- A real that is not negative scales a pair before it is turned or after. -/
theorem turn_scale (d : Fin 2) (a b c s : EReal) {r : ℝ} (hr : 0 ≤ r) : turn d (a * r) (b * r) c s = turn d a b c s * r := by
  have h (x y : EReal) : (x + y) * r = x * r + y * r :=
    EReal.right_distrib_of_nonneg_of_ne_top (EReal.coe_nonneg.2 hr) (EReal.coe_ne_top r) x y
  match d with
  | 0 => rw [turn_lo, turn_lo, sub_eq_add_neg, sub_eq_add_neg, h, neg_mul, mul_right_comm a, mul_right_comm b]
  | 1 => rw [turn_hi, turn_hi, h, mul_right_comm a, mul_right_comm b]

/-- A normalized head is determined by its entries and its weights. -/
theorem unit_congr {x x' w w' : Fin 128 → EReal} (h : ∀ k, x k = x' k) (hw : ∀ k, w k = w' k) (e : Fin 128) : unit x w e = unit x' w' e := by
  rw [funext h, funext hw]

end Cert.MixCall
-- ==== Proof.MixTile.lean ====
module
public import proofs.«01_k».proof.Proof.MixSpec
public import proofs.«01_k».proof.Proof.Gen.MixIdeal.Value

@[expose] public section
noncomputable section
namespace Cert.MixCall
open Idealize.ShloMosaic Idealize.ShloMosaic.TcCoe Idealize.SL.Sem Cert.Blocks Cert.Consts Cert.MixIdeal Cert.MixIdeal.Gen
open scoped BigOperators

/-! # What the kernel of the mixed projection stores -/

/-- A lane in the first quarter of the columns that one load projects onto. -/
def q0 (e : Fin 128) : Fin 512 := ⟨e, by omega⟩

/-- A lane in the second quarter. -/
def q1 (e : Fin 128) : Fin 512 := ⟨128 + e, by omega⟩

/-- A lane in the third quarter. -/
def q2 (e : Fin 128) : Fin 512 := ⟨256 + e, by omega⟩

/-- A lane in the fourth quarter. -/
def q3 (e : Fin 128) : Fin 512 := ⟨384 + e, by omega⟩

/-- A lane in the second half. -/
def upper (e : Fin 256) : Fin 512 := ⟨256 + e, by omega⟩

section Payloads
variable (v0 : Vec Ideal S1x528x2048 .bf16) (c s : Vec Ideal S528x128 .f32) (w : Vec Ideal S1x2048x512 .bf16) (n : Vec Ideal S1x128 .f32)
    (v : FVec Ideal S528x512 .f32) (p : Fin 528) (e : Fin 128)

/-- A projection of a row of the block. -/
def dot (A : Fin 512) : EReal := ∑ k : Fin 2048, v0 (ix3 0 p k) * w (ix3 0 k A)

/-- The projections of the attention's first four queries. -/
theorem pay46 (A : Fin 512) : (k0_pay46 (F := Ideal) (k0_pay2 v0) w (ix2 p A) : EReal) = dot v0 w p A := by
  pointwise [k0_pay46, k0_pay2]
  simp only [dot]

/-- The projections of the attention's last four queries. -/
theorem pay58 (A : Fin 512) : (k0_pay58 (F := Ideal) (k0_pay2 v0) w (ix2 p A) : EReal) = dot v0 w p A := by
  pointwise [k0_pay58, k0_pay2]
  simp only [dot]

/-- The projections of the attention's keys and values. -/
theorem pay69 (A : Fin 512) : (k0_pay69 (F := Ideal) (k0_pay2 v0) w (ix2 p A) : EReal) = dot v0 w p A := by
  pointwise [k0_pay69, k0_pay2]
  simp only [dot]

/-- The retention branch's first head, half 0. -/
theorem ret00 : (k0_pay8 (F := Ideal) v0 c s w (ix3 0 p e) : EReal)
    = turn 0 (dot v0 w p (q0 e)) (dot v0 w p (q1 e)) (c (ix2 p e)) (s (ix2 p e)) * 1 := by
  pointwise [k0_pay8, k0_pay3, k0_pay4, k0_pay6, k0_pay7, k0_pay5, k0_pay2]
  simp only [dot, turn_lo, turn_hi, lit, q0, q1, mul_one]

/-- The retention branch's first head, half 1. -/
theorem ret01 : (k0_pay9 (F := Ideal) v0 c s w (ix3 0 p e) : EReal)
    = turn 1 (dot v0 w p (q0 e)) (dot v0 w p (q1 e)) (c (ix2 p e)) (s (ix2 p e)) * 1 := by
  pointwise [k0_pay9, k0_pay3, k0_pay4, k0_pay6, k0_pay7, k0_pay5, k0_pay2]
  simp only [dot, turn_lo, turn_hi, lit, q0, q1, mul_one]

/-- The retention branch's second head, half 0. -/
theorem ret10 : (k0_pay13 (F := Ideal) (k0_pay12 v0 c s w) (ix3 0 p e) : EReal)
    = turn 0 (dot v0 w p (q2 e)) (dot v0 w p (q3 e)) (c (ix2 p e)) (s (ix2 p e)) * 1 := by
  pointwise [k0_pay13, k0_pay12, k0_pay3, k0_pay4, k0_pay10, k0_pay11, k0_pay5, k0_pay2]
  simp only [dot, turn_lo, turn_hi, lit, q2, q3, mul_one]

/-- The retention branch's second head, half 1. -/
theorem ret11 : (k0_pay14 (F := Ideal) (k0_pay3 c) (k0_pay4 s) (k0_pay10 v0 w) (k0_pay11 v0 w) (ix3 0 p e) : EReal)
    = turn 1 (dot v0 w p (q2 e)) (dot v0 w p (q3 e)) (c (ix2 p e)) (s (ix2 p e)) * 1 := by
  pointwise [k0_pay14, k0_pay3, k0_pay4, k0_pay10, k0_pay11, k0_pay5, k0_pay2]
  simp only [dot, turn_lo, turn_hi, lit, q2, q3, mul_one]

/-- The retention branch's third head, half 0. -/
theorem ret20 : (k0_pay18 (F := Ideal) (k0_pay2 v0) (k0_pay3 c) (k0_pay4 s) w (ix3 0 p e) : EReal)
    = turn 0 (dot v0 w p (q0 e)) (dot v0 w p (q1 e)) (c (ix2 p e)) (s (ix2 p e)) * 1 := by
  pointwise [k0_pay18, k0_pay2, k0_pay3, k0_pay4, k0_pay16, k0_pay17, k0_pay15]
  simp only [dot, turn_lo, turn_hi, lit, q0, q1, mul_one]

/-- The retention branch's third head, half 1. -/
theorem ret21 : (k0_pay19 (F := Ideal) (k0_pay2 v0) (k0_pay3 c) (k0_pay4 s) w (ix3 0 p e) : EReal)
    = turn 1 (dot v0 w p (q0 e)) (dot v0 w p (q1 e)) (c (ix2 p e)) (s (ix2 p e)) * 1 := by
  pointwise [k0_pay19, k0_pay2, k0_pay3, k0_pay4, k0_pay16, k0_pay17, k0_pay15]
  simp only [dot, turn_lo, turn_hi, lit, q0, q1, mul_one]

/-- The retention branch's fourth head, half 0. -/
theorem ret30 : (k0_pay22 (F := Ideal) (k0_pay3 c) (k0_pay4 s) (k0_pay15 (k0_pay2 v0) w) (k0_pay20 (k0_pay2 v0) w) (ix3 0 p e) : EReal)
    = turn 0 (dot v0 w p (q2 e)) (dot v0 w p (q3 e)) (c (ix2 p e)) (s (ix2 p e)) * 1 := by
  pointwise [k0_pay22, k0_pay3, k0_pay4, k0_pay15, k0_pay2, k0_pay20, k0_pay21]
  simp only [dot, turn_lo, turn_hi, lit, q2, q3, mul_one]

/-- The retention branch's fourth head, half 1. -/
theorem ret31 : (k0_pay23 (F := Ideal) (k0_pay3 c) (k0_pay4 s) (k0_pay15 (k0_pay2 v0) w) (k0_pay20 (k0_pay2 v0) w) (ix3 0 p e) : EReal)
    = turn 1 (dot v0 w p (q2 e)) (dot v0 w p (q3 e)) (c (ix2 p e)) (s (ix2 p e)) * 1 := by
  pointwise [k0_pay23, k0_pay3, k0_pay4, k0_pay15, k0_pay2, k0_pay20, k0_pay21]
  simp only [dot, turn_lo, turn_hi, lit, q2, q3, mul_one]

/-- The retention branch's fifth head, half 0. -/
theorem ret40 : (k0_pay27 (F := Ideal) (k0_pay2 v0) (k0_pay3 c) (k0_pay4 s) w (ix3 0 p e) : EReal)
    = turn 0 (dot v0 w p (q0 e)) (dot v0 w p (q1 e)) (c (ix2 p e)) (s (ix2 p e)) * lit 0x3D800000#32 := by
  pointwise [k0_pay27, k0_pay2, k0_pay3, k0_pay4, k0_pay25, k0_pay26, k0_pay24]
  simp only [dot, turn_lo, turn_hi, lit, q0, q1, mul_one]

/-- The retention branch's fifth head, half 1. -/
theorem ret41 : (k0_pay29 (F := Ideal) (k0_pay28 (k0_pay2 v0) (k0_pay3 c) (k0_pay4 s) w) (ix3 0 p e) : EReal)
    = turn 1 (dot v0 w p (q0 e)) (dot v0 w p (q1 e)) (c (ix2 p e)) (s (ix2 p e)) * lit 0x3D800000#32 := by
  pointwise [k0_pay29, k0_pay28, k0_pay2, k0_pay3, k0_pay4, k0_pay25, k0_pay26, k0_pay24]
  simp only [dot, turn_lo, turn_hi, lit, q0, q1, mul_one]

/-- The retention branch's sixth head, half 0. -/
theorem ret50 : (k0_pay32 (F := Ideal) (k0_pay3 c) (k0_pay4 s) (k0_pay24 (k0_pay2 v0) w) (ix3 0 p e) : EReal)
    = turn 0 (dot v0 w p (q2 e)) (dot v0 w p (q3 e)) (c (ix2 p e)) (s (ix2 p e)) * lit 0x3D800000#32 := by
  pointwise [k0_pay32, k0_pay3, k0_pay4, k0_pay24, k0_pay2, k0_pay30, k0_pay31]
  simp only [dot, turn_lo, turn_hi, lit, q2, q3, mul_one]

/-- The retention branch's sixth head, half 1. -/
theorem ret51 : (k0_pay33 (F := Ideal) (k0_pay3 c) (k0_pay4 s) (k0_pay24 (k0_pay2 v0) w) (ix3 0 p e) : EReal)
    = turn 1 (dot v0 w p (q2 e)) (dot v0 w p (q3 e)) (c (ix2 p e)) (s (ix2 p e)) * lit 0x3D800000#32 := by
  pointwise [k0_pay33, k0_pay3, k0_pay4, k0_pay24, k0_pay2, k0_pay30, k0_pay31]
  simp only [dot, turn_lo, turn_hi, lit, q2, q3, mul_one]

/-- The retention branch's seventh head, half 0. -/
theorem ret60 : (k0_pay37 (F := Ideal) (k0_pay2 v0) (k0_pay3 c) (k0_pay4 s) w (ix3 0 p e) : EReal)
    = turn 0 (dot v0 w p (q0 e)) (dot v0 w p (q1 e)) (c (ix2 p e)) (s (ix2 p e)) * lit 0x3D800000#32 := by
  pointwise [k0_pay37, k0_pay2, k0_pay3, k0_pay4, k0_pay35, k0_pay36, k0_pay34]
  simp only [dot, turn_lo, turn_hi, lit, q0, q1, mul_one]

/-- The retention branch's seventh head, half 1. -/
theorem ret61 : (k0_pay39 (F := Ideal) (k0_pay4 s) (k0_pay35 (k0_pay2 v0) w) (k0_pay38 (k0_pay2 v0) (k0_pay3 c) w) (ix3 0 p e) : EReal)
    = turn 1 (dot v0 w p (q0 e)) (dot v0 w p (q1 e)) (c (ix2 p e)) (s (ix2 p e)) * lit 0x3D800000#32 := by
  pointwise [k0_pay39, k0_pay4, k0_pay35, k0_pay2, k0_pay38, k0_pay3, k0_pay34, k0_pay36]
  simp only [dot, turn_lo, turn_hi, lit, q0, q1, mul_one]

/-- The retention branch's eighth head, half 0. -/
theorem ret70 : (k0_pay42 (F := Ideal) (k0_pay3 c) (k0_pay4 s) (k0_pay34 (k0_pay2 v0) w) (ix3 0 p e) : EReal)
    = turn 0 (dot v0 w p (q2 e)) (dot v0 w p (q3 e)) (c (ix2 p e)) (s (ix2 p e)) * lit 0x3D800000#32 := by
  pointwise [k0_pay42, k0_pay3, k0_pay4, k0_pay34, k0_pay2, k0_pay40, k0_pay41]
  simp only [dot, turn_lo, turn_hi, lit, q2, q3, mul_one]

/-- The retention branch's eighth head, half 1. -/
theorem ret71 : (k0_pay43 (F := Ideal) (k0_pay3 c) (k0_pay4 s) (k0_pay34 (k0_pay2 v0) w) (ix3 0 p e) : EReal)
    = turn 1 (dot v0 w p (q2 e)) (dot v0 w p (q3 e)) (c (ix2 p e)) (s (ix2 p e)) * lit 0x3D800000#32 := by
  pointwise [k0_pay43, k0_pay3, k0_pay4, k0_pay34, k0_pay2, k0_pay40, k0_pay41]
  simp only [dot, turn_lo, turn_hi, lit, q2, q3, mul_one]

/-- The retention values' low half. -/
theorem val_low (A : Fin 512) : (k0_pay44 (F := Ideal) (k0_pay2 v0) w (ix3 0 p A) : EReal) = dot v0 w p A := by
  pointwise [k0_pay44, k0_pay2]
  simp only [dot]

/-- The retention values' high half. -/
theorem val_high (A : Fin 512) : (k0_pay45 (F := Ideal) (k0_pay2 v0) w (ix3 0 p A) : EReal) = dot v0 w p A := by
  pointwise [k0_pay45, k0_pay2]
  simp only [dot]

/-- The attention's first head. -/
theorem att0 : (k0_pay48 (F := Ideal) (k0_pay47 (k0_pay2 v0) w n c s) (ix3 0 p e) : EReal)
    = att (fun k => (k0_pay46 (F := Ideal) (k0_pay2 v0) w (ix2 p (q0 k)) : EReal)) (fun k => n (ix2 0 k)) (fun k => c (ix2 p k)) (fun k => s (ix2 p k)) e * qscale := by
  pointwise [k0_pay48, k0_pay47]
  simp only [att, unit, q0, lit, opp, inv128, n128, mul_inv _ (show (128 : ℝ) ≠ 0 by norm_num)]
  rfl

/-- The attention's second head. -/
theorem att1 : (k0_pay49 (F := Ideal) v n c s (ix3 0 p e) : EReal)
    = att (fun k => v (ix2 p (q1 k))) (fun k => n (ix2 0 k)) (fun k => c (ix2 p k)) (fun k => s (ix2 p k)) e * qscale := by
  pointwise [k0_pay49]
  simp only [att, unit, q1, lit, opp, inv128, n128, mul_inv _ (show (128 : ℝ) ≠ 0 by norm_num)]
  rfl

/-- The attention's third head. -/
theorem att2 : (k0_pay53 (F := Ideal) (k0_pay50 v) n (k0_pay51 v) k0_pay52 c s (ix3 0 p e) : EReal)
    = att (fun k => v (ix2 p (q2 k))) (fun k => n (ix2 0 k)) (fun k => c (ix2 p k)) (fun k => s (ix2 p k)) e * qscale := by
  pointwise [k0_pay53, k0_pay50, k0_pay51, k0_pay52]
  simp only [att, unit, q2, lit, opp, inv128, n128, mul_inv _ (show (128 : ℝ) ≠ 0 by norm_num)]
  rfl

/-- The attention's fourth head. -/
theorem att3 : (k0_pay57 (F := Ideal) (k0_pay55 v n c) (k0_pay56 v n) s (ix3 0 p e) : EReal)
    = att (fun k => v (ix2 p (q3 k))) (fun k => n (ix2 0 k)) (fun k => c (ix2 p k)) (fun k => s (ix2 p k)) e * qscale := by
  pointwise [k0_pay57, k0_pay55, k0_pay56, k0_pay54]
  simp only [att, unit, q3, lit, opp, inv128, n128, mul_inv _ (show (128 : ℝ) ≠ 0 by norm_num)]
  rfl

/-- The attention's fifth head. -/
theorem att4 : (k0_pay60 (F := Ideal) (k0_pay59 (k0_pay2 v0) w n c s) (ix3 0 p e) : EReal)
    = att (fun k => (k0_pay58 (F := Ideal) (k0_pay2 v0) w (ix2 p (q0 k)) : EReal)) (fun k => n (ix2 0 k)) (fun k => c (ix2 p k)) (fun k => s (ix2 p k)) e * qscale := by
  pointwise [k0_pay60, k0_pay59]
  simp only [att, unit, q0, lit, opp, inv128, n128, mul_inv _ (show (128 : ℝ) ≠ 0 by norm_num)]
  rfl

/-- The attention's sixth head. -/
theorem att5 : (k0_pay61 (F := Ideal) v n c s (ix3 0 p e) : EReal)
    = att (fun k => v (ix2 p (q1 k))) (fun k => n (ix2 0 k)) (fun k => c (ix2 p k)) (fun k => s (ix2 p k)) e * qscale := by
  pointwise [k0_pay61]
  simp only [att, unit, q1, lit, opp, inv128, n128, mul_inv _ (show (128 : ℝ) ≠ 0 by norm_num)]
  rfl

/-- The attention's seventh head. -/
theorem att6 : (k0_pay65 (F := Ideal) (k0_pay62 v) n (k0_pay63 v) k0_pay64 (constant S528x128 .f32 0x00000000#32) c s (ix3 0 p e) : EReal)
    = att (fun k => v (ix2 p (q2 k))) (fun k => n (ix2 0 k)) (fun k => c (ix2 p k)) (fun k => s (ix2 p k)) e * qscale := by
  pointwise [k0_pay65, k0_pay62, k0_pay63, k0_pay64]
  simp only [att, unit, q2, lit, opp, inv128, n128, mul_inv _ (show (128 : ℝ) ≠ 0 by norm_num)]
  rfl

/-- The attention's eighth head. -/
theorem att7 : (k0_pay68 (F := Ideal) (k0_pay66 v n) (k0_pay67 v n c) s (ix3 0 p e) : EReal)
    = att (fun k => v (ix2 p (q3 k))) (fun k => n (ix2 0 k)) (fun k => c (ix2 p k)) (fun k => s (ix2 p k)) e * qscale := by
  pointwise [k0_pay68, k0_pay66, k0_pay67]
  simp only [att, unit, q3, lit, opp, inv128, n128, mul_inv _ (show (128 : ℝ) ≠ 0 by norm_num)]
  rfl

/-- The attention's ninth head. -/
theorem att8 : (k0_pay71 (F := Ideal) (k0_pay70 (k0_pay2 v0) w n c s) (Scalar.ofBits .f32 0x3F800000#32) (ix3 0 p e) : EReal)
    = att (fun k => (k0_pay69 (F := Ideal) (k0_pay2 v0) w (ix2 p (q0 k)) : EReal)) (fun k => n (ix2 0 k)) (fun k => c (ix2 p k)) (fun k => s (ix2 p k)) e * 1 := by
  pointwise [k0_pay71, k0_pay70]
  simp only [att, unit, q0, lit, opp, inv128, n128, mul_inv _ (show (128 : ℝ) ≠ 0 by norm_num), mul_one]

/-- The attention's tenth head. -/
theorem att9 : (k0_pay72 (F := Ideal) v n c s (ix3 0 p e) : EReal)
    = att (fun k => v (ix2 p (q1 k))) (fun k => n (ix2 0 k)) (fun k => c (ix2 p k)) (fun k => s (ix2 p k)) e * 1 := by
  pointwise [k0_pay72]
  simp only [att, unit, q1, lit, opp, inv128, n128, mul_inv _ (show (128 : ℝ) ≠ 0 by norm_num), mul_one]

/-- The attention's values. -/
theorem last (e : Fin 256) : (k0_pay1 (F := Ideal) (k0_pay73 v) (ix3 0 p e) : EReal) = v (ix2 p (upper e)) := by
  pointwise [k0_pay1, k0_pay73]
  simp only [upper]

end Payloads

section Tile
variable (c : Dev nD) (i : grid0.Coords) (arg2 : Memref sig .tc .vmem S1x528x2048 .bf16) (harg2 : arg2.IsWhole) (arg3 : Memref sig .tc .vmem S1x2048x3072 .bf16) (harg3 : arg3.IsWhole) (arg4 : Memref sig .tc .vmem S1x2048x2048 .bf16) (harg4 : arg4.IsWhole) (arg5 : Memref sig .tc .vmem S528x128 .f32) (harg5 : arg5.IsWhole) (arg6 : Memref sig .tc .vmem S528x128 .f32) (harg6 : arg6.IsWhole) (arg7 : Memref sig .tc .vmem S528x128 .f32) (harg7 : arg7.IsWhole) (arg8 : Memref sig .tc .vmem S528x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x528x4608 .bf16) (harg11 : arg11.IsWhole)
    (x0 : Vec Ideal S1x528x2048 .bf16) (x1 : Vec Ideal S1x2048x3072 .bf16) (x2 : Vec Ideal S1x2048x2048 .bf16) (x3 : Vec Ideal S528x128 .f32) (x4 : Vec Ideal S528x128 .f32) (x5 : Vec Ideal S528x128 .f32) (x6 : Vec Ideal S528x128 .f32) (x7 : Vec Ideal S1x128 .f32) (x8 : Vec Ideal S1x128 .f32)

/-- A row of the block projected. -/
def blockP (p : Fin 528) (j : Fin 4608) : EReal :=
  if h : j.val < 3072 then ∑ k : Fin 2048, x0 (ix3 0 p k) * x1 (ix3 0 k ⟨j, h⟩)
  else ∑ k : Fin 2048, x0 (ix3 0 p k) * x2 (ix3 0 k ⟨j - 3072, by omega⟩)

/-- What a grid point writes. -/
def tileOf (y : S1x528x4608.Idx) : EReal :=
  col (blockP x0 x1 x2 (y 1)) (fun e => x3 (ix2 (y 1) e)) (fun e => x4 (ix2 (y 1) e)) (fun e => x5 (ix2 (y 1) e)) (fun e => x6 (ix2 (y 1) e))
    (fun e => x7 (ix2 0 e)) (fun e => x8 (ix2 0 e)) (y 2)

/-- A load of a rectangle of a whole input block. -/
theorem block_read {s : Shape} {e : EltTy} {κ : Kind} {sp : Space} (mr : Memref sig κ sp s e) (h : mr.IsWhole) (x : s.Idx → Elt Ideal e)
    (r : Rect s) (j : r.shape.Idx) : View.readAt (Elt Ideal) mr.view r.toLoadRect (h.unread x) j = x (r.idx j) := by
  rw [View.readAt_eq_ld, h.read_unread]

variable {c i arg2 harg2 arg3 harg3 arg4 harg4 arg5 harg5 arg9 harg9 x0 x1 x2 x3 x4 x5 x6 x7 x8}

/-- A projection onto columns before the gap. -/
theorem dot_lo {o : ℕ} {inb} {inb'} {p : Fin 528} {A : Fin 512} {j : Fin 4608} (hj : j.val = o + A.val) (ho : j.val < 3072) :
    dot (View.readAt (Elt Ideal) arg2.view (Rect.unit (s := S1x528x2048) ![0, 0, 0] S1x528x2048.size inb).toLoadRect (harg2.unread x0))
      (View.readAt (Elt Ideal) arg3.view (Rect.unit (s := S1x2048x3072) ![0, 0, o] S1x2048x512.size inb').toLoadRect (harg3.unread x1)) p A = blockP x0 x1 x2 p j := by
  unfold dot blockP
  rw [dif_pos ho]
  refine sum_mul (fun k => ?_) fun k => ?_
  · rw [block_read]
    show x0 _ = x0 _
    blk_ext [] <;> simp
  · rw [block_read]
    show x1 _ = x1 _
    blk_ext [hj] <;> simp

/-- A projection onto columns behind the gap. -/
theorem dot_hi {o : ℕ} {inb} {inb'} {p : Fin 528} {A : Fin 512} {j : Fin 4608} (hj : j.val = 3072 + o + A.val) :
    dot (View.readAt (Elt Ideal) arg2.view (Rect.unit (s := S1x528x2048) ![0, 0, 0] S1x528x2048.size inb).toLoadRect (harg2.unread x0))
      (View.readAt (Elt Ideal) arg4.view (Rect.unit (s := S1x2048x2048) ![0, 0, o] S1x2048x512.size inb').toLoadRect (harg4.unread x2)) p A = blockP x0 x1 x2 p j := by
  unfold dot blockP
  rw [dif_neg (by omega)]
  refine sum_mul (fun k => ?_) fun k => ?_
  · rw [block_read]
    show x0 _ = x0 _
    blk_ext [] <;> simp
  · rw [block_read]
    show x2 _ = x2 _
    blk_ext [hj] <;> simp <;> omega

/-- Where an entry of a stored rectangle of columns lies. -/
theorem emb_ix {o n : ℕ} {inb} (p : Fin 528) (e : Fin n) {j : Fin 4608} (hj : j.val = o + e.val) :
    ((Rect.unit (s := S1x528x4608) ![0, 0, o] ![1, 528, n] inb).emb (ix3 0 p e) : S1x528x4608.Idx) = ix3 0 p j := by
  show (Rect.unit (s := S1x528x4608) ![0, 0, o] ![1, 528, n] inb).idx (ix3 0 p e) = ix3 0 p j
  blk_ext [hj] <;> simp

/-- A load of a table of angles. -/
theorem read_angle {inb} (p : Fin 528) (e : Fin 128) :
    (View.readAt (Elt Ideal) arg5.view (Rect.unit (s := S528x128) ![0, 0] S528x128.size inb).toLoadRect (harg5.unread x3) (ix2 p e) : EReal) = x3 (ix2 p e) := by
  rw [block_read]
  show x3 _ = x3 _
  blk_ext [] <;> simp

/-- A load of a norm's weights. -/
theorem read_weight {inb} (e : Fin 128) :
    (View.readAt (Elt Ideal) arg9.view (Rect.unit (s := S1x128) ![0, 0] S1x128.size inb).toLoadRect (harg9.unread x7) (ix2 0 e) : EReal) = x7 (ix2 0 e) := by
  rw [block_read]
  show x7 _ = x7 _
  blk_ext [] <;> simp

/-- A stored retention query or key is the tile's. -/
theorem ret_tile (h : Fin 8) (d : Fin 2) {p : Fin 528} {e : Fin 128} {a b c s k : EReal} {y : S1x528x4608.Idx} (hy : y = ix3 0 p (cRet h d e))
    (hk : k = if h.val < 4 then 1 else lit 0x3D800000#32) (ha : a = blockP x0 x1 x2 p (cRet h 0 e)) (hb : b = blockP x0 x1 x2 p (cRet h 1 e))
    (hc : c = x3 (ix2 p e)) (hs : s = x4 (ix2 p e)) : turn d a b c s * k = tileOf x0 x1 x2 x3 x4 x5 x6 x7 x8 y := by
  rw [hy, hk, ha, hb, hc, hs]
  exact (col_ret (blockP x0 x1 x2 p) (fun e => x3 (ix2 p e)) (fun e => x4 (ix2 p e)) (fun e => x5 (ix2 p e)) (fun e => x6 (ix2 p e))
    (fun e => x7 (ix2 0 e)) (fun e => x8 (ix2 0 e)) h d e).symm

/-- A stored attention query or key is the tile's. -/
theorem att_tile (h : Fin 10) {p : Fin 528} {e : Fin 128} {x w C S : Fin 128 → EReal} {k : EReal} {y : S1x528x4608.Idx} (hy : y = ix3 0 p (cAtt h e))
    (hk : k = if h.val < 8 then qscale else 1) (hw : ∀ e, w e = (if h.val < 8 then x7 else x8) (ix2 0 e)) (hx : ∀ e, x e = blockP x0 x1 x2 p (cAtt h e))
    (hC : ∀ e, C e = x5 (ix2 p e)) (hS : ∀ e, S e = x6 (ix2 p e)) : att x w C S e * k = tileOf x0 x1 x2 x3 x4 x5 x6 x7 x8 y := by
  rw [hy, hk, funext hw, funext hx, funext hC, funext hS]
  refine Eq.trans ?_ (col_att (blockP x0 x1 x2 p) (fun e => x3 (ix2 p e)) (fun e => x4 (ix2 p e)) (fun e => x5 (ix2 p e)) (fun e => x6 (ix2 p e))
    (fun e => x7 (ix2 0 e)) (fun e => x8 (ix2 0 e)) h e).symm
  unfold attPart
  by_cases hh : h.val < 8
  · rw [if_pos hh, if_pos hh, if_pos hh]
  · rw [if_neg hh, if_neg hh, if_neg hh]

/-- A stored retention value is the tile's. -/
theorem val_tile {p : Fin 528} {e : Fin 1024} {a : EReal} {y : S1x528x4608.Idx} (hy : y = ix3 0 p (cVal e)) (ha : a = blockP x0 x1 x2 p (cVal e)) :
    a = tileOf x0 x1 x2 x3 x4 x5 x6 x7 x8 y := by
  rw [hy, ha]
  exact (col_val (blockP x0 x1 x2 p) (fun e => x3 (ix2 p e)) (fun e => x4 (ix2 p e)) (fun e => x5 (ix2 p e)) (fun e => x6 (ix2 p e))
    (fun e => x7 (ix2 0 e)) (fun e => x8 (ix2 0 e)) e).symm

/-- A stored attention value is the tile's. -/
theorem last_tile {p : Fin 528} {e : Fin 256} {a : EReal} {y : S1x528x4608.Idx} (hy : y = ix3 0 p (cLast e)) (ha : a = blockP x0 x1 x2 p (cLast e)) :
    a = tileOf x0 x1 x2 x3 x4 x5 x6 x7 x8 y := by
  rw [hy, ha]
  exact (col_last (blockP x0 x1 x2 p) (fun e => x3 (ix2 p e)) (fun e => x4 (ix2 p e)) (fun e => x5 (ix2 p e)) (fun e => x6 (ix2 p e))
    (fun e => x7 (ix2 0 e)) (fun e => x8 (ix2 0 e)) e).symm

end Tile
end Cert.MixCall
-- ==== Proof.MixStores.lean ====
module
public import proofs.«01_k».proof.Proof.MixTile
public import proofs.«01_k».proof.Proof.Gen.MixIdeal.Value

@[expose] public section
noncomputable section
namespace Cert.MixCall
open Idealize.ShloMosaic Idealize.ShloMosaic.TcCoe Idealize.SL.Sem Cert.Blocks Cert.Consts Cert.MixIdeal Cert.MixIdeal.Gen
open scoped BigOperators

/-! # What a grid point of the mixed projection writes -/

section Tile
variable (c : Dev nD) (i : grid0.Coords) (arg2 : Memref sig .tc .vmem S1x528x2048 .bf16) (harg2 : arg2.IsWhole) (arg3 : Memref sig .tc .vmem S1x2048x3072 .bf16) (harg3 : arg3.IsWhole) (arg4 : Memref sig .tc .vmem S1x2048x2048 .bf16) (harg4 : arg4.IsWhole) (arg5 : Memref sig .tc .vmem S528x128 .f32) (harg5 : arg5.IsWhole) (arg6 : Memref sig .tc .vmem S528x128 .f32) (harg6 : arg6.IsWhole) (arg7 : Memref sig .tc .vmem S528x128 .f32) (harg7 : arg7.IsWhole) (arg8 : Memref sig .tc .vmem S528x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x528x4608 .bf16) (harg11 : arg11.IsWhole)
    (x0 : Vec Ideal S1x528x2048 .bf16) (x1 : Vec Ideal S1x2048x3072 .bf16) (x2 : Vec Ideal S1x2048x2048 .bf16) (x3 : Vec Ideal S528x128 .f32) (x4 : Vec Ideal S528x128 .f32) (x5 : Vec Ideal S528x128 .f32) (x6 : Vec Ideal S528x128 .f32) (x7 : Vec Ideal S1x128 .f32) (x8 : Vec Ideal S1x128 .f32)

/-- What a grid point writes, from the blocks that it reads. -/
theorem tile (y : S1x528x4608.Idx) :
    View.canon (kernelRun0_A (F := Ideal) c i arg2 harg2 arg3 harg3 arg4 harg4 arg5 harg5 arg6 harg6 arg7 harg7 arg8 harg8 arg9 harg9 arg10 harg10
      arg11 harg11 x0 x1 x2 x3 x4 x5 x6 x7 x8).1 y = tileOf x0 x1 x2 x3 x4 x5 x6 x7 x8 y := by
  refine View.canon_apply_of_pieces (tileOf x0 x1 x2 x3 x4 x5 x6 x7 x8) _ ?_ y (cover0_A_9 c i arg2 harg2 arg3 harg3 arg4 harg4 arg5 harg5 arg6 harg6 arg7 harg7
    arg8 harg8 arg9 harg9 arg10 harg10 arg11 harg11 x0 x1 x2 x3 x4 x5 x6 x7 x8 y)
  unfold kernelRun0_A
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, ?_⟩⟩⟩⟩⟩⟩⟩⟩⟩⟩⟩⟩⟩⟩⟩⟩⟩⟩⟩⟩⟩⟩⟩⟩⟩⟩⟩⟩⟩
  all_goals intro x
  all_goals try unfold kernelRun0_A.sl.r_28
  all_goals try unfold kernelRun0_A.sl.r_27
  all_goals try unfold kernelRun0_A.sl.r_26
  all_goals try unfold kernelRun0_A.sl.r_25
  all_goals try unfold kernelRun0_A.sl.r_24
  all_goals try unfold kernelRun0_A.sl.r_23
  all_goals try unfold kernelRun0_A.sl.r_22
  all_goals try unfold kernelRun0_A.sl.r_21
  all_goals try unfold kernelRun0_A.sl.r_20
  all_goals try unfold kernelRun0_A.sl.r_19
  all_goals try unfold kernelRun0_A.sl.r_18
  all_goals try unfold kernelRun0_A.sl.r_17
  all_goals try unfold kernelRun0_A.sl.r_16
  all_goals try unfold kernelRun0_A.sl.r_15
  all_goals try unfold kernelRun0_A.sl.r_14
  all_goals try unfold kernelRun0_A.sl.r_13
  all_goals try unfold kernelRun0_A.sl.r_12
  all_goals try unfold kernelRun0_A.sl.r_11
  all_goals try unfold kernelRun0_A.sl.r_10
  all_goals try unfold kernelRun0_A.sl.r_9
  all_goals try unfold kernelRun0_A.sl.r_8
  all_goals try unfold kernelRun0_A.sl.r_7
  all_goals try unfold kernelRun0_A.sl.r_6
  all_goals try unfold kernelRun0_A.sl.r_5
  all_goals try unfold kernelRun0_A.sl.r_4
  all_goals try unfold kernelRun0_A.sl.r_3
  all_goals try unfold kernelRun0_A.sl.r_2
  all_goals try unfold kernelRun0_A.sl.r_1
  all_goals try unfold kernelRun0_A.sl.r
  · obtain ⟨a, p, e, rfl⟩ := eq_ix3 (a := 1) (b := 528) (c := 256) x
    obtain rfl : a = 0 := Fin.ext (by omega)
    refine (last _ p e).trans (last_tile (e := e) (emb_ix (inb := by decide +kernel) p e rfl) ?_)
    rw [pay69]
    exact dot_hi (by show 4352 + e.val = 3072 + 1024 + (256 + e.val); omega)
  · obtain ⟨a, p, e, rfl⟩ := eq_ix3 (a := 1) (b := 528) (c := 128) x
    obtain rfl : a = 0 := Fin.ext (by omega)
    refine (att9 _ _ _ _ p e).trans (att_tile 9 (emb_ix (inb := by decide +kernel) p e (by show 3072 + 128 * 9 + e.val = 4224 + e.val; omega)) ((if_neg (by decide)).symm) (fun e => read_weight e) (fun e => ?_) (fun e => read_angle p e) fun e => read_angle p e)
    refine (pay69 ..).trans (dot_hi ?_)
    show 3072 + 128 * 9 + e.val = 3072 + 1024 + (128 + e.val)
    omega
  · obtain ⟨a, p, e, rfl⟩ := eq_ix3 (a := 1) (b := 528) (c := 128) x
    obtain rfl : a = 0 := Fin.ext (by omega)
    refine (att8 _ _ _ _ _ p e).trans (att_tile 8 (emb_ix (inb := by decide +kernel) p e (by show 3072 + 128 * 8 + e.val = 4096 + e.val; omega)) ((if_neg (by decide)).symm) (fun e => read_weight e) (fun e => ?_) (fun e => read_angle p e) fun e => read_angle p e)
    refine (pay69 ..).trans (dot_hi ?_)
    show 3072 + 128 * 8 + e.val = 3072 + 1024 + (e.val)
    omega
  · obtain ⟨a, p, e, rfl⟩ := eq_ix3 (a := 1) (b := 528) (c := 128) x
    obtain rfl : a = 0 := Fin.ext (by omega)
    refine (att7 _ _ _ _ p e).trans (att_tile 7 (emb_ix (inb := by decide +kernel) p e (by show 3072 + 128 * 7 + e.val = 3968 + e.val; omega)) ((if_pos (by decide)).symm) (fun e => read_weight e) (fun e => ?_) (fun e => read_angle p e) fun e => read_angle p e)
    refine (pay58 ..).trans (dot_hi ?_)
    show 3072 + 128 * 7 + e.val = 3072 + 512 + (384 + e.val)
    omega
  · obtain ⟨a, p, e, rfl⟩ := eq_ix3 (a := 1) (b := 528) (c := 128) x
    obtain rfl : a = 0 := Fin.ext (by omega)
    refine (att6 _ _ _ _ p e).trans (att_tile 6 (emb_ix (inb := by decide +kernel) p e (by show 3072 + 128 * 6 + e.val = 3840 + e.val; omega)) ((if_pos (by decide)).symm) (fun e => read_weight e) (fun e => ?_) (fun e => read_angle p e) fun e => read_angle p e)
    refine (pay58 ..).trans (dot_hi ?_)
    show 3072 + 128 * 6 + e.val = 3072 + 512 + (256 + e.val)
    omega
  · obtain ⟨a, p, e, rfl⟩ := eq_ix3 (a := 1) (b := 528) (c := 128) x
    obtain rfl : a = 0 := Fin.ext (by omega)
    refine (att5 _ _ _ _ p e).trans (att_tile 5 (emb_ix (inb := by decide +kernel) p e (by show 3072 + 128 * 5 + e.val = 3712 + e.val; omega)) ((if_pos (by decide)).symm) (fun e => read_weight e) (fun e => ?_) (fun e => read_angle p e) fun e => read_angle p e)
    refine (pay58 ..).trans (dot_hi ?_)
    show 3072 + 128 * 5 + e.val = 3072 + 512 + (128 + e.val)
    omega
  · obtain ⟨a, p, e, rfl⟩ := eq_ix3 (a := 1) (b := 528) (c := 128) x
    obtain rfl : a = 0 := Fin.ext (by omega)
    refine (att4 _ _ _ _ _ p e).trans (att_tile 4 (emb_ix (inb := by decide +kernel) p e (by show 3072 + 128 * 4 + e.val = 3584 + e.val; omega)) ((if_pos (by decide)).symm) (fun e => read_weight e) (fun e => ?_) (fun e => read_angle p e) fun e => read_angle p e)
    refine (pay58 ..).trans (dot_hi ?_)
    show 3072 + 128 * 4 + e.val = 3072 + 512 + (e.val)
    omega
  · obtain ⟨a, p, e, rfl⟩ := eq_ix3 (a := 1) (b := 528) (c := 128) x
    obtain rfl : a = 0 := Fin.ext (by omega)
    refine (att3 _ _ _ _ p e).trans (att_tile 3 (emb_ix (inb := by decide +kernel) p e (by show 3072 + 128 * 3 + e.val = 3456 + e.val; omega)) ((if_pos (by decide)).symm) (fun e => read_weight e) (fun e => ?_) (fun e => read_angle p e) fun e => read_angle p e)
    refine (pay46 ..).trans (dot_hi ?_)
    show 3072 + 128 * 3 + e.val = 3072 + 0 + (384 + e.val)
    omega
  · obtain ⟨a, p, e, rfl⟩ := eq_ix3 (a := 1) (b := 528) (c := 128) x
    obtain rfl : a = 0 := Fin.ext (by omega)
    refine (att2 _ _ _ _ p e).trans (att_tile 2 (emb_ix (inb := by decide +kernel) p e (by show 3072 + 128 * 2 + e.val = 3328 + e.val; omega)) ((if_pos (by decide)).symm) (fun e => read_weight e) (fun e => ?_) (fun e => read_angle p e) fun e => read_angle p e)
    refine (pay46 ..).trans (dot_hi ?_)
    show 3072 + 128 * 2 + e.val = 3072 + 0 + (256 + e.val)
    omega
  · obtain ⟨a, p, e, rfl⟩ := eq_ix3 (a := 1) (b := 528) (c := 128) x
    obtain rfl : a = 0 := Fin.ext (by omega)
    refine (att1 _ _ _ _ p e).trans (att_tile 1 (emb_ix (inb := by decide +kernel) p e (by show 3072 + 128 * 1 + e.val = 3200 + e.val; omega)) ((if_pos (by decide)).symm) (fun e => read_weight e) (fun e => ?_) (fun e => read_angle p e) fun e => read_angle p e)
    refine (pay46 ..).trans (dot_hi ?_)
    show 3072 + 128 * 1 + e.val = 3072 + 0 + (128 + e.val)
    omega
  · obtain ⟨a, p, e, rfl⟩ := eq_ix3 (a := 1) (b := 528) (c := 128) x
    obtain rfl : a = 0 := Fin.ext (by omega)
    refine (att0 _ _ _ _ _ p e).trans (att_tile 0 (emb_ix (inb := by decide +kernel) p e (by show 3072 + 128 * 0 + e.val = 3072 + e.val; omega)) ((if_pos (by decide)).symm) (fun e => read_weight e) (fun e => ?_) (fun e => read_angle p e) fun e => read_angle p e)
    refine (pay46 ..).trans (dot_hi ?_)
    show 3072 + 128 * 0 + e.val = 3072 + 0 + (e.val)
    omega
  · obtain ⟨a, p, e, rfl⟩ := eq_ix3 (a := 1) (b := 528) (c := 512) x
    obtain rfl : a = 0 := Fin.ext (by omega)
    refine (val_high ..).trans (val_tile (e := sh 1024 512 (by omega) e) (emb_ix (inb := by decide +kernel) p e (by show 2048 + (512 + e.val) = 2560 + e.val; omega)) ?_)
    exact dot_lo (o := 2560) (by show 2048 + (512 + e.val) = 2560 + e.val; omega) (by show 2048 + (512 + e.val) < 3072; omega)
  · obtain ⟨a, p, e, rfl⟩ := eq_ix3 (a := 1) (b := 528) (c := 512) x
    obtain rfl : a = 0 := Fin.ext (by omega)
    refine (val_low ..).trans (val_tile (e := sh 1024 0 (by omega) e) (emb_ix (inb := by decide +kernel) p e (by show 2048 + (0 + e.val) = 2048 + e.val; omega)) ?_)
    exact dot_lo (o := 2048) (by show 2048 + (0 + e.val) = 2048 + e.val; omega) (by show 2048 + (0 + e.val) < 3072; omega)
  · obtain ⟨a, p, e, rfl⟩ := eq_ix3 (a := 1) (b := 528) (c := 128) x
    obtain rfl : a = 0 := Fin.ext (by omega)
    exact (ret71 _ _ _ _ p e).trans (ret_tile 7 1 (emb_ix (inb := by decide +kernel) p e (by show 256 * 7 + 128 * 1 + e.val = 1920 + e.val; omega)) ((if_neg (by decide)).symm)
      (dot_lo (by show 256 * 7 + 128 * 0 + e.val = 1536 + (256 + e.val); omega) (by show 256 * 7 + 128 * 0 + e.val < 3072; omega))
      (dot_lo (by show 256 * 7 + 128 * 1 + e.val = 1536 + (384 + e.val); omega) (by show 256 * 7 + 128 * 1 + e.val < 3072; omega))
      (read_angle p e) (read_angle p e))
  · obtain ⟨a, p, e, rfl⟩ := eq_ix3 (a := 1) (b := 528) (c := 128) x
    obtain rfl : a = 0 := Fin.ext (by omega)
    exact (ret70 _ _ _ _ p e).trans (ret_tile 7 0 (emb_ix (inb := by decide +kernel) p e (by show 256 * 7 + 128 * 0 + e.val = 1792 + e.val; omega)) ((if_neg (by decide)).symm)
      (dot_lo (by show 256 * 7 + 128 * 0 + e.val = 1536 + (256 + e.val); omega) (by show 256 * 7 + 128 * 0 + e.val < 3072; omega))
      (dot_lo (by show 256 * 7 + 128 * 1 + e.val = 1536 + (384 + e.val); omega) (by show 256 * 7 + 128 * 1 + e.val < 3072; omega))
      (read_angle p e) (read_angle p e))
  · obtain ⟨a, p, e, rfl⟩ := eq_ix3 (a := 1) (b := 528) (c := 128) x
    obtain rfl : a = 0 := Fin.ext (by omega)
    exact (ret61 _ _ _ _ p e).trans (ret_tile 6 1 (emb_ix (inb := by decide +kernel) p e (by show 256 * 6 + 128 * 1 + e.val = 1664 + e.val; omega)) ((if_neg (by decide)).symm)
      (dot_lo (by show 256 * 6 + 128 * 0 + e.val = 1536 + (e.val); omega) (by show 256 * 6 + 128 * 0 + e.val < 3072; omega))
      (dot_lo (by show 256 * 6 + 128 * 1 + e.val = 1536 + (128 + e.val); omega) (by show 256 * 6 + 128 * 1 + e.val < 3072; omega))
      (read_angle p e) (read_angle p e))
  · obtain ⟨a, p, e, rfl⟩ := eq_ix3 (a := 1) (b := 528) (c := 128) x
    obtain rfl : a = 0 := Fin.ext (by omega)
    exact (ret60 _ _ _ _ p e).trans (ret_tile 6 0 (emb_ix (inb := by decide +kernel) p e (by show 256 * 6 + 128 * 0 + e.val = 1536 + e.val; omega)) ((if_neg (by decide)).symm)
      (dot_lo (by show 256 * 6 + 128 * 0 + e.val = 1536 + (e.val); omega) (by show 256 * 6 + 128 * 0 + e.val < 3072; omega))
      (dot_lo (by show 256 * 6 + 128 * 1 + e.val = 1536 + (128 + e.val); omega) (by show 256 * 6 + 128 * 1 + e.val < 3072; omega))
      (read_angle p e) (read_angle p e))
  · obtain ⟨a, p, e, rfl⟩ := eq_ix3 (a := 1) (b := 528) (c := 128) x
    obtain rfl : a = 0 := Fin.ext (by omega)
    exact (ret51 _ _ _ _ p e).trans (ret_tile 5 1 (emb_ix (inb := by decide +kernel) p e (by show 256 * 5 + 128 * 1 + e.val = 1408 + e.val; omega)) ((if_neg (by decide)).symm)
      (dot_lo (by show 256 * 5 + 128 * 0 + e.val = 1024 + (256 + e.val); omega) (by show 256 * 5 + 128 * 0 + e.val < 3072; omega))
      (dot_lo (by show 256 * 5 + 128 * 1 + e.val = 1024 + (384 + e.val); omega) (by show 256 * 5 + 128 * 1 + e.val < 3072; omega))
      (read_angle p e) (read_angle p e))
  · obtain ⟨a, p, e, rfl⟩ := eq_ix3 (a := 1) (b := 528) (c := 128) x
    obtain rfl : a = 0 := Fin.ext (by omega)
    exact (ret50 _ _ _ _ p e).trans (ret_tile 5 0 (emb_ix (inb := by decide +kernel) p e (by show 256 * 5 + 128 * 0 + e.val = 1280 + e.val; omega)) ((if_neg (by decide)).symm)
      (dot_lo (by show 256 * 5 + 128 * 0 + e.val = 1024 + (256 + e.val); omega) (by show 256 * 5 + 128 * 0 + e.val < 3072; omega))
      (dot_lo (by show 256 * 5 + 128 * 1 + e.val = 1024 + (384 + e.val); omega) (by show 256 * 5 + 128 * 1 + e.val < 3072; omega))
      (read_angle p e) (read_angle p e))
  · obtain ⟨a, p, e, rfl⟩ := eq_ix3 (a := 1) (b := 528) (c := 128) x
    obtain rfl : a = 0 := Fin.ext (by omega)
    exact (ret41 _ _ _ _ p e).trans (ret_tile 4 1 (emb_ix (inb := by decide +kernel) p e (by show 256 * 4 + 128 * 1 + e.val = 1152 + e.val; omega)) ((if_neg (by decide)).symm)
      (dot_lo (by show 256 * 4 + 128 * 0 + e.val = 1024 + (e.val); omega) (by show 256 * 4 + 128 * 0 + e.val < 3072; omega))
      (dot_lo (by show 256 * 4 + 128 * 1 + e.val = 1024 + (128 + e.val); omega) (by show 256 * 4 + 128 * 1 + e.val < 3072; omega))
      (read_angle p e) (read_angle p e))
  · obtain ⟨a, p, e, rfl⟩ := eq_ix3 (a := 1) (b := 528) (c := 128) x
    obtain rfl : a = 0 := Fin.ext (by omega)
    exact (ret40 _ _ _ _ p e).trans (ret_tile 4 0 (emb_ix (inb := by decide +kernel) p e (by show 256 * 4 + 128 * 0 + e.val = 1024 + e.val; omega)) ((if_neg (by decide)).symm)
      (dot_lo (by show 256 * 4 + 128 * 0 + e.val = 1024 + (e.val); omega) (by show 256 * 4 + 128 * 0 + e.val < 3072; omega))
      (dot_lo (by show 256 * 4 + 128 * 1 + e.val = 1024 + (128 + e.val); omega) (by show 256 * 4 + 128 * 1 + e.val < 3072; omega))
      (read_angle p e) (read_angle p e))
  · obtain ⟨a, p, e, rfl⟩ := eq_ix3 (a := 1) (b := 528) (c := 128) x
    obtain rfl : a = 0 := Fin.ext (by omega)
    exact (ret31 _ _ _ _ p e).trans (ret_tile 3 1 (emb_ix (inb := by decide +kernel) p e (by show 256 * 3 + 128 * 1 + e.val = 896 + e.val; omega)) ((if_pos (by decide)).symm)
      (dot_lo (by show 256 * 3 + 128 * 0 + e.val = 512 + (256 + e.val); omega) (by show 256 * 3 + 128 * 0 + e.val < 3072; omega))
      (dot_lo (by show 256 * 3 + 128 * 1 + e.val = 512 + (384 + e.val); omega) (by show 256 * 3 + 128 * 1 + e.val < 3072; omega))
      (read_angle p e) (read_angle p e))
  · obtain ⟨a, p, e, rfl⟩ := eq_ix3 (a := 1) (b := 528) (c := 128) x
    obtain rfl : a = 0 := Fin.ext (by omega)
    exact (ret30 _ _ _ _ p e).trans (ret_tile 3 0 (emb_ix (inb := by decide +kernel) p e (by show 256 * 3 + 128 * 0 + e.val = 768 + e.val; omega)) ((if_pos (by decide)).symm)
      (dot_lo (by show 256 * 3 + 128 * 0 + e.val = 512 + (256 + e.val); omega) (by show 256 * 3 + 128 * 0 + e.val < 3072; omega))
      (dot_lo (by show 256 * 3 + 128 * 1 + e.val = 512 + (384 + e.val); omega) (by show 256 * 3 + 128 * 1 + e.val < 3072; omega))
      (read_angle p e) (read_angle p e))
  · obtain ⟨a, p, e, rfl⟩ := eq_ix3 (a := 1) (b := 528) (c := 128) x
    obtain rfl : a = 0 := Fin.ext (by omega)
    exact (ret21 _ _ _ _ p e).trans (ret_tile 2 1 (emb_ix (inb := by decide +kernel) p e (by show 256 * 2 + 128 * 1 + e.val = 640 + e.val; omega)) ((if_pos (by decide)).symm)
      (dot_lo (by show 256 * 2 + 128 * 0 + e.val = 512 + (e.val); omega) (by show 256 * 2 + 128 * 0 + e.val < 3072; omega))
      (dot_lo (by show 256 * 2 + 128 * 1 + e.val = 512 + (128 + e.val); omega) (by show 256 * 2 + 128 * 1 + e.val < 3072; omega))
      (read_angle p e) (read_angle p e))
  · obtain ⟨a, p, e, rfl⟩ := eq_ix3 (a := 1) (b := 528) (c := 128) x
    obtain rfl : a = 0 := Fin.ext (by omega)
    exact (ret20 _ _ _ _ p e).trans (ret_tile 2 0 (emb_ix (inb := by decide +kernel) p e (by show 256 * 2 + 128 * 0 + e.val = 512 + e.val; omega)) ((if_pos (by decide)).symm)
      (dot_lo (by show 256 * 2 + 128 * 0 + e.val = 512 + (e.val); omega) (by show 256 * 2 + 128 * 0 + e.val < 3072; omega))
      (dot_lo (by show 256 * 2 + 128 * 1 + e.val = 512 + (128 + e.val); omega) (by show 256 * 2 + 128 * 1 + e.val < 3072; omega))
      (read_angle p e) (read_angle p e))
  · obtain ⟨a, p, e, rfl⟩ := eq_ix3 (a := 1) (b := 528) (c := 128) x
    obtain rfl : a = 0 := Fin.ext (by omega)
    exact (ret11 _ _ _ _ p e).trans (ret_tile 1 1 (emb_ix (inb := by decide +kernel) p e (by show 256 * 1 + 128 * 1 + e.val = 384 + e.val; omega)) ((if_pos (by decide)).symm)
      (dot_lo (by show 256 * 1 + 128 * 0 + e.val = 0 + (256 + e.val); omega) (by show 256 * 1 + 128 * 0 + e.val < 3072; omega))
      (dot_lo (by show 256 * 1 + 128 * 1 + e.val = 0 + (384 + e.val); omega) (by show 256 * 1 + 128 * 1 + e.val < 3072; omega))
      (read_angle p e) (read_angle p e))
  · obtain ⟨a, p, e, rfl⟩ := eq_ix3 (a := 1) (b := 528) (c := 128) x
    obtain rfl : a = 0 := Fin.ext (by omega)
    exact (ret10 _ _ _ _ p e).trans (ret_tile 1 0 (emb_ix (inb := by decide +kernel) p e (by show 256 * 1 + 128 * 0 + e.val = 256 + e.val; omega)) ((if_pos (by decide)).symm)
      (dot_lo (by show 256 * 1 + 128 * 0 + e.val = 0 + (256 + e.val); omega) (by show 256 * 1 + 128 * 0 + e.val < 3072; omega))
      (dot_lo (by show 256 * 1 + 128 * 1 + e.val = 0 + (384 + e.val); omega) (by show 256 * 1 + 128 * 1 + e.val < 3072; omega))
      (read_angle p e) (read_angle p e))
  · obtain ⟨a, p, e, rfl⟩ := eq_ix3 (a := 1) (b := 528) (c := 128) x
    obtain rfl : a = 0 := Fin.ext (by omega)
    exact (ret01 _ _ _ _ p e).trans (ret_tile 0 1 (emb_ix (inb := by decide +kernel) p e (by show 256 * 0 + 128 * 1 + e.val = 128 + e.val; omega)) ((if_pos (by decide)).symm)
      (dot_lo (by show 256 * 0 + 128 * 0 + e.val = 0 + (e.val); omega) (by show 256 * 0 + 128 * 0 + e.val < 3072; omega))
      (dot_lo (by show 256 * 0 + 128 * 1 + e.val = 0 + (128 + e.val); omega) (by show 256 * 0 + 128 * 1 + e.val < 3072; omega))
      (read_angle p e) (read_angle p e))
  · obtain ⟨a, p, e, rfl⟩ := eq_ix3 (a := 1) (b := 528) (c := 128) x
    obtain rfl : a = 0 := Fin.ext (by omega)
    exact (ret00 _ _ _ _ p e).trans (ret_tile 0 0 (emb_ix (inb := by decide +kernel) p e (by show 256 * 0 + 128 * 0 + e.val = 0 + e.val; omega)) ((if_pos (by decide)).symm)
      (dot_lo (by show 256 * 0 + 128 * 0 + e.val = 0 + (e.val); omega) (by show 256 * 0 + 128 * 0 + e.val < 3072; omega))
      (dot_lo (by show 256 * 0 + 128 * 1 + e.val = 0 + (128 + e.val); omega) (by show 256 * 0 + 128 * 1 + e.val < 3072; omega))
      (read_angle p e) (read_angle p e))
  · exact fun h => absurd h (List.not_mem_nil)

end Tile
end Cert.MixCall
-- ==== Proof.MixReference.lean ====
module
public import proofs.«01_k».proof.Proof.MixSpec
public import proofs.«01_k».proof.Proof.Gen.MixReferenceIdeal.Run
public import proofs.«01_k».proof.Proof.Gen.MixReferenceIdeal.Read

@[expose] public section
noncomputable section
namespace Cert.MixCall
open Idealize.ShloMosaic Idealize.ShloMosaic.TcCoe Cert.Blocks Cert.Consts Cert.MixReferenceIdeal Cert.MixReferenceIdeal.Read
open scoped BigOperators

/-! # The reference computes the mixed projection -/

/-- Lane `e` of half `d` of a head of the retention branch. -/
def pos (d : Fin 2) (e : Fin 128) : Fin 256 := ⟨128 * d + e, by omega⟩

/-- Lane `e` of half `d` of a head of the attention. -/
def pos64 (d : Fin 2) (e : Fin 64) : Fin 128 := ⟨64 * d + e, by omega⟩

/-- Every lane is in one of the halves. -/
theorem halves (e : Fin 128) : ∃ d f, e = pos64 d f :=
  ⟨⟨e.val / 64, by omega⟩, ⟨e.val % 64, by omega⟩, Fin.ext (by show e.val = 64 * (e.val / 64) + e.val % 64; omega)⟩

/-- A turned pair's first half, from equal parts. -/
theorem lo_congr {a a' b b' c c' s s' : EReal} (ha : a = a') (hc : c = c') (hb : b = b') (hs : s = s') : a * c - b * s = a' * c' - b' * s' := by
  rw [ha, hb, hc, hs]

/-- A turned pair's second half, from equal parts. -/
theorem hi_congr {a a' b b' c c' s s' : EReal} (hb : b = b') (hc : c = c') (ha : a = a') (hs : s = s') : b * c + a * s = b' * c' + a' * s' := by
  rw [ha, hb, hc, hs]

/-- The attention's cosines over the context. -/
theorem cosA_ctx (f : (⟨2, ![8192, 64]⟩ : Shape).Idx → EReal) {t : Fin 8448} (h : t.val < 256) (e : Fin 128) : cosA f t e = 1 := tbl_ctx 1 f h _

/-- The attention's sines over the context. -/
theorem sinA_ctx (f : (⟨2, ![8192, 64]⟩ : Shape).Idx → EReal) {t : Fin 8448} (h : t.val < 256) (e : Fin 128) : sinA f t e = 0 := by
  unfold sinA
  rw [tbl_ctx 0 f h, neg_zero, ite_self]

/-- The square root of the literal 128. -/
theorem sqrt_128 : (FloatOps.hostUnary (F := Ideal) (φ := .f32) .sqrt (Ideal.ofBits .f32 0x43000000#32) : EReal) = ((Real.sqrt 128 : ℝ) : EReal) := by
  rw [n128]
  exact if_neg (by norm_num)

/-- The quotient by the root of 128 and the logarithm of two is the scaled query. -/
theorem div_scale (x : EReal) : Ideal.div (Ideal.div x ((Real.sqrt 128 : ℝ) : EReal)) ((Real.log 2 : ℝ) : EReal) = x * qscale := by
  rw [← mul_inv x (show Real.sqrt 128 ≠ 0 by positivity), ← mul_inv _ (Real.log_pos (by norm_num)).ne', mul_assoc, ← EReal.coe_mul]
  simp only [one_div, qscale]

variable (u : (⟨3, ![2, 8448, 2048]⟩ : Shape).Idx → EReal) (w : (⟨3, ![2, 2048, 14336]⟩ : Shape).Idx → EReal)
    (cr sr : (⟨2, ![8192, 128]⟩ : Shape).Idx → EReal) (ca sa : (⟨2, ![8192, 64]⟩ : Shape).Idx → EReal)
    (qn kn : (⟨2, ![1, 128]⟩ : Shape).Idx → EReal)

/-- The retention queries before they are turned. -/
theorem qr_proj (b : Fin 2) (t : Fin 8448) (h : Fin 4) (e : Fin 256) (j : Fin 4608) (hj : j.val = 0 + 256 * h.val + e.val) :
    val_main_v6 (F := Ideal) u w (ix4 b t h e) = proj u w b t j := by
  have hw : (wcol j).val = 0 + 256 * h.val + e.val := by rw [wcol_lo (by omega), hj]
  rw [val_main_v6_apply, val_main_v5_apply]
  refine sum_mul (fun k => ?_) fun k => ?_
  · rw [val_main_v3_apply]
    show u _ = u _
    blk_ext []
  · rw [val_main_v4_apply, val_main_v2_apply, val_main_v1_apply, val_main_v0_apply]
    show w _ = w _
    blk_ext [hw]

/-- The retention keys before they are scaled and turned. -/
theorem kr_proj (b : Fin 2) (t : Fin 8448) (h : Fin 4) (e : Fin 256) (j : Fin 4608) (hj : j.val = 1024 + 256 * h.val + e.val) :
    val_main_v32 (F := Ideal) u w (ix4 b t h e) = proj u w b t j := by
  have hw : (wcol j).val = 1024 + 256 * h.val + e.val := by rw [wcol_lo (by omega), hj]
  rw [val_main_v32_apply, val_main_v31_apply]
  refine sum_mul (fun k => ?_) fun k => ?_
  · rw [val_main_v29_apply]
    show u _ = u _
    blk_ext []
  · rw [val_main_v30_apply, val_main_v2_apply, val_main_v1_apply, val_main_v0_apply]
    show w _ = w _
    blk_ext [hw]

/-- The retention values. -/
theorem vr_proj (b : Fin 2) (t : Fin 8448) (h : Fin 4) (e : Fin 256) (j : Fin 4608) (hj : j.val = 2048 + 256 * h.val + e.val) :
    val_main_v60 (F := Ideal) u w (ix4 b t h e) = proj u w b t j := by
  have hw : (wcol j).val = 2048 + 256 * h.val + e.val := by rw [wcol_lo (by omega), hj]
  rw [val_main_v60_apply, val_main_v59_apply]
  refine sum_mul (fun k => ?_) fun k => ?_
  · rw [val_main_v57_apply]
    show u _ = u _
    blk_ext []
  · rw [val_main_v58_apply, val_main_v2_apply, val_main_v1_apply, val_main_v0_apply]
    show w _ = w _
    blk_ext [hw]

/-- The attention's queries before they are normalized. -/
theorem qa_proj (b : Fin 2) (t : Fin 8448) (h : Fin 8) (e : Fin 128) (j : Fin 4608) (hj : j.val = 3072 + 128 * h.val + e.val) :
    val_main_v64 (F := Ideal) u w (ix4 b t h e) = proj u w b t j := by
  have hw : (wcol j).val = 4096 + 128 * h.val + e.val := by rw [wcol_hi (by omega), hj] ; omega
  rw [val_main_v64_apply, val_main_v63_apply]
  refine sum_mul (fun k => ?_) fun k => ?_
  · rw [val_main_v61_apply]
    show u _ = u _
    blk_ext []
  · rw [val_main_v62_apply, val_main_v2_apply, val_main_v1_apply, val_main_v0_apply]
    show w _ = w _
    blk_ext [hw]

/-- The attention's keys before they are normalized. -/
theorem ka_proj (b : Fin 2) (t : Fin 8448) (h : Fin 2) (e : Fin 128) (j : Fin 4608) (hj : j.val = 4096 + 128 * h.val + e.val) :
    val_main_v110 (F := Ideal) u w (ix4 b t h e) = proj u w b t j := by
  have hw : (wcol j).val = 5120 + 128 * h.val + e.val := by rw [wcol_hi (by omega), hj] ; omega
  rw [val_main_v110_apply, val_main_v109_apply]
  refine sum_mul (fun k => ?_) fun k => ?_
  · rw [val_main_v107_apply]
    show u _ = u _
    blk_ext []
  · rw [val_main_v108_apply, val_main_v2_apply, val_main_v1_apply, val_main_v0_apply]
    show w _ = w _
    blk_ext [hw]

/-- The attention's values. -/
theorem va_proj (b : Fin 2) (t : Fin 8448) (h : Fin 2) (e : Fin 128) (j : Fin 4608) (hj : j.val = 4352 + 128 * h.val + e.val) :
    val_main_v150 (F := Ideal) u w (ix4 b t h e) = proj u w b t j := by
  have hw : (wcol j).val = 5376 + 128 * h.val + e.val := by rw [wcol_hi (by omega), hj] ; omega
  rw [val_main_v150_apply, val_main_v149_apply]
  refine sum_mul (fun k => ?_) fun k => ?_
  · rw [val_main_v147_apply]
    show u _ = u _
    blk_ext []
  · rw [val_main_v148_apply, val_main_v2_apply, val_main_v1_apply, val_main_v0_apply]
    show w _ = w _
    blk_ext [hw]

/-- The retention queries over the latents. -/
theorem qr_lat (b : Fin 2) (τ : Fin 8192) (h : Fin 4) (d : Fin 2) (e : Fin 128) :
    val_main_v27 (F := Ideal) u w cr sr (ix4 b τ h (pos d e))
      = turn d (val_main_v6 (F := Ideal) u w (ix4 b (latent τ) h (pos 0 e))) (val_main_v6 (F := Ideal) u w (ix4 b (latent τ) h (pos 1 e)))
        (cr (ix2 τ e)) (sr (ix2 τ e)) := by
  unfold val_main_v27
  match d with
  | 0 =>
    rw [turn_lo]
    refine (concatenate_pair_apply_left (s₁ := S2x8192x4x128) (t := S2x8192x4x256) _ _ _ _ (ix4 b τ h (pos 0 e)) rfl (ix4 b τ h e)
      (by intro c; match c with | 0 => rfl | 1 => rfl | 2 => rfl | 3 => simp [pos])).trans ?_
    rw [val_main_v19_apply, val_main_v15_apply, val_main_v8_apply, val_main_v7_apply, val_main_v14_apply, val_main_v13_apply,
      val_main_v10_apply, val_main_v18_apply, val_main_v9_apply, val_main_v7_apply, val_main_v17_apply, val_main_v16_apply,
      val_main_v11_apply]
    refine lo_congr ?_ ?_ ?_ ?_
    · show val_main_v6 (F := Ideal) u w _ = val_main_v6 (F := Ideal) u w _
      blk_ext [latent, pos]
    · show cr _ = cr _
      blk_ext []
    · show val_main_v6 (F := Ideal) u w _ = val_main_v6 (F := Ideal) u w _
      blk_ext [latent, pos]
    · show sr _ = sr _
      blk_ext []
  | 1 =>
    rw [turn_hi]
    refine (concatenate_pair_apply_right (s₁ := S2x8192x4x128) (s₂ := S2x8192x4x128) (t := S2x8192x4x256) _ _ _ _ (ix4 b τ h (pos 1 e)) rfl rfl (ix4 b τ h e)
      (by intro c hc; match c with | 0 => rfl | 1 => rfl | 2 => rfl | 3 => exact absurd rfl hc) (by simp [pos] <;> omega)).trans ?_
    rw [val_main_v26_apply, val_main_v22_apply, val_main_v9_apply, val_main_v7_apply, val_main_v21_apply, val_main_v20_apply,
      val_main_v10_apply, val_main_v25_apply, val_main_v8_apply, val_main_v7_apply, val_main_v24_apply, val_main_v23_apply,
      val_main_v11_apply]
    refine hi_congr ?_ ?_ ?_ ?_
    · show val_main_v6 (F := Ideal) u w _ = val_main_v6 (F := Ideal) u w _
      blk_ext [latent, pos]
    · show cr _ = cr _
      blk_ext []
    · show val_main_v6 (F := Ideal) u w _ = val_main_v6 (F := Ideal) u w _
      blk_ext [latent, pos]
    · show sr _ = sr _
      blk_ext []

/-- The retention queries, turned. -/
theorem qr_turn (b : Fin 2) (t : Fin 8448) (h : Fin 4) (d : Fin 2) (e : Fin 128) :
    val_main_v28 (F := Ideal) u w cr sr (ix4 b t h (pos d e))
      = turn d (val_main_v6 (F := Ideal) u w (ix4 b t h (pos 0 e))) (val_main_v6 (F := Ideal) u w (ix4 b t h (pos 1 e)))
        (tbl 1 cr t e) (tbl 0 sr t e) := by
  unfold val_main_v28
  rcases rows t with ht | ⟨τ, rfl⟩
  · rw [tbl_ctx _ _ ht, tbl_ctx _ _ ht, turn_none d fun d => val_main_v6 (F := Ideal) u w (ix4 b t h (pos d e))]
    refine (concatenate_pair_apply_left (s₁ := S2x256x4x256) (t := S2x8448x4x256) _ _ _ _ (ix4 b t h (pos d e)) rfl (ix4 b ⟨t.val, ht⟩ h (pos d e))
      (by intro c; match c with | 0 => rfl | 1 => rfl | 2 => rfl | 3 => rfl)).trans ?_
    rw [val_main_v12_apply]
    show val_main_v6 (F := Ideal) u w _ = val_main_v6 (F := Ideal) u w _
    blk_ext []
  · rw [tbl_lat, tbl_lat]
    refine (concatenate_pair_apply_right (s₁ := S2x256x4x256) (s₂ := S2x8192x4x256) (t := S2x8448x4x256) _ _ _ _ (ix4 b (latent τ) h (pos d e)) rfl rfl (ix4 b τ h (pos d e))
      (by intro c hc; match c with | 0 => rfl | 1 => exact absurd rfl hc | 2 => rfl | 3 => rfl) (by simp [latent] <;> omega)).trans ?_
    exact qr_lat u w cr sr b τ h d e

/-- The retention keys over the latents. -/
theorem kr_lat (b : Fin 2) (τ : Fin 8192) (h : Fin 4) (d : Fin 2) (e : Fin 128) :
    val_main_v55 (F := Ideal) u w cr sr (ix4 b τ h (pos d e))
      = turn d (val_main_v34 (F := Ideal) u w (ix4 b (latent τ) h (pos 0 e))) (val_main_v34 (F := Ideal) u w (ix4 b (latent τ) h (pos 1 e)))
        (cr (ix2 τ e)) (sr (ix2 τ e)) := by
  unfold val_main_v55
  match d with
  | 0 =>
    rw [turn_lo]
    refine (concatenate_pair_apply_left (s₁ := S2x8192x4x128) (t := S2x8192x4x256) _ _ _ _ (ix4 b τ h (pos 0 e)) rfl (ix4 b τ h e)
      (by intro c; match c with | 0 => rfl | 1 => rfl | 2 => rfl | 3 => simp [pos])).trans ?_
    rw [val_main_v47_apply, val_main_v43_apply, val_main_v36_apply, val_main_v35_apply, val_main_v42_apply, val_main_v41_apply,
      val_main_v38_apply, val_main_v46_apply, val_main_v37_apply, val_main_v35_apply, val_main_v45_apply, val_main_v44_apply,
      val_main_v39_apply]
    refine lo_congr ?_ ?_ ?_ ?_
    · show val_main_v34 (F := Ideal) u w _ = val_main_v34 (F := Ideal) u w _
      blk_ext [latent, pos]
    · show cr _ = cr _
      blk_ext []
    · show val_main_v34 (F := Ideal) u w _ = val_main_v34 (F := Ideal) u w _
      blk_ext [latent, pos]
    · show sr _ = sr _
      blk_ext []
  | 1 =>
    rw [turn_hi]
    refine (concatenate_pair_apply_right (s₁ := S2x8192x4x128) (s₂ := S2x8192x4x128) (t := S2x8192x4x256) _ _ _ _ (ix4 b τ h (pos 1 e)) rfl rfl (ix4 b τ h e)
      (by intro c hc; match c with | 0 => rfl | 1 => rfl | 2 => rfl | 3 => exact absurd rfl hc) (by simp [pos] <;> omega)).trans ?_
    rw [val_main_v54_apply, val_main_v50_apply, val_main_v37_apply, val_main_v35_apply, val_main_v49_apply, val_main_v48_apply,
      val_main_v38_apply, val_main_v53_apply, val_main_v36_apply, val_main_v35_apply, val_main_v52_apply, val_main_v51_apply,
      val_main_v39_apply]
    refine hi_congr ?_ ?_ ?_ ?_
    · show val_main_v34 (F := Ideal) u w _ = val_main_v34 (F := Ideal) u w _
      blk_ext [latent, pos]
    · show cr _ = cr _
      blk_ext []
    · show val_main_v34 (F := Ideal) u w _ = val_main_v34 (F := Ideal) u w _
      blk_ext [latent, pos]
    · show sr _ = sr _
      blk_ext []

/-- The retention keys, turned. -/
theorem kr_turn (b : Fin 2) (t : Fin 8448) (h : Fin 4) (d : Fin 2) (e : Fin 128) :
    val_main_v56 (F := Ideal) u w cr sr (ix4 b t h (pos d e))
      = turn d (val_main_v34 (F := Ideal) u w (ix4 b t h (pos 0 e))) (val_main_v34 (F := Ideal) u w (ix4 b t h (pos 1 e)))
        (tbl 1 cr t e) (tbl 0 sr t e) := by
  unfold val_main_v56
  rcases rows t with ht | ⟨τ, rfl⟩
  · rw [tbl_ctx _ _ ht, tbl_ctx _ _ ht, turn_none d fun d => val_main_v34 (F := Ideal) u w (ix4 b t h (pos d e))]
    refine (concatenate_pair_apply_left (s₁ := S2x256x4x256) (t := S2x8448x4x256) _ _ _ _ (ix4 b t h (pos d e)) rfl (ix4 b ⟨t.val, ht⟩ h (pos d e))
      (by intro c; match c with | 0 => rfl | 1 => rfl | 2 => rfl | 3 => rfl)).trans ?_
    rw [val_main_v40_apply]
    show val_main_v34 (F := Ideal) u w _ = val_main_v34 (F := Ideal) u w _
    blk_ext []
  · rw [tbl_lat, tbl_lat]
    refine (concatenate_pair_apply_right (s₁ := S2x256x4x256) (s₂ := S2x8192x4x256) (t := S2x8448x4x256) _ _ _ _ (ix4 b (latent τ) h (pos d e)) rfl rfl (ix4 b τ h (pos d e))
      (by intro c hc; match c with | 0 => rfl | 1 => exact absurd rfl hc | 2 => rfl | 3 => rfl) (by simp [latent] <;> omega)).trans ?_
    exact kr_lat u w cr sr b τ h d e

/-- The attention's queries, normalized. -/
theorem qa_norm (b : Fin 2) (t : Fin 8448) (h : Fin 8) (e : Fin 128) :
    val_main_v78 (F := Ideal) u w qn (ix4 b t h e)
      = unit (fun k => val_main_v64 (F := Ideal) u w (ix4 b t h k)) (fun k => qn (ix2 0 k)) e := by
  rw [val_main_v78_apply, val_main_v74_apply, val_main_v73_apply, val_main_v72_apply, val_main_v71_apply, val_main_v69_apply,
      val_main_v68_apply, val_main_cst_1_apply, val_main_v67_apply, val_main_v66_apply, val_main_cst_0_apply, val_main_v70_apply,
      val_main_cst_2_apply, val_main_v77_apply, val_main_v76_apply, val_main_v75_apply]
  unfold unit
  refine congrArg₂ (· * ·) (congrArg₂ (· * ·) rfl ?_) ?_
  · show Ideal.rsqrt (Ideal.div (Ideal.ofBits .f32 0x00000000#32 + _) (lit 0x43000000#32) + lit 0x358637BD#32) = _
    rw [show (Ideal.ofBits .f32 0x00000000#32 : EReal) = 0 from Ideal.ofBits_zero_f32, zero_add]
    refine congrArg (fun x => Ideal.rsqrt (Ideal.div x _ + _)) (Finset.sum_congr rfl fun k _ => ?_)
    rw [val_main_v65_apply]
    have e1 : idx_main_v66 (idx_main_v67 (idx_main_v73 (ix4 b t h e))) k = ix4 b t h k := by blk_ext []
    rw [e1]
    rfl
  · show qn _ = qn _
    blk_ext []

/-- The attention's queries over the latents, turned. -/
theorem qa_lat (b : Fin 2) (τ : Fin 8192) (h : Fin 8) (d : Fin 2) (e : Fin 64) :
    val_main_v99 (F := Ideal) u w ca sa qn (ix4 b τ h (pos64 d e))
      = val_main_v78 (F := Ideal) u w qn (ix4 b (latent τ) h (pos64 d e)) * cosA ca (latent τ) (pos64 d e)
        + val_main_v78 (F := Ideal) u w qn (ix4 b (latent τ) h (opp (pos64 d e))) * sinA sa (latent τ) (pos64 d e) := by
  unfold val_main_v99 cosA sinA
  rw [tbl_lat, tbl_lat]
  match d with
  | 0 =>
    rw [if_pos (by simp [pos64]), mul_neg, ← sub_eq_add_neg]
    refine (concatenate_pair_apply_left (s₁ := S2x8192x8x64) (t := S2x8192x8x128) _ _ _ _ (ix4 b τ h (pos64 0 e)) rfl (ix4 b τ h e)
      (by intro c; match c with | 0 => rfl | 1 => rfl | 2 => rfl | 3 => simp [pos64])).trans ?_
    rw [val_main_v91_apply, val_main_v87_apply, val_main_v80_apply, val_main_v79_apply, val_main_v86_apply, val_main_v85_apply,
      val_main_v82_apply, val_main_v90_apply, val_main_v81_apply, val_main_v79_apply, val_main_v89_apply, val_main_v88_apply,
      val_main_v83_apply]
    refine lo_congr ?_ ?_ ?_ ?_
    · show val_main_v78 (F := Ideal) u w qn _ = val_main_v78 (F := Ideal) u w qn _
      blk_ext [latent, pos64]
    · show ca _ = ca _
      blk_ext [pos64, lane64]
    · show val_main_v78 (F := Ideal) u w qn _ = val_main_v78 (F := Ideal) u w qn _
      blk_ext [latent, pos64, opp]
    · show sa _ = sa _
      blk_ext [pos64, lane64]
  | 1 =>
    rw [if_neg (by simp [pos64])]
    refine (concatenate_pair_apply_right (s₁ := S2x8192x8x64) (s₂ := S2x8192x8x64) (t := S2x8192x8x128) _ _ _ _ (ix4 b τ h (pos64 1 e)) rfl rfl (ix4 b τ h e)
      (by intro c hc; match c with | 0 => rfl | 1 => rfl | 2 => rfl | 3 => exact absurd rfl hc) (by simp [pos64] <;> omega)).trans ?_
    rw [val_main_v98_apply, val_main_v94_apply, val_main_v81_apply, val_main_v79_apply, val_main_v93_apply, val_main_v92_apply,
      val_main_v82_apply, val_main_v97_apply, val_main_v80_apply, val_main_v79_apply, val_main_v96_apply, val_main_v95_apply,
      val_main_v83_apply]
    refine hi_congr ?_ ?_ ?_ ?_
    · show val_main_v78 (F := Ideal) u w qn _ = val_main_v78 (F := Ideal) u w qn _
      blk_ext [latent, pos64]
    · show ca _ = ca _
      blk_ext [pos64, lane64]
    · show val_main_v78 (F := Ideal) u w qn _ = val_main_v78 (F := Ideal) u w qn _
      blk_ext [latent, pos64, opp]
    · show sa _ = sa _
      blk_ext [pos64, lane64]

/-- The attention's queries, normalized and turned. -/
theorem qa_turn (b : Fin 2) (t : Fin 8448) (h : Fin 8) (e : Fin 128) :
    val_main_v100 (F := Ideal) u w ca sa qn (ix4 b t h e)
      = att (fun k => val_main_v64 (F := Ideal) u w (ix4 b t h k)) (fun k => qn (ix2 0 k)) (cosA ca t) (sinA sa t) e := by
  unfold att
  rw [← qa_norm, ← qa_norm]
  unfold val_main_v100
  rcases rows t with ht | ⟨τ, rfl⟩
  · rw [cosA_ctx ca ht, sinA_ctx sa ht, mul_one, mul_zero, add_zero]
    refine (concatenate_pair_apply_left (s₁ := S2x256x8x128) (t := S2x8448x8x128) _ _ _ _ (ix4 b t h e) rfl (ix4 b ⟨t.val, ht⟩ h e)
      (by intro c; match c with | 0 => rfl | 1 => rfl | 2 => rfl | 3 => rfl)).trans ?_
    rw [val_main_v84_apply]
    show val_main_v78 (F := Ideal) u w qn _ = val_main_v78 (F := Ideal) u w qn _
    blk_ext []
  · obtain ⟨d, e, rfl⟩ := halves e
    refine (concatenate_pair_apply_right (s₁ := S2x256x8x128) (s₂ := S2x8192x8x128) (t := S2x8448x8x128) _ _ _ _ (ix4 b (latent τ) h (pos64 d e)) rfl rfl (ix4 b τ h (pos64 d e))
      (by intro c hc; match c with | 0 => rfl | 1 => exact absurd rfl hc | 2 => rfl | 3 => rfl) (by simp [latent] <;> omega)).trans ?_
    exact qa_lat u w ca sa qn b τ h d e

/-- The attention's keys, normalized. -/
theorem ka_norm (b : Fin 2) (t : Fin 8448) (h : Fin 2) (e : Fin 128) :
    val_main_v124 (F := Ideal) u w kn (ix4 b t h e)
      = unit (fun k => val_main_v110 (F := Ideal) u w (ix4 b t h k)) (fun k => kn (ix2 0 k)) e := by
  rw [val_main_v124_apply, val_main_v120_apply, val_main_v119_apply, val_main_v118_apply, val_main_v117_apply, val_main_v115_apply,
      val_main_v114_apply, val_main_cst_6_apply, val_main_v113_apply, val_main_v112_apply, val_main_cst_5_apply, val_main_v116_apply,
      val_main_cst_7_apply, val_main_v123_apply, val_main_v122_apply, val_main_v121_apply]
  unfold unit
  refine congrArg₂ (· * ·) (congrArg₂ (· * ·) rfl ?_) ?_
  · show Ideal.rsqrt (Ideal.div (Ideal.ofBits .f32 0x00000000#32 + _) (lit 0x43000000#32) + lit 0x358637BD#32) = _
    rw [show (Ideal.ofBits .f32 0x00000000#32 : EReal) = 0 from Ideal.ofBits_zero_f32, zero_add]
    refine congrArg (fun x => Ideal.rsqrt (Ideal.div x _ + _)) (Finset.sum_congr rfl fun k _ => ?_)
    rw [val_main_v111_apply]
    have e1 : idx_main_v112 (idx_main_v113 (idx_main_v119 (ix4 b t h e))) k = ix4 b t h k := by blk_ext []
    rw [e1]
    rfl
  · show kn _ = kn _
    blk_ext []

/-- The attention's keys over the latents, turned. -/
theorem ka_lat (b : Fin 2) (τ : Fin 8192) (h : Fin 2) (d : Fin 2) (e : Fin 64) :
    val_main_v145 (F := Ideal) u w ca sa kn (ix4 b τ h (pos64 d e))
      = val_main_v124 (F := Ideal) u w kn (ix4 b (latent τ) h (pos64 d e)) * cosA ca (latent τ) (pos64 d e)
        + val_main_v124 (F := Ideal) u w kn (ix4 b (latent τ) h (opp (pos64 d e))) * sinA sa (latent τ) (pos64 d e) := by
  unfold val_main_v145 cosA sinA
  rw [tbl_lat, tbl_lat]
  match d with
  | 0 =>
    rw [if_pos (by simp [pos64]), mul_neg, ← sub_eq_add_neg]
    refine (concatenate_pair_apply_left (s₁ := S2x8192x2x64) (t := S2x8192x2x128) _ _ _ _ (ix4 b τ h (pos64 0 e)) rfl (ix4 b τ h e)
      (by intro c; match c with | 0 => rfl | 1 => rfl | 2 => rfl | 3 => simp [pos64])).trans ?_
    rw [val_main_v137_apply, val_main_v133_apply, val_main_v126_apply, val_main_v125_apply, val_main_v132_apply, val_main_v131_apply,
      val_main_v128_apply, val_main_v136_apply, val_main_v127_apply, val_main_v125_apply, val_main_v135_apply, val_main_v134_apply,
      val_main_v129_apply]
    refine lo_congr ?_ ?_ ?_ ?_
    · show val_main_v124 (F := Ideal) u w kn _ = val_main_v124 (F := Ideal) u w kn _
      blk_ext [latent, pos64]
    · show ca _ = ca _
      blk_ext [pos64, lane64]
    · show val_main_v124 (F := Ideal) u w kn _ = val_main_v124 (F := Ideal) u w kn _
      blk_ext [latent, pos64, opp]
    · show sa _ = sa _
      blk_ext [pos64, lane64]
  | 1 =>
    rw [if_neg (by simp [pos64])]
    refine (concatenate_pair_apply_right (s₁ := S2x8192x2x64) (s₂ := S2x8192x2x64) (t := S2x8192x2x128) _ _ _ _ (ix4 b τ h (pos64 1 e)) rfl rfl (ix4 b τ h e)
      (by intro c hc; match c with | 0 => rfl | 1 => rfl | 2 => rfl | 3 => exact absurd rfl hc) (by simp [pos64] <;> omega)).trans ?_
    rw [val_main_v144_apply, val_main_v140_apply, val_main_v127_apply, val_main_v125_apply, val_main_v139_apply, val_main_v138_apply,
      val_main_v128_apply, val_main_v143_apply, val_main_v126_apply, val_main_v125_apply, val_main_v142_apply, val_main_v141_apply,
      val_main_v129_apply]
    refine hi_congr ?_ ?_ ?_ ?_
    · show val_main_v124 (F := Ideal) u w kn _ = val_main_v124 (F := Ideal) u w kn _
      blk_ext [latent, pos64]
    · show ca _ = ca _
      blk_ext [pos64, lane64]
    · show val_main_v124 (F := Ideal) u w kn _ = val_main_v124 (F := Ideal) u w kn _
      blk_ext [latent, pos64, opp]
    · show sa _ = sa _
      blk_ext [pos64, lane64]

/-- The attention's keys, normalized and turned. -/
theorem ka_turn (b : Fin 2) (t : Fin 8448) (h : Fin 2) (e : Fin 128) :
    val_main_v146 (F := Ideal) u w ca sa kn (ix4 b t h e)
      = att (fun k => val_main_v110 (F := Ideal) u w (ix4 b t h k)) (fun k => kn (ix2 0 k)) (cosA ca t) (sinA sa t) e := by
  unfold att
  rw [← ka_norm, ← ka_norm]
  unfold val_main_v146
  rcases rows t with ht | ⟨τ, rfl⟩
  · rw [cosA_ctx ca ht, sinA_ctx sa ht, mul_one, mul_zero, add_zero]
    refine (concatenate_pair_apply_left (s₁ := S2x256x2x128) (t := S2x8448x2x128) _ _ _ _ (ix4 b t h e) rfl (ix4 b ⟨t.val, ht⟩ h e)
      (by intro c; match c with | 0 => rfl | 1 => rfl | 2 => rfl | 3 => rfl)).trans ?_
    rw [val_main_v130_apply]
    show val_main_v124 (F := Ideal) u w kn _ = val_main_v124 (F := Ideal) u w kn _
    blk_ext []
  · obtain ⟨d, e, rfl⟩ := halves e
    refine (concatenate_pair_apply_right (s₁ := S2x256x2x128) (s₂ := S2x8192x2x128) (t := S2x8448x2x128) _ _ _ _ (ix4 b (latent τ) h (pos64 d e)) rfl rfl (ix4 b τ h (pos64 d e))
      (by intro c hc; match c with | 0 => rfl | 1 => exact absurd rfl hc | 2 => rfl | 3 => rfl) (by simp [latent] <;> omega)).trans ?_
    exact ka_lat u w ca sa kn b τ h d e

/-- The reference's retention queries and keys. -/
theorem result_ret (b : Fin 2) (t : Fin 8448) (h : Fin 8) (d : Fin 2) (e : Fin 128) : val_main_v157 (F := Ideal) u w cr sr ca sa qn kn (ix3 b t (cRet h d e))
    = retPart (proj u w b t) (tbl 1 cr t) (tbl 0 sr t) h d e := by
  unfold val_main_v157 retPart
  by_cases hh : h.val < 4
  · rw [if_pos hh, mul_one]
    refine (concatenate_apply_piece (t := S2x8448x4608) 2 _ _ (ix3 b t (cRet h d e)) 0 (by show 0 < 6; omega) S2x8448x1024 _ rfl rfl 0 rfl (ix3 b t ⟨256 * h.val + 128 * d.val + e.val, by omega⟩)
      (by intro c hc; match c with | 0 => rfl | 1 => rfl | 2 => exact absurd rfl hc) (by show _ = _; simp [cRet] <;> omega)).trans ?_
    rw [val_main_v151_apply]
    have e1 : idx_main_v151 (ix3 b t ⟨256 * h.val + 128 * d.val + e.val, by omega⟩) = ix4 b t ⟨h.val, hh⟩ (pos d e) := by blk_ext [pos]
    rw [e1, qr_turn, qr_proj u w b t _ _ (cRet h 0 e) (by simp [cRet, pos] <;> omega), qr_proj u w b t _ _ (cRet h 1 e) (by simp [cRet, pos] <;> omega)]
  · rw [if_neg hh]
    refine (concatenate_apply_piece (t := S2x8448x4608) 2 _ _ (ix3 b t (cRet h d e)) 1 (by show 1 < 6; omega) S2x8448x1024 _ rfl rfl 1024 rfl (ix3 b t ⟨256 * h.val + 128 * d.val + e.val - 1024, by omega⟩)
      (by intro c hc; match c with | 0 => rfl | 1 => rfl | 2 => exact absurd rfl hc) (by show _ = _; simp [cRet] <;> omega)).trans ?_
    rw [val_main_v152_apply]
    have e1 : idx_main_v152 (ix3 b t ⟨256 * h.val + 128 * d.val + e.val - 1024, by omega⟩) = ix4 b t ⟨h.val - 4, by omega⟩ (pos d e) := by blk_ext [pos]
    have e2 (i : S2x8448x4x256.Idx) : val_main_v34 (F := Ideal) u w i = val_main_v32 (F := Ideal) u w i * lit 0x3D800000#32 := by
      rw [val_main_v34_apply, val_main_v33_apply, val_main_cst_apply]
      rfl
    rw [e1, kr_turn, e2, e2, kr_proj u w b t _ _ (cRet h 0 e) (by simp [cRet, pos] <;> omega), kr_proj u w b t _ _ (cRet h 1 e) (by simp [cRet, pos] <;> omega),
      lit, inv16, turn_scale d _ _ _ _ (by norm_num)]

/-- The reference's attention queries and keys. -/
theorem result_att (b : Fin 2) (t : Fin 8448) (h : Fin 10) (e : Fin 128) : val_main_v157 (F := Ideal) u w cr sr ca sa qn kn (ix3 b t (cAtt h e))
    = attPart (proj u w b t) (cosA ca t) (sinA sa t) (fun e => qn (ix2 0 e)) (fun e => kn (ix2 0 e)) h e := by
  unfold val_main_v157 attPart
  by_cases hh : h.val < 8
  · rw [if_pos hh, if_pos hh]
    refine (concatenate_apply_piece (t := S2x8448x4608) 2 _ _ (ix3 b t (cAtt h e)) 3 (by show 3 < 6; omega) S2x8448x1024 _ rfl rfl 3072 rfl (ix3 b t ⟨128 * h.val + e.val, by omega⟩)
      (by intro c hc; match c with | 0 => rfl | 1 => rfl | 2 => exact absurd rfl hc) (by show _ = _; simp [cAtt] <;> omega)).trans ?_
    rw [val_main_v154_apply]
    have e1 : idx_main_v154 (ix3 b t ⟨128 * h.val + e.val, by omega⟩) = ix4 b t ⟨h.val, hh⟩ e := by blk_ext []
    rw [e1, val_main_v106_apply, val_main_v103_apply, val_main_v102_apply, val_main_v101_apply, val_main_cst_3_apply, val_main_v105_apply,
      val_main_v104_apply, val_main_cst_4_apply, Cert.Attn.Reference.log_two]
    refine Eq.trans (congrArg (fun z => Ideal.div (Ideal.div _ z) _) sqrt_128) ?_
    rw [div_scale, qa_turn]
    refine congrArg (fun f => att f _ _ _ _ * qscale) (funext fun k => ?_)
    exact qa_proj u w b t _ _ (cAtt h k) (by simp [cAtt] <;> omega)
  · rw [if_neg hh, if_neg hh, mul_one]
    refine (concatenate_apply_piece (t := S2x8448x4608) 2 _ _ (ix3 b t (cAtt h e)) 4 (by show 4 < 6; omega) S2x8448x256 _ rfl rfl 4096 rfl (ix3 b t ⟨128 * h.val + e.val - 1024, by omega⟩)
      (by intro c hc; match c with | 0 => rfl | 1 => rfl | 2 => exact absurd rfl hc) (by show _ = _; simp [cAtt] <;> omega)).trans ?_
    rw [val_main_v155_apply]
    have e1 : idx_main_v155 (ix3 b t ⟨128 * h.val + e.val - 1024, by omega⟩) = ix4 b t ⟨h.val - 8, by omega⟩ e := by blk_ext []
    rw [e1, ka_turn]
    refine congrArg (fun f => att f _ _ _ _) (funext fun k => ?_)
    exact ka_proj u w b t _ _ (cAtt h k) (by simp [cAtt] <;> omega)

/-- The reference's retention values. -/
theorem result_val (b : Fin 2) (t : Fin 8448) (e : Fin 1024) : val_main_v157 (F := Ideal) u w cr sr ca sa qn kn (ix3 b t (cVal e)) = proj u w b t (cVal e) := by
  unfold val_main_v157
  refine (concatenate_apply_piece (t := S2x8448x4608) 2 _ _ (ix3 b t (cVal e)) 2 (by show 2 < 6; omega) S2x8448x1024 _ rfl rfl 2048 rfl (ix3 b t e)
      (by intro c hc; match c with | 0 => rfl | 1 => rfl | 2 => exact absurd rfl hc) (by show _ = _; simp [cVal] <;> omega)).trans ?_
  rw [val_main_v153_apply]
  have e1 : idx_main_v153 (ix3 b t e) = ix4 b t ⟨e.val / 256, by omega⟩ ⟨e.val % 256, by omega⟩ := by blk_ext []
  rw [e1, vr_proj u w b t _ _ (cVal e) (by simp [cVal] <;> omega)]

/-- The reference's attention values. -/
theorem result_last (b : Fin 2) (t : Fin 8448) (e : Fin 256) : val_main_v157 (F := Ideal) u w cr sr ca sa qn kn (ix3 b t (cLast e)) = proj u w b t (cLast e) := by
  unfold val_main_v157
  refine (concatenate_apply_piece (t := S2x8448x4608) 2 _ _ (ix3 b t (cLast e)) 5 (by show 5 < 6; omega) S2x8448x256 _ rfl rfl 4352 rfl (ix3 b t e)
      (by intro c hc; match c with | 0 => rfl | 1 => rfl | 2 => exact absurd rfl hc) (by show _ = _; simp [cLast] <;> omega)).trans ?_
  rw [val_main_v156_apply]
  have e1 : idx_main_v156 (ix3 b t e) = ix4 b t ⟨e.val / 128, by omega⟩ ⟨e.val % 128, by omega⟩ := by blk_ext []
  rw [e1, va_proj u w b t _ _ (cLast e) (by simp [cLast] <;> omega)]

/-- The reference computes the mixed projection. -/
theorem result : val_main_v158 (F := Ideal) u w cr sr ca sa qn kn = mix u w cr sr ca sa qn kn := by
  funext i
  obtain ⟨b, t, j, rfl⟩ := eq_ix3 (a := 2) (b := 8448) (c := 4608) i
  show val_main_v157 (F := Ideal) u w cr sr ca sa qn kn (ix3 b t j) = col (proj u w b t) (tbl 1 cr t) (tbl 0 sr t) (cosA ca t) (sinA sa t)
    (fun e => qn (ix2 0 e)) (fun e => kn (ix2 0 e)) j
  rcases cases j with ⟨h, d, e, rfl⟩ | ⟨e, rfl⟩ | ⟨h, e, rfl⟩ | ⟨e, rfl⟩
  · rw [col_ret, result_ret]
  · rw [col_val, result_val]
  · rw [col_att, result_att]
  · rw [col_last, result_last]

end Cert.MixCall
-- ==== Proof.MixCall.lean ====
module
public import proofs.«01_k».proof.Proof.MixStores
public import proofs.«01_k».proof.Proof.MixReference

@[expose] public section
noncomputable section
namespace Cert.MixCall
open Idealize.ShloMosaic Idealize.ShloMosaic.TcCoe Idealize.SL.Sem Cert.Blocks Cert.Consts Cert.MixIdeal Cert.MixIdeal.Gen
open scoped BigOperators

/-! # The mixed projection's result -/

/-- Rows that hold `z` before a table's own rows. -/
theorem cat_rows {n : ℕ} {z : EReal} (a : (⟨2, ![256, n]⟩ : Shape).Idx → EReal) (f : (⟨2, ![8192, n]⟩ : Shape).Idx → EReal)
    (H : Shape.Concatenates [(⟨2, ![256, n]⟩ : Shape), ⟨2, ![8192, n]⟩] ⟨2, ![8448, n]⟩ 0) (ha : ∀ i, a i = z) (t : Fin 8448) (e : Fin n) :
    concatenate (⟨2, ![8448, n]⟩ : Shape) 0 [⟨_, a⟩, ⟨_, f⟩] H (ix2 t e) = tbl z f t e := by
  rcases rows t with ht | ⟨τ, rfl⟩
  · rw [tbl_ctx z f ht]
    exact (concatenate_pair_apply_left (s₁ := ⟨2, ![256, n]⟩) (t := ⟨2, ![8448, n]⟩) _ _ _ _ (ix2 t e) rfl (ix2 ⟨t.val, ht⟩ e)
      (by intro c; match c with | 0 => rfl | 1 => rfl)).trans (ha _)
  · rw [tbl_lat]
    exact concatenate_pair_apply_right (s₁ := ⟨2, ![256, n]⟩) (s₂ := ⟨2, ![8192, n]⟩) (t := ⟨2, ![8448, n]⟩) _ _ _ _ (ix2 (latent τ) e) rfl rfl (ix2 τ e)
      (by intro c hc; match c with | 0 => exact absurd rfl hc | 1 => rfl) (by show τ.val + 256 = 256 + τ.val; omega)

/-- Two tables of half the columns beside each other. -/
theorem cat_cols (a b : S8448x64.Idx → EReal) (H : Shape.Concatenates [S8448x64, S8448x64] S8448x128 1) (t : Fin 8448) (e : Fin 128) :
    concatenate S8448x128 1 [⟨_, a⟩, ⟨_, b⟩] H (ix2 t e) = if e.val < 64 then a (ix2 t (lane64 e)) else b (ix2 t (lane64 e)) := by
  by_cases h : e.val < 64
  · rw [if_pos h]
    exact concatenate_pair_apply_left (s₁ := S8448x64) (t := S8448x128) _ _ _ _ (ix2 t e) rfl (ix2 t (lane64 e))
      (by intro c; match c with | 0 => rfl | 1 => show e.val % 64 = e.val; omega)
  · rw [if_neg h]
    exact concatenate_pair_apply_right (s₁ := S8448x64) (s₂ := S8448x64) (t := S8448x128) _ _ _ _ (ix2 t e) rfl rfl (ix2 t (lane64 e))
      (by intro c hc; match c with | 0 => rfl | 1 => exact absurd rfl hc) (by show e.val % 64 + 64 = e.val; omega)

variable (c : Dev nD) (m : (ℓ : Loc nD τ sig) → Buf (Elt Ideal) ℓ)

/-- The retention branch's cosines as the kernel finds them. -/
theorem cos_r (t : Fin 8448) (e : Fin 128) : V m c main_v1 (ix2 t e) = tbl 1 (m ((c.tc : Thread nD τ).loc main_arg2)) t e := by
  unfold_abbrev_sides
  after_results
  exact cat_rows _ _ _ (fun i => Ideal.ofBits_one_f32) t e

/-- The retention branch's sines as the kernel finds them. -/
theorem sin_r (t : Fin 8448) (e : Fin 128) : V m c main_v3 (ix2 t e) = tbl 0 (m ((c.tc : Thread nD τ).loc main_arg3)) t e := by
  unfold_abbrev_sides
  after_results
  exact cat_rows _ _ _ (fun i => Ideal.ofBits_zero_f32) t e

/-- The attention's cosines as the kernel finds them. -/
theorem cos_a (t : Fin 8448) (e : Fin 128) : V m c main_v8 (ix2 t e) = cosA (m ((c.tc : Thread nD τ).loc main_arg4)) t e := by
  unfold_abbrev_sides
  after_results
  refine (cat_cols _ _ _ t e).trans ?_
  rw [ite_self]
  exact cat_rows _ _ _ (fun i => Ideal.ofBits_one_f32) t (lane64 e)

/-- The attention's sines as the kernel finds them. -/
theorem sin_a (t : Fin 8448) (e : Fin 128) : V m c main_v10 (ix2 t e) = sinA (m ((c.tc : Thread nD τ).loc main_arg5)) t e := by
  unfold_abbrev_sides
  after_results
  refine (cat_cols _ _ _ t e).trans ?_
  unfold sinA
  refine if_congr Iff.rfl ?_ ?_
  · refine congrArg (fun x : EReal => -x) ?_
    exact cat_rows _ _ _ (fun i => Ideal.ofBits_zero_f32) t (lane64 e)
  · exact cat_rows _ _ _ (fun i => Ideal.ofBits_zero_f32) t (lane64 e)

/-- What the grid points read and write. -/
theorem idx : ∀ t : Fin cfg0.N, win0_0.index t = ![t.val / 16, t.val % 16, 0] ∧ win0_1.index t = ![0, 0, 0] ∧ win0_2.index t = ![0, 0, 2]
    ∧ win0_3.index t = ![t.val % 16, 0] ∧ win0_4.index t = ![t.val % 16, 0] ∧ win0_5.index t = ![t.val % 16, 0] ∧ win0_6.index t = ![t.val % 16, 0]
    ∧ win0_7.index t = ![0, 0] ∧ win0_8.index t = ![0, 0] ∧ win0_9.index t = ![t.val / 16, t.val % 16, 0] :=
  (by decide +kernel : ∀ t : Fin grid0.N, _)

/-- A row of the result is determined by the row's projections, its angles and the weights. -/
theorem col_congr {P P' : Fin 4608 → EReal} {c c' s s' C C' S S' q q' k k' : Fin 128 → EReal} (hP : ∀ j, P j = P' j) (hc : ∀ e, c e = c' e)
    (hs : ∀ e, s e = s' e) (hC : ∀ e, C e = C' e) (hS : ∀ e, S e = S' e) (hq : ∀ e, q e = q' e) (hk : ∀ e, k e = k' e) (l : Fin 4608) :
    col P c s C S q k l = col P' c' s' C' S' q' k' l := by
  rw [funext hP, funext hc, funext hs, funext hC, funext hS, funext hq, funext hk]

/-- The block of the weight before the gap. -/
theorem weight_lo (t : Fin cfg0.N) (k : Fin 2048) (j : Fin 4608) (hj : j.val < 3072) :
    X0_1 m c t (ix3 0 k ⟨j.val, hj⟩) = m ((c.tc : Thread nD τ).loc main_arg1) (ix3 0 k (wcol j)) := by
  have h := idx t
  have hw : (wcol j).val = j.val := wcol_lo hj
  unfold X0_1 Pipeline.Window.fill
  rw [dif_pos (moved0_1 t _)]
  blk_ext [iblk, V, h, hw]

/-- The block of the weight behind the gap. -/
theorem weight_hi (t : Fin cfg0.N) (k : Fin 2048) (j : Fin 4608) (hj : ¬j.val < 3072) :
    iblk m c 2 t (ix3 0 k ⟨j.val - 3072, by omega⟩) = m ((c.tc : Thread nD τ).loc main_arg1) (ix3 0 k (wcol j)) := by
  have h := idx t
  have hw : (wcol j).val = j.val + 1024 := wcol_hi hj
  blk_ext [iblk, V, h, hw]

set_option maxHeartbeats 1000000 in
/-- The result array after the run. -/
theorem final : (dats m 0 c).arrAt 9 cfg0.N = mix (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) := by
  refine (dats m 0 c).arrAt_eq_of_covers 9 _ (by decide +kernel) fun t hf y => ?_
  blk_simp
  rw [after0_9]
  unfold outsAt0 out0_A_9
  rw [View.read_writes_junk_eq_canon]
  obtain ⟨a, p, l, rfl⟩ := eq_ix3 (a := 1) (b := 528) (c := 4608) y
  obtain rfl : a = 0 := Fin.ext (by omega)
  have h := idx t
  have ht : t.val < 32 := t.isLt
  refine (tile ..).trans ?_
  have e0 : (((cfg0.win 9).blk t).view.emb (ix3 0 p l) : S2x8448x4608.Idx) = ix3 ⟨t.val / 16, by omega⟩ ⟨t.val % 16 * 528 + p.val, by omega⟩ l := by
    blk_ext [h]
  rw [e0]
  unfold tileOf mix
  refine col_congr (fun j => ?_) (fun e => ?_) (fun e => ?_) (fun e => ?_) (fun e => ?_) (fun e => ?_) (fun e => ?_) l
  · unfold blockP proj
    by_cases hj : j.val < 3072
    · rw [dif_pos hj]
      refine sum_mul (fun k => ?_) fun k => weight_lo c m t k j hj
      blk_ext [iblk, V, h]
    · rw [dif_neg hj]
      refine sum_mul (fun k => ?_) fun k => weight_hi c m t k j hj
      blk_ext [iblk, V, h]
  · refine Eq.trans ?_ (cos_r c m ⟨t.val % 16 * 528 + p.val, by omega⟩ e)
    show V m c main_v1 _ = V m c main_v1 _
    blk_ext [h]
  · refine Eq.trans ?_ (sin_r c m ⟨t.val % 16 * 528 + p.val, by omega⟩ e)
    show V m c main_v3 _ = V m c main_v3 _
    blk_ext [h]
  · refine Eq.trans ?_ (cos_a c m ⟨t.val % 16 * 528 + p.val, by omega⟩ e)
    show V m c main_v8 _ = V m c main_v8 _
    blk_ext [h]
  · refine Eq.trans ?_ (sin_a c m ⟨t.val % 16 * 528 + p.val, by omega⟩ e)
    show V m c main_v10 _ = V m c main_v10 _
    blk_ext [h]
  · blk_ext [iblk, V, h]
  · blk_ext [iblk, V, h]

end Cert.MixCall
-- ==== Proof.GatesCall.lean ====
module
public import proofs.«01_k».proof.Proof.Blocks
public import proofs.«01_k».proof.Proof.Gen.GatesIdeal.Value
public import proofs.«01_k».proof.Proof.Gen.GatesReferenceIdeal.Run
public import proofs.«01_k».proof.Proof.Gen.GatesReferenceIdeal.Read
public import Idealize.ShloMosaic.Lib.IdealHost

@[expose] public section
noncomputable section
namespace Cert.GatesCall
open Idealize.ShloMosaic Idealize.ShloMosaic.TcCoe Idealize.SL.Sem Cert.Blocks
open scoped BigOperators

/-! # The gates of the retention and attention branches -/

/-- The number that a float literal denotes. -/
abbrev lit (b : BitVec 32) : EReal := Ideal.ofBits .f32 b

/-- A head's mean. -/
def mean (x : Fin 256 → EReal) : EReal := Ideal.div (∑ k, x k) (lit 0x43800000#32)

/-- A head normalized: its mean taken away, divided by the root of its variance. -/
def norm (x : Fin 256 → EReal) (e : Fin 256) : EReal :=
  (x e - mean x) * Ideal.rsqrt (mean (fun k => (x k - mean x) * (x k - mean x)) + lit 0x358637BD#32)

/-- A value times its gate, the gate through `x · logistic x`. -/
def gated (x g : EReal) : EReal := x * (g * Ideal.logistic g)

/-- Column `e` of retention head `h`. -/
def head (h : Fin 4) (e : Fin 256) : Fin 1024 := ⟨256 * h + e, by omega⟩

/-- A result column's place in its branch. -/
def place (j : Fin 2048) : Fin 1024 := ⟨j % 1024, by omega⟩

/-- A result column's retention head. -/
def headOf (j : Fin 2048) : Fin 4 := ⟨j / 256 % 4, by omega⟩

/-- A result column's place in its head. -/
def inHead (j : Fin 2048) : Fin 256 := ⟨j % 256, by omega⟩

/-- The call: the normalized retention heads, scaled, and the attention's result, each times its gate. -/
def gates (u : (⟨3, ![2, 8448, 2048]⟩ : Shape).Idx → EReal) (wb : (⟨3, ![2, 2048, 14336]⟩ : Shape).Idx → EReal)
    (r a : (⟨3, ![2, 8448, 1024]⟩ : Shape).Idx → EReal) (gn : (⟨2, ![1, 1024]⟩ : Shape).Idx → EReal) :
    (⟨3, ![2, 8448, 2048]⟩ : Shape).Idx → EReal := fun i =>
  if (i 2).val < 1024 then
    gated (norm (fun e => r (ix3 (i 0) (i 1) (head (headOf (i 2)) e))) (inHead (i 2)) * gn (ix2 0 (place (i 2))))
      (∑ k : Fin 2048, u (ix3 (i 0) (i 1) k) * wb (ix3 0 k (sh 14336 3072 (by decide) (place (i 2)))))
  else
    gated (a (ix3 (i 0) (i 1) (place (i 2)))) (∑ k : Fin 2048, u (ix3 (i 0) (i 1) k) * wb (ix3 0 k (sh 14336 5632 (by decide) (place (i 2)))))

section Spec
variable (u : (⟨3, ![2, 8448, 2048]⟩ : Shape).Idx → EReal) (wb : (⟨3, ![2, 2048, 14336]⟩ : Shape).Idx → EReal)
    (r a : (⟨3, ![2, 8448, 1024]⟩ : Shape).Idx → EReal) (gn : (⟨2, ![1, 1024]⟩ : Shape).Idx → EReal) (b : Fin 2) (t : Fin 8448)

/-- A retention column of the result. -/
theorem gates_ret (h : Fin 4) (e : Fin 256) : gates u wb r a gn (ix3 b t (sh 2048 0 (by decide) (head h e)))
    = gated (norm (fun e' => r (ix3 b t (head h e'))) e * gn (ix2 0 (head h e)))
      (∑ k : Fin 2048, u (ix3 b t k) * wb (ix3 0 k (sh 14336 3072 (by decide) (head h e)))) := by
  have e1 : headOf (sh 2048 0 (by decide) (head h e)) = h := Fin.ext (by simp [headOf, sh, head]; omega)
  have e2 : inHead (sh 2048 0 (by decide) (head h e)) = e := Fin.ext (by simp [inHead, sh, head])
  have e3 : place (sh 2048 0 (by decide) (head h e)) = head h e := Fin.ext (by simp [place, sh, head]; omega)
  refine (if_pos (by show 0 + (256 * h.val + e.val) < 1024; omega)).trans ?_
  show gated (norm (fun e' => r (ix3 b t (head (headOf (sh 2048 0 (by decide) (head h e))) e'))) (inHead (sh 2048 0 (by decide) (head h e)))
    * gn (ix2 0 (place (sh 2048 0 (by decide) (head h e))))) (∑ k : Fin 2048, u (ix3 b t k) * wb (ix3 0 k (sh 14336 3072 (by decide) (place (sh 2048 0 (by decide) (head h e)))))) = _
  rw [e1, e2, e3]

/-- An attention column of the result. -/
theorem gates_att (l : Fin 1024) : gates u wb r a gn (ix3 b t (sh 2048 1024 (by decide) l))
    = gated (a (ix3 b t l)) (∑ k : Fin 2048, u (ix3 b t k) * wb (ix3 0 k (sh 14336 5632 (by decide) l))) := by
  have e3 : place (sh 2048 1024 (by decide) l) = l := Fin.ext (by simp [place, sh])
  refine (if_neg (by show ¬1024 + l.val < 1024; omega)).trans ?_
  show gated (a (ix3 b t (place (sh 2048 1024 (by decide) l)))) (∑ k : Fin 2048, u (ix3 b t k) * wb (ix3 0 k (sh 14336 5632 (by decide) (place (sh 2048 1024 (by decide) l))))) = _
  rw [e3]

/-- Every column is one of a retention head or one of the attention's. -/
theorem cols (l : Fin 2048) : (∃ h e, l = sh 2048 0 (by decide) (head h e)) ∨ ∃ j : Fin 1024, l = sh 2048 1024 (by decide) j := by
  by_cases h : l.val < 1024
  · exact .inl ⟨⟨l.val / 256, by omega⟩, ⟨l.val % 256, by omega⟩, Fin.ext (by show l.val = 0 + (256 * (l.val / 256) + l.val % 256); omega)⟩
  · exact .inr ⟨⟨l.val - 1024, by omega⟩, Fin.ext (by show l.val = 1024 + (l.val - 1024); omega)⟩

/-- A gated value is determined by its parts. -/
theorem gated_congr {x x' g g' : EReal} (hx : x = x') (hg : g = g') : gated x g = gated x' g' := by rw [hx, hg]

/-- A normalized head is determined by its columns. -/
theorem norm_congr {x x' : Fin 256 → EReal} (h : ∀ k, x k = x' k) (e : Fin 256) : norm x e = norm x' e := by rw [funext h]

end Spec

section Kernel
open Cert.GatesIdeal Cert.GatesIdeal.Gen

variable (x0 : Vec Ideal S1x528x2048 .bf16) (x1 : Vec Ideal S1x2048x1024 .bf16) (x2 x3 : Vec Ideal S1x2048x512 .bf16)
    (x4 x5 : Vec Ideal S1x528x1024 .bf16) (x6 : Vec Ideal S1x1024 .f32) (p : Fin 528)

/-- What a grid point writes to a retention column, from the blocks that it reads. -/
theorem tile_ret (h : Fin 4) (e : Fin 256) : out0_7 x0 x1 x2 x3 x4 x5 x6 (ix3 0 p (sh 2048 0 (by decide) (head h e)))
      = gated (norm (fun e' => x4 (ix3 0 p (head h e'))) e * x6 (ix2 0 (head h e))) (∑ k : Fin 2048, x0 (ix3 0 p k) * x1 (ix3 0 k (head h e))) := by
  unfold out0_7
  rw [skip 2 (by simp [sh, head]; omega), skip 2 (by simp [sh, head]; omega)]
  match h with
  | 0 =>
    rw [skip 2 (by simp [sh, head]; omega), hit (ix3 0 p (sh 512 0 (by decide) e)) (by intro a; match a with | 0 => rfl | 1 => simp | 2 => simp [sh, head])]
    pointwise [k0_pay7, k0_pay4, k0_pay5, k0_pay6, k0_pay13, k0_pay3]
    rw [dif_pos (by show 0 + e.val < 256; omega)]
    have v : (sh 512 0 (by decide) e).val = e.val := Nat.zero_add _
    have c : ∀ (x : Fin 256) (h : x.val < 1024), (⟨x.val, h⟩ : Fin 1024) = head 0 x := fun x h => Fin.ext (by simp [head])
    simp only [v, gated, norm, mean, lit, Nat.zero_add, Nat.add_sub_cancel_left, ← Nat.add_assoc, Nat.reduceAdd, c]
  | 1 =>
    rw [skip 2 (by simp [sh, head]; omega), hit (ix3 0 p (sh 512 256 (by decide) e)) (by intro a; match a with | 0 => rfl | 1 => simp | 2 => simp [sh, head])]
    pointwise [k0_pay7, k0_pay4, k0_pay5, k0_pay6, k0_pay13, k0_pay3]
    rw [dif_neg (by show ¬256 + e.val < 256; omega)]
    have v : (sh 512 256 (by decide) e).val = 256 + e.val := rfl
    have c : ∀ (x : Fin 256) (h : 256 + x.val < 1024), (⟨256 + x.val, h⟩ : Fin 1024) = head 1 x := fun x h => Fin.ext (by simp [head])
    simp only [v, gated, norm, mean, lit, Nat.zero_add, Nat.add_sub_cancel_left, ← Nat.add_assoc, Nat.reduceAdd, c]
  | 2 =>
    rw [hit (ix3 0 p (sh 512 0 (by decide) e)) (by intro a; match a with | 0 => rfl | 1 => simp | 2 => simp [sh, head])]
    pointwise [k0_pay11, k0_pay8, k0_pay9, k0_pay10, k0_pay13, k0_pay3]
    rw [dif_pos (by show 0 + e.val < 256; omega)]
    have v : (sh 512 0 (by decide) e).val = 0 + e.val := rfl
    have c : ∀ (x : Fin 256) (h : 512 + x.val < 1024), (⟨512 + x.val, h⟩ : Fin 1024) = head 2 x := fun x h => Fin.ext (by simp [head])
    simp only [v, gated, norm, mean, lit, Nat.zero_add, Nat.add_sub_cancel_left, ← Nat.add_assoc, Nat.reduceAdd, c]
  | 3 =>
    rw [hit (ix3 0 p (sh 512 256 (by decide) e)) (by intro a; match a with | 0 => rfl | 1 => simp | 2 => simp [sh, head]; omega)]
    pointwise [k0_pay11, k0_pay8, k0_pay9, k0_pay10, k0_pay13, k0_pay3]
    rw [dif_neg (by show ¬256 + e.val < 256; omega)]
    have v : (sh 512 256 (by decide) e).val = 256 + e.val := rfl
    have c : ∀ (x : Fin 256) (h : 768 + x.val < 1024), (⟨768 + x.val, h⟩ : Fin 1024) = head 3 x := fun x h => Fin.ext (by simp [head])
    simp only [v, gated, norm, mean, lit, Nat.zero_add, Nat.add_sub_cancel_left, ← Nat.add_assoc, Nat.reduceAdd, c]

/-- What a grid point writes to an attention column of the first half. -/
theorem tile_lo (j : Fin 512) : out0_7 x0 x1 x2 x3 x4 x5 x6 (ix3 0 p (sh 2048 1024 (by decide) (sh 1024 0 (by decide) j)))
      = gated (x5 (ix3 0 p (sh 1024 0 (by decide) j))) (∑ k : Fin 2048, x0 (ix3 0 p k) * x2 (ix3 0 k j)) := by
  unfold out0_7
  rw [skip 2 (by simp [sh]; omega), hit (ix3 0 p j) (by intro a; match a with | 0 => rfl | 1 => simp | 2 => simp [sh])]
  pointwise [k0_pay1, k0_pay12, k0_pay13, k0_pay3]
  simp only [gated, sh, Nat.zero_add]

/-- What a grid point writes to an attention column of the second half. -/
theorem tile_hi (j : Fin 512) : out0_7 x0 x1 x2 x3 x4 x5 x6 (ix3 0 p (sh 2048 1024 (by decide) (sh 1024 512 (by decide) j)))
      = gated (x5 (ix3 0 p (sh 1024 512 (by decide) j))) (∑ k : Fin 2048, x0 (ix3 0 p k) * x3 (ix3 0 k j)) := by
  unfold out0_7
  rw [hit (ix3 0 p j) (by intro a; match a with | 0 => rfl | 1 => simp | 2 => simp [sh]; omega)]
  pointwise [k0_pay2, k0_pay13, k0_pay3]
  simp only [gated, sh, Nat.zero_add]

variable (m : (ℓ : Loc nD τ sig) → Buf (Elt Ideal) ℓ) (c : Dev nD)

/-- The windows' block indices at point `t`: row tile `t % 16` of batch `t / 16`. -/
theorem idx : ∀ t : Fin cfg0.N, win0_0.index t = ![t.val / 16, t.val % 16, 0] ∧ win0_1.index t = ![0, 0, 3]
    ∧ win0_2.index t = ![0, 0, 11] ∧ win0_3.index t = ![0, 0, 12] ∧ win0_4.index t = ![t.val / 16, t.val % 16, 0]
    ∧ win0_5.index t = ![t.val / 16, t.val % 16, 0] ∧ win0_6.index t = ![0, 0] ∧ win0_7.index t = ![t.val / 16, t.val % 16, 0] :=
  (by decide +kernel : ∀ t : Fin grid0.N, _)

/-- A result row of point `t`. -/
theorem row_lt (t : Fin cfg0.N) (p : Fin 528) : t.val % 16 * 528 + p.val < 8448 := by omega

/-- The batch of point `t`. -/
theorem batch_lt (t : Fin cfg0.N) : t.val / 16 < 2 := by have ht : t.val < 32 := t.isLt; omega

set_option maxHeartbeats 2000000 in
/-- The result array after the run. -/
theorem final : (dats m 0 c).arrAt 7 cfg0.N = gates (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  refine (dats m 0 c).arrAt_eq_of_covers 7 _ (by decide +kernel) fun t hf y => ?_
  blk_simp
  rw [after0_7]
  obtain ⟨a, p, l, rfl⟩ := eq_ix3 (a := 1) (b := 528) (c := 2048) y
  obtain rfl : a = 0 := Fin.ext (by omega)
  have h := idx t
  have ht : t.val < 32 := t.isLt
  rcases cols l with ⟨hd, e, rfl⟩ | ⟨j, rfl⟩
  · refine (tile_ret ..).trans (Eq.trans ?_ ((gates_ret _ _ _ _ _ ⟨t.val / 16, batch_lt t⟩ ⟨_, row_lt t p⟩ hd e).symm.trans (congrArg _ ?_)))
    · refine gated_congr (congrArg₂ (· * ·) (norm_congr (fun k => ?_) _) ?_) (sum_mul (fun k => ?_) fun k => ?_) <;> blk_ext [iblk, V, h, sh, head]
    · blk_ext [h, sh, head]
  · refine Eq.trans ?_ ((gates_att _ _ _ _ _ ⟨t.val / 16, batch_lt t⟩ ⟨_, row_lt t p⟩ j).symm.trans (congrArg _ ?_))
    · by_cases hj : j.val < 512
      · obtain ⟨q, rfl⟩ : ∃ q : Fin 512, j = sh 1024 0 (by decide) q := ⟨⟨j, hj⟩, Fin.ext (Nat.zero_add _).symm⟩
        refine (tile_lo ..).trans ?_
        refine gated_congr ?_ (sum_mul (fun k => ?_) fun k => ?_) <;> blk_ext [iblk, V, h, sh]
      · obtain ⟨q, rfl⟩ : ∃ q : Fin 512, j = sh 1024 512 (by decide) q := ⟨⟨j - 512, by omega⟩, Fin.ext (by show j.val = 512 + (j.val - 512); omega)⟩
        refine (tile_hi ..).trans ?_
        refine gated_congr ?_ (sum_mul (fun k => ?_) fun k => ?_) <;> blk_ext [iblk, V, h, sh]
    · blk_ext [h, sh]

end Kernel

section Reference
open Cert.GatesReferenceIdeal Cert.GatesReferenceIdeal.Read

variable (u : (⟨3, ![2, 8448, 2048]⟩ : Shape).Idx → EReal) (wb : (⟨3, ![2, 2048, 14336]⟩ : Shape).Idx → EReal)
    (r a : (⟨3, ![2, 8448, 1024]⟩ : Shape).Idx → EReal) (gn : (⟨2, ![1, 1024]⟩ : Shape).Idx → EReal) (b : Fin 2) (t : Fin 8448)

/-- The reference's mean of a head. -/
theorem mean_eq (h : Fin 4) : val_main_v8 (F := Ideal) r (ix4 b t h 0) = mean (fun e => r (ix3 b t (head h e))) := by
  rw [val_main_v8_apply, val_main_v7_apply, val_main_cst_0_apply, val_main_v6_apply, val_main_v5_apply, val_main_cst_apply]
  show Ideal.div (Ideal.ofBits .f32 0x00000000#32 + _) (lit 0x43800000#32) = _
  rw [show (Ideal.ofBits .f32 0x00000000#32 : EReal) = 0 from Ideal.ofBits_zero_f32, zero_add]
  refine congrArg (fun x => Ideal.div x _) (Finset.sum_congr rfl fun e _ => ?_)
  rw [val_main_v4_apply, val_main_v3_apply]
  show r _ = r _
  blk_ext [head]

/-- A column of a head, its mean taken away. -/
theorem centred (h : Fin 4) (e : Fin 256) : val_main_v10 (F := Ideal) r (ix4 b t h e)
    = r (ix3 b t (head h e)) - mean (fun e => r (ix3 b t (head h e))) := by
  rw [val_main_v10_apply, val_main_v9_apply, val_main_v4_apply, val_main_v3_apply, ← mean_eq]
  show r _ - val_main_v8 (F := Ideal) r _ = _
  refine congrArg₂ (· - ·) ?_ ?_
  · show r _ = r _
    blk_ext [head]
  · show val_main_v8 (F := Ideal) r _ = val_main_v8 (F := Ideal) r _
    blk_ext []

/-- The reference's normalized head. -/
theorem norm_eq (h : Fin 4) (e : Fin 256) : val_main_v22 (F := Ideal) r (ix4 b t h e) = norm (fun e => r (ix3 b t (head h e))) e := by
  have e1 : val_main_v17 (F := Ideal) r = val_main_v10 (F := Ideal) r := rfl
  rw [val_main_v22_apply, e1, centred, val_main_v21_apply, val_main_v20_apply, val_main_v19_apply, val_main_v18_apply, val_main_cst_3_apply,
    val_main_v15_apply, val_main_v14_apply, val_main_cst_2_apply, val_main_v13_apply, val_main_v12_apply, val_main_cst_1_apply]
  show _ * Ideal.rsqrt (Ideal.div (Ideal.ofBits .f32 0x00000000#32 + _) (lit 0x43800000#32) + lit 0x358637BD#32) = _
  rw [show (Ideal.ofBits .f32 0x00000000#32 : EReal) = 0 from Ideal.ofBits_zero_f32, zero_add]
  refine congrArg (fun x => _ * Ideal.rsqrt (Ideal.div x _ + _)) (Finset.sum_congr rfl fun k _ => ?_)
  rw [val_main_v11_apply]
  have e2 : idx_main_v12 (idx_main_v13 (idx_main_v21 (ix4 b t h e))) k = ix4 b t h k := by blk_ext []
  rw [e2, centred]
  rfl

/-- The reference's gates of the retention branch. -/
theorem silu_ret (l : Fin 1024) : val_main_v31 (F := Ideal) u wb (ix3 b t l)
    = (∑ k : Fin 2048, u (ix3 b t k) * wb (ix3 0 k (sh 14336 3072 (by decide) l)))
      * Ideal.logistic (∑ k : Fin 2048, u (ix3 b t k) * wb (ix3 0 k (sh 14336 3072 (by decide) l))) := by
  rw [val_main_v31_apply, val_main_call0_v5_apply, val_main_call0_v4_apply, val_main_call0_cst_0_apply, val_main_call0_v3_apply,
    val_main_call0_v2_apply, val_main_call0_cst_apply, val_main_call0_v1_apply, val_main_call0_v0_apply]
  have e : val_main_v30 (F := Ideal) u wb (ix3 b t l) = ∑ k : Fin 2048, u (ix3 b t k) * wb (ix3 0 k (sh 14336 3072 (by decide) l)) := by
    rw [val_main_v30_apply]
    refine sum_mul (fun k => ?_) fun k => ?_
    · show u _ = u _
      blk_ext []
    · rw [val_main_v29_apply, val_main_v2_apply, val_main_v1_apply, val_main_v0_apply]
      show wb _ = wb _
      blk_ext [sh]
  rw [e]
  show _ * Ideal.div (FloatOps.ofBits (F := Ideal) .f32 0x3F800000#32) ((FloatOps.ofBits (F := Ideal) .f32 0x3F800000#32 : EReal) + Ideal.exp (-_)) = _
  rw [show (FloatOps.ofBits (F := Ideal) .f32 0x3F800000#32 : EReal) = 1 from Ideal.ofBits_one_f32]
  rfl

/-- The reference's gates of the attention branch. -/
theorem silu_att (l : Fin 1024) : val_main_v37 (F := Ideal) u wb (ix3 b t l)
    = (∑ k : Fin 2048, u (ix3 b t k) * wb (ix3 0 k (sh 14336 5632 (by decide) l)))
      * Ideal.logistic (∑ k : Fin 2048, u (ix3 b t k) * wb (ix3 0 k (sh 14336 5632 (by decide) l))) := by
  rw [val_main_v37_apply, val_main_call1_v5_apply, val_main_call1_v4_apply, val_main_call1_cst_0_apply, val_main_call1_v3_apply,
    val_main_call1_v2_apply, val_main_call1_cst_apply, val_main_call1_v1_apply, val_main_call1_v0_apply]
  have e : val_main_v36 (F := Ideal) u wb (ix3 b t l) = ∑ k : Fin 2048, u (ix3 b t k) * wb (ix3 0 k (sh 14336 5632 (by decide) l)) := by
    rw [val_main_v36_apply]
    refine sum_mul (fun k => ?_) fun k => ?_
    · show u _ = u _
      blk_ext []
    · rw [val_main_v35_apply, val_main_v2_apply, val_main_v1_apply, val_main_v0_apply]
      show wb _ = wb _
      blk_ext [sh]
  rw [e]
  show _ * Ideal.div (FloatOps.ofBits (F := Ideal) .f32 0x3F800000#32) ((FloatOps.ofBits (F := Ideal) .f32 0x3F800000#32 : EReal) + Ideal.exp (-_)) = _
  rw [show (FloatOps.ofBits (F := Ideal) .f32 0x3F800000#32 : EReal) = 1 from Ideal.ofBits_one_f32]
  rfl

/-- The reference computes the gated branches. -/
theorem result : val_main_v40 (F := Ideal) u wb r a gn = gates u wb r a gn := by
  funext i
  obtain ⟨b, t, l, rfl⟩ := eq_ix3 (a := 2) (b := 8448) (c := 2048) i
  rw [val_main_v40_apply]
  show val_main_v39 (F := Ideal) u wb r a gn _ = _
  unfold val_main_v39
  rcases cols l with ⟨h, e, rfl⟩ | ⟨j, rfl⟩
  · rw [gates_ret]
    refine (concatenate_pair_apply_left (s₁ := S2x8448x1024) (t := S2x8448x2048) _ _ _ _ (ix3 b t (sh 2048 0 (by decide) (head h e))) rfl (ix3 b t (head h e)) (by
      intro c; match c with | 0 => rfl | 1 => rfl | 2 => simp [sh, head])).trans ?_
    rw [val_main_v32_apply, val_main_v27_apply, val_main_v26_apply, val_main_v25_apply, val_main_v24_apply, val_main_v23_apply, silu_ret]
    have e1 : idx_main_v23 (ix3 b t (head h e)) = ix4 b t h e := by blk_ext [head]
    rw [e1, norm_eq]
    refine gated_congr (congrArg₂ (· * ·) rfl ?_) rfl
    show gn _ = gn _
    blk_ext [head]
  · rw [gates_att]
    refine (concatenate_pair_apply_right (s₁ := S2x8448x1024) (s₂ := S2x8448x1024) (t := S2x8448x2048) _ _ _ _ (ix3 b t (sh 2048 1024 (by decide) j)) rfl rfl (ix3 b t j) (by
      intro c hc; match c with | 0 => rfl | 1 => rfl | 2 => exact absurd rfl hc) (by simp [sh]; omega)).trans ?_
    rw [val_main_v38_apply, val_main_v33_apply, silu_att]
    rfl

end Reference
end Cert.GatesCall
-- ==== Proof.SfiveCall.lean ====
module
public import proofs.«01_k».proof.Proof.Blocks
public import proofs.«01_k».proof.Proof.Gen.SfiveIdeal.Value
public import proofs.«01_k».proof.Proof.Gen.SfiveReferenceIdeal.Run
public import proofs.«01_k».proof.Proof.Gen.SfiveReferenceIdeal.Read

@[expose] public section
noncomputable section
namespace Cert.SfiveCall
open Idealize.ShloMosaic Idealize.ShloMosaic.TcCoe Idealize.SL.Sem Cert.Blocks
open scoped BigOperators

/-! # The S5 branch's input projection -/

/-- The projection: every token's product with the first 768 columns. -/
def project (u : (⟨3, ![2, 8448, 2048]⟩ : Shape).Idx → EReal) (w : (⟨2, ![2048, 1536]⟩ : Shape).Idx → EReal) :
    (⟨3, ![2, 8448, 768]⟩ : Shape).Idx → EReal := fun i =>
  ∑ k : Fin 2048, u (ix3 (i 0) (i 1) k) * w (ix2 k (sh 1536 0 (by decide) (i 2 : Fin 768)))

section Kernel
open Cert.SfiveIdeal Cert.SfiveIdeal.Gen

/-- What a grid point writes, from the blocks that it reads. -/
theorem tile (x0 : Vec Ideal S1x1056x2048 .bf16) (x1 : Vec Ideal S2048x768 .bf16) (p : Fin 1056) (j : Fin 768) :
    out0_2 x0 x1 (ix3 0 p j) = ∑ k : Fin 2048, x0 (ix3 0 p k) * x1 (ix2 k j) := by
  unfold out0_2
  rw [hit (ix3 0 p j) (by intro a; match a with | 0 => rfl | 1 => simp | 2 => simp)]
  pointwise [k0_pay1]

variable (m : (ℓ : Loc nD τ sig) → Buf (Elt Ideal) ℓ) (c : Dev nD)

/-- The windows' block indices at point `t`: row tile `t % 8` of batch `t / 8`. -/
theorem idx : ∀ t : Fin cfg0.N, win0_0.index t = ![t.val / 8, t.val % 8, 0] ∧ win0_1.index t = ![0, 0]
    ∧ win0_2.index t = ![t.val / 8, t.val % 8, 0] :=
  (by decide +kernel : ∀ t : Fin grid0.N, _)

set_option maxHeartbeats 2000000 in
/-- The result array after the run. -/
theorem final : (dats m 0 c).arrAt 2 cfg0.N = project (m ((c.tc : Thread nD τ).loc main_arg0)) (m ((c.tc : Thread nD τ).loc main_arg1)) := by
  refine (dats m 0 c).arrAt_eq_of_covers 2 _ (by decide +kernel) fun t hf y => ?_
  blk_simp
  rw [after0_2]
  obtain ⟨a, p, l, rfl⟩ := eq_ix3 (a := 1) (b := 1056) (c := 768) y
  obtain rfl : a = 0 := Fin.ext (by omega)
  have h := idx t
  have ht : t.val < 16 := t.isLt
  refine (tile ..).trans ?_
  unfold project
  refine sum_mul ?_ ?_ <;> intro k <;> blk_ext [iblk, V, h, sh]

end Kernel

section Reference
open Cert.SfiveReferenceIdeal Cert.SfiveReferenceIdeal.Read

/-- The reference computes the projection. -/
theorem result (u : (⟨3, ![2, 8448, 2048]⟩ : Shape).Idx → EReal) (w : (⟨2, ![2048, 1536]⟩ : Shape).Idx → EReal) :
    val_main_v3 (F := Ideal) u w = project u w := by
  funext i
  rw [val_main_v3_apply]
  refine sum_mul (fun k => ?_) fun k => ?_
  · show u _ = u _
    blk_ext []
  · rw [val_main_v2_apply, val_main_v1_apply]
    show w _ = w _
    blk_ext [sh]

end Reference
end Cert.SfiveCall
-- ==== Proof.GluCall.lean ====
module
public import proofs.«01_k».proof.Proof.Blocks
public import proofs.«01_k».proof.Proof.Gen.GluIdeal.Value
public import proofs.«01_k».proof.Proof.Gen.GluReferenceIdeal.Run
public import proofs.«01_k».proof.Proof.Gen.GluReferenceIdeal.Read
public import Idealize.ShloMosaic.Lib.IdealHost

@[expose] public section
noncomputable section
namespace Cert.GluCall
open Idealize.ShloMosaic Idealize.ShloMosaic.TcCoe Idealize.SL.Sem Cert.Blocks
open scoped BigOperators

/-! # The S5 branch's gated linear unit and gate -/

/-- The constants of the Gaussian unit: the number that a float literal denotes. -/
abbrev lit (b : BitVec 32) : EReal := Ideal.ofBits .f32 b

/-- The Gaussian unit in its form with the hyperbolic tangent. -/
def gelu (x : EReal) : EReal :=
  x * (lit 0x3F000000#32 * (1 + Ideal.tanh (lit 0x3F4C422A#32 * (x + lit 0x3D372713#32 * (x * (x * x))))))

/-- The call's result at one token and feature. -/
def unit (x p b g : EReal) : EReal := gelu x * Ideal.logistic (p + b) * (g * Ideal.logistic g)

/-- The call: the Gaussian unit of the scan's result, gated by the logistic of its projection and by the gate columns. -/
def glu (s : (⟨3, ![2, 8448, 768]⟩ : Shape).Idx → EReal) (u : (⟨3, ![2, 8448, 2048]⟩ : Shape).Idx → EReal)
    (w : (⟨2, ![2048, 1536]⟩ : Shape).Idx → EReal) (v : (⟨2, ![768, 768]⟩ : Shape).Idx → EReal) (b : (⟨2, ![1, 768]⟩ : Shape).Idx → EReal) :
    (⟨3, ![2, 8448, 768]⟩ : Shape).Idx → EReal := fun i =>
  unit (s i) (∑ k : Fin 768, gelu (s (ix3 (i 0) (i 1) k)) * v (ix2 k (i 2))) (b (ix2 0 (i 2)))
    (∑ k : Fin 2048, u (ix3 (i 0) (i 1) k) * w (ix2 k (sh 1536 768 (by decide) (i 2 : Fin 768))))

/-- The result at a token and feature is determined by its parts. -/
theorem unit_congr {x x' p p' b b' g g' : EReal} (hx : x = x') (hp : p = p') (hb : b = b') (hg : g = g') : unit x p b g = unit x' p' b' g' := by
  rw [hx, hp, hb, hg]

section Kernel
open Cert.GluIdeal Cert.GluIdeal.Gen

/-- What a grid point writes, from the blocks that it reads. -/
theorem tile (x0 : Vec Ideal S1x1056x768 .f32) (x1 : Vec Ideal S1x1056x2048 .bf16) (x2 : Vec Ideal S2048x768 .bf16)
    (x3 : Vec Ideal S768x768 .bf16) (x4 : Vec Ideal S1x768 .f32) (p : Fin 1056) (j : Fin 768) :
    out0_5 x0 x1 x2 x3 x4 (ix3 0 p j)
      = unit (x0 (ix3 0 p j)) (∑ k : Fin 768, gelu (x0 (ix3 0 p k)) * x3 (ix2 k j)) (x4 (ix2 0 j)) (∑ k : Fin 2048, x1 (ix3 0 p k) * x2 (ix2 k j)) := by
  unfold out0_5
  rw [hit (ix3 0 p j) (by intro a; match a with | 0 => rfl | 1 => simp | 2 => simp)]
  pointwise [k0_pay1]
  simp only [unit, gelu, lit]

variable (m : (ℓ : Loc nD τ sig) → Buf (Elt Ideal) ℓ) (c : Dev nD)

/-- The windows' block indices at point `t`: row tile `t % 8` of batch `t / 8`. -/
theorem idx : ∀ t : Fin cfg0.N, win0_0.index t = ![t.val / 8, t.val % 8, 0] ∧ win0_1.index t = ![t.val / 8, t.val % 8, 0]
    ∧ win0_2.index t = ![0, 1] ∧ win0_3.index t = ![0, 0] ∧ win0_4.index t = ![0, 0] ∧ win0_5.index t = ![t.val / 8, t.val % 8, 0] :=
  (by decide +kernel : ∀ t : Fin grid0.N, _)

set_option maxHeartbeats 2000000 in
/-- The result array after the run. -/
theorem final : (dats m 0 c).arrAt 5 cfg0.N = glu (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  blk_simp
  rw [after0_5]
  obtain ⟨a, p, l, rfl⟩ := eq_ix3 (a := 1) (b := 1056) (c := 768) y
  obtain rfl : a = 0 := Fin.ext (by omega)
  have h := idx t
  have ht : t.val < 16 := t.isLt
  refine (tile ..).trans ?_
  unfold glu
  refine unit_congr ?_ (sum_mul (fun k => congrArg gelu ?_) fun k => ?_) ?_ (sum_mul (fun k => ?_) fun k => ?_) <;> blk_ext [iblk, V, h, sh]

end Kernel

section Reference
open Cert.GluReferenceIdeal Cert.GluReferenceIdeal.Read

/-- The reference's Gaussian unit. -/
theorem gelu_eq (s : (⟨3, ![2, 8448, 768]⟩ : Shape).Idx → EReal) (i : S2x8448x768.Idx) : val_main_v12 (F := Ideal) s i = gelu (s i) := by
  rw [val_main_v12_apply, val_main_v11_apply, val_main_v10_apply, val_main_cst_2_apply, val_main_v9_apply, val_main_v8_apply, val_main_cst_1_apply,
    val_main_v7_apply, val_main_v6_apply, val_main_v5_apply, val_main_cst_0_apply, val_main_v4_apply, val_main_v3_apply, val_main_v2_apply,
    val_main_cst_apply, val_main_v1_apply, val_main_v0_apply]
  show _ * (_ * ((FloatOps.ofBits (F := Ideal) .f32 0x3F800000#32 : EReal) + Ideal.tanh (_ * (s i + _ * (s i * s i * s i))))) = _
  rw [mul_comm (s i * s i) (s i), show (FloatOps.ofBits (F := Ideal) .f32 0x3F800000#32 : EReal) = 1 from Ideal.ofBits_one_f32]
  rfl

/-- The reference computes the call's result. -/
theorem result (s : (⟨3, ![2, 8448, 768]⟩ : Shape).Idx → EReal) (u : (⟨3, ![2, 8448, 2048]⟩ : Shape).Idx → EReal)
    (w : (⟨2, ![2048, 1536]⟩ : Shape).Idx → EReal) (v : (⟨2, ![768, 768]⟩ : Shape).Idx → EReal) (b : (⟨2, ![1, 768]⟩ : Shape).Idx → EReal) :
    val_main_v32 (F := Ideal) s u w v b = glu s u w v b := by
  funext i
  rw [val_main_v32_apply, val_main_v31_apply, val_main_v30_apply, val_main_v25_apply, gelu_eq, val_main_v24_apply, val_main_v23_apply,
    val_main_cst_4_apply, val_main_v22_apply, val_main_v21_apply, val_main_cst_3_apply, val_main_v20_apply, val_main_v19_apply, val_main_v18_apply,
    val_main_call0_v5_apply, val_main_call0_v4_apply, val_main_call0_cst_0_apply, val_main_call0_v3_apply, val_main_call0_v2_apply,
    val_main_call0_cst_apply, val_main_call0_v1_apply, val_main_call0_v0_apply, val_main_v17_apply, val_main_v16_apply, val_main_v15_apply,
    val_main_v14_apply, val_main_v29_apply]
  have one : Ideal.ofBits .f32 0x3F800000#32 = 1 := Ideal.ofBits_one_f32
  show gelu _ * Ideal.div (lit 0x3F800000#32) (lit 0x3F800000#32 + Ideal.exp (-(_ + _))) * (_ * Ideal.div (lit 0x3F800000#32) (lit 0x3F800000#32 + Ideal.exp (-_))) = _
  unfold lit
  rw [one]
  refine unit_congr rfl (sum_mul (fun k => ?_) fun k => ?_) ?_ (sum_mul (fun k => ?_) fun k => ?_)
  · rw [gelu_eq]
    refine congrArg gelu ?_
    show s _ = s _
    blk_ext []
  · show v _ = v _
    blk_ext []
  · show b _ = b _
    blk_ext []
  · show u _ = u _
    blk_ext []
  · rw [val_main_v28_apply, val_main_v27_apply]
    show w _ = w _
    blk_ext [sh]

end Reference
end Cert.GluCall
-- ==== Proof.OutCall.lean ====
module
public import proofs.«01_k».proof.Proof.Blocks
public import proofs.«01_k».proof.Proof.Consts
public import proofs.«01_k».proof.Proof.Gen.OutIdeal.Value
public import proofs.«01_k».proof.Proof.Gen.OutReferenceIdeal.Run
public import proofs.«01_k».proof.Proof.Gen.OutReferenceIdeal.Read

@[expose] public section
noncomputable section
namespace Cert.OutCall
open Idealize.ShloMosaic Idealize.ShloMosaic.TcCoe Idealize.SL.Sem Cert.Blocks Cert.Consts
open scoped BigOperators

/-! # The layer's output -/

/-- The number that a float literal denotes. -/
abbrev lit (b : BitVec 32) : EReal := Ideal.ofBits .f32 b

/-- A row's mean. -/
def mean (x : Fin 2048 → EReal) : EReal := Ideal.div (∑ k, x k) (lit 0x45000000#32)

/-- A row normalized: its mean taken away, divided by the root of its variance. -/
def norm (x : Fin 2048 → EReal) (e : Fin 2048) : EReal :=
  (x e - mean x) * Ideal.rsqrt (mean (fun k => (x k - mean x) * (x k - mean x)) + lit 0x358637BD#32)

/-- One entry before the normalization: the scaled residual and the gated product. -/
def mixed (x g : EReal) (m w : Fin 2048 → EReal) : EReal := lit 0x3FB504F3#32 * x + g * ∑ k, m k * w k

/-- A latent's row among all rows. -/
def latent (t : Fin 8192) : Fin 8448 := ⟨256 + t, by omega⟩

/-- A row before the normalization. -/
def row (m : (⟨3, ![2, 8448, 2048]⟩ : Shape).Idx → EReal) (w : (⟨2, ![2048, 2048]⟩ : Shape).Idx → EReal)
    (x : (⟨3, ![2, 8448, 2048]⟩ : Shape).Idx → EReal) (mod : (⟨4, ![2, 2, 3, 2048]⟩ : Shape).Idx → EReal) (b : Fin 2) (t : Fin 8192)
    (l : Fin 2048) : EReal :=
  mixed (x (ix3 b (latent t) l)) (mod (ix4 b 1 2 l)) (fun k => m (ix3 b (latent t) k)) fun k => w (ix2 k l)

/-- The call: the latents' rows normalized, scaled and shifted. -/
def out (m : (⟨3, ![2, 8448, 2048]⟩ : Shape).Idx → EReal) (w : (⟨2, ![2048, 2048]⟩ : Shape).Idx → EReal)
    (x : (⟨3, ![2, 8448, 2048]⟩ : Shape).Idx → EReal) (mod : (⟨4, ![2, 2, 3, 2048]⟩ : Shape).Idx → EReal)
    (lw lb : (⟨1, ![2048]⟩ : Shape).Idx → EReal) : (⟨3, ![2, 8192, 2048]⟩ : Shape).Idx → EReal := fun i =>
  norm (row m w x mod (i 0) (i 1)) (i 2) * lw (ix1 (i 2)) + lb (ix1 (i 2))

/-- A normalized row is determined by its entries. -/
theorem norm_congr {x x' : Fin 2048 → EReal} (h : ∀ k, x k = x' k) (e : Fin 2048) : norm x e = norm x' e := by rw [funext h]

/-- An entry is determined by its parts. -/
theorem mixed_congr {x x' g g' : EReal} {m m' w w' : Fin 2048 → EReal} (hx : x = x') (hg : g = g') (hm : ∀ k, m k = m' k)
    (hw : ∀ k, w k = w' k) : mixed x g m w = mixed x' g' m' w' := by rw [hx, hg, funext hm, funext hw]

/-- A column of a quarter of the row. -/
abbrev quarter (c : Fin 4) (e : Fin 512) : Fin 2048 := ⟨512 * c + e, by omega⟩

/-- A row's sum is its quarters'. -/
theorem sum_quarters (f : Fin 2048 → EReal) : ∑ l, f l
    = ∑ e, f (quarter 0 e) + ∑ e, f (quarter 1 e) + ∑ e, f (quarter 2 e) + ∑ e, f (quarter 3 e) := by
  have h : ∑ c : Fin 4, ∑ e : Fin 512, f (quarter c e) = ∑ l, f l := by
    rw [← Fintype.sum_prod_type' (f := fun c e => f (quarter c e)), ← (finProdFinEquiv (m := 4) (n := 512)).sum_comp (g := f)]
    refine Finset.sum_congr rfl fun x _ => congrArg f (Fin.ext ?_)
    show 512 * x.1.val + x.2.val = x.2.val + 512 * x.1.val
    omega
  rw [← h, Fin.sum_univ_four]

/-- Every column is one of a quarter. -/
theorem cols (l : Fin 2048) : ∃ c e, l = quarter c e :=
  ⟨⟨l.val / 512, by omega⟩, ⟨l.val % 512, by omega⟩, Fin.ext (by show l.val = 512 * (l.val / 512) + l.val % 512; omega)⟩

section Kernel
open Cert.OutIdeal Cert.OutIdeal.Gen

variable (v0 : Vec Ideal S1x256x2048 .bf16) (v1 : FVec Ideal S256x2048 .bf16) (w : Vec Ideal S2048x512 .bf16) (x : Vec Ideal S1x256x512 .f32) (g : Vec Ideal S1x1x1x512 .f32)
    (p : Fin 256) (e : Fin 512)

/-- The block of rows as a matrix. -/
theorem pay4 (k : Fin 2048) : (k0_pay4 (F := Ideal) v0 (ix2 p k) : EReal) = v0 (ix3 0 p k) := by pointwise [k0_pay4]

/-- The first quarter's entries. -/
theorem pay5 : (k0_pay5 (F := Ideal) v0 w x g (ix2 p e) : EReal) = mixed (x (ix3 0 p e)) (g (ix4 0 0 0 e)) (fun k => v0 (ix3 0 p k)) fun k => w (ix2 k e) := by
  pointwise [k0_pay5, k0_pay4]
  simp only [mixed, lit]

/-- The second quarter's entries. -/
theorem pay11 : (k0_pay11 (F := Ideal) (k0_pay8 v0 w) (k0_pay9 x) (k0_pay10 g) (ix2 p e) : EReal)
    = mixed (x (ix3 0 p e)) (g (ix4 0 0 0 e)) (fun k => v0 (ix3 0 p k)) fun k => w (ix2 k e) := by
  pointwise [k0_pay11, k0_pay8, k0_pay9, k0_pay10, k0_pay4]
  simp only [mixed, lit]

/-- The third quarter's entries. -/
theorem pay13 : (k0_pay13 (F := Ideal) v1 w x g (ix2 p e) : EReal)
    = mixed (x (ix3 0 p e)) (g (ix4 0 0 0 e)) (fun k => v1 (ix2 p k)) fun k => w (ix2 k e) := by
  pointwise [k0_pay13]
  simp only [mixed, lit]

/-- The fourth quarter's entries. -/
theorem pay1 : (k0_pay1 (F := Ideal) (k0_pay16 v1 w) (k0_pay17 x) g (ix2 p e) : EReal)
    = mixed (x (ix3 0 p e)) (g (ix4 0 0 0 e)) (fun k => v1 (ix2 p k)) fun k => w (ix2 k e) := by
  pointwise [k0_pay1, k0_pay16, k0_pay17]
  simp only [mixed, lit]

/-- The first quarter as it is stored. -/
theorem pay6 : (k0_pay6 (F := Ideal) v0 w x g (ix2 p e) : EReal) = k0_pay5 v0 w x g (ix2 p e) := by
  unfold k0_pay6
  rw [shapeCast_self]

/-- The second quarter as it is stored. -/
theorem pay12 (v21 v25 : FVec Ideal S256x512 .f32) (v27 : FVec Ideal S1x512 .f32) :
    (k0_pay12 (F := Ideal) v21 v25 v27 (ix2 p e) : EReal) = k0_pay11 v21 v25 v27 (ix2 p e) := by
  unfold k0_pay12
  rw [shapeCast_self]

/-- The third quarter as it is stored. -/
theorem pay14 : (k0_pay14 (F := Ideal) v1 w x g (ix2 p e) : EReal) = k0_pay13 v1 w x g (ix2 p e) := by
  unfold k0_pay14
  rw [shapeCast_self]

/-- The fourth quarter as it is stored. -/
theorem pay2 (v55 v59 : FVec Ideal S256x512 .f32) : (k0_pay2 (F := Ideal) v55 v59 g (ix2 p e) : EReal) = k0_pay1 v55 v59 g (ix2 p e) := by
  unfold k0_pay2
  rw [shapeCast_self]

/-- The first quarter's sum. -/
theorem pay7 : (k0_pay7 (F := Ideal) v0 w x g (ix2 p 0) : EReal) = ∑ e, (k0_pay5 (F := Ideal) v0 w x g (ix2 p e) : EReal) := by
  pointwise [k0_pay7]

/-- The sum over three quarters. -/
theorem pay15 (v19 : FVec Ideal S256x1 .f32) (v21 v25 : FVec Ideal S256x512 .f32) (v27 : FVec Ideal S1x512 .f32) :
    (k0_pay15 (F := Ideal) v1 v19 v21 v25 v27 w x g (ix2 p 0) : EReal)
      = v19 (ix2 p 0) + ∑ e, (k0_pay11 (F := Ideal) v21 v25 v27 (ix2 p e) : EReal) + ∑ e, (k0_pay13 (F := Ideal) v1 w x g (ix2 p e) : EReal) := by
  pointwise [k0_pay15]

/-- The stored normalized rows, when the scratch holds the row `f` and the sums are its sum. -/
theorem pay3 (v53 : FVec Ideal S256x1 .f32) (v55 v59 : FVec Ideal S256x512 .f32) (v73 : Vec Ideal S256x2048 .f32) (v86 v90 : Vec Ideal S1x2048 .f32)
    (f : Fin 2048 → EReal) (hf : ∀ l, v73 (ix2 p l) = f l) (hs : (v53 (ix2 p 0) : EReal) + ∑ e, (k0_pay1 (F := Ideal) v55 v59 g (ix2 p e) : EReal) = ∑ l, f l) (l : Fin 2048) :
    (k0_pay3 (F := Ideal) v53 v55 v59 g v73 v86 v90 (ix3 0 p l) : EReal) = norm f l * v86 (ix2 0 l) + v90 (ix2 0 l) := by
  pointwise [k0_pay3]
  simp only [hf, hs, norm, mean, lit, inv2048, n2048, mul_inv _ (show (2048 : ℝ) ≠ 0 by norm_num)]

variable (c : Dev nD) (i : grid0.Coords) (arg2 : Memref sig .tc .vmem S1x256x2048 .bf16) (harg2 : arg2.IsWhole) (arg3 : Memref sig .tc .vmem S2048x2048 .bf16) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x1x3x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x256x2048 .f32) (harg9 : arg9.IsWhole) (arg10 : Memref sig .tc .vmem S256x2048 .f32) (harg10 : arg10.IsWhole)
    (x0 : Vec Ideal S1x256x2048 .bf16) (x1 : Vec Ideal S2048x2048 .bf16) (x2 : Vec Ideal S1x256x2048 .f32) (x3 : Vec Ideal S1x256x2048 .f32) (x4 : Vec Ideal S1x1x3x2048 .f32) (x5 : Vec Ideal S1x2048 .f32) (x6 : Vec Ideal S1x2048 .f32)

/-- A row of the block before the normalization. -/
def blockRow (p : Fin 256) (l : Fin 2048) : EReal := mixed (x3 (ix3 0 p l)) (x4 (ix4 0 0 2 l)) (fun k => x0 (ix3 0 p k)) fun k => x1 (ix2 k l)

/-- A load of a rectangle of a whole input block. -/
theorem block_read {s : Shape} {e : EltTy} {κ : Kind} {sp : Space} (mr : Memref sig κ sp s e) (h : mr.IsWhole) (x : s.Idx → Elt Ideal e)
    (r : Rect s) (j : r.shape.Idx) : View.readAt (Elt Ideal) mr.view r.toLoadRect (h.unread x) j = x (r.idx j) := by
  rw [View.readAt_eq_ld, h.read_unread]

set_option maxHeartbeats 2000000 in
/-- What a grid point writes, from the blocks that it reads. -/
theorem tile (p : Fin 256) (l : Fin 2048) :
    View.canon (kernelRun0_A (F := Ideal) c i arg2 harg2 arg3 harg3 arg4 harg4 arg5 harg5 arg6 harg6 arg7 harg7 arg8 harg8 arg9 harg9 arg10 harg10
      x0 x1 x2 x3 x4 x5 x6).1 (ix3 0 p l) = norm (blockRow x0 x1 x3 x4 p) l * x5 (ix2 0 l) + x6 (ix2 0 l) := by
  unfold kernelRun0_A
  rw [hit (ix3 0 p l) (by intro a; match a with | 0 => rfl | 1 => simp | 2 => simp)]
  refine (pay3 _ _ _ _ _ _ _ _ (blockRow x0 x1 x3 x4 p) ?_ ?_ l).trans ?_
  · intro l
    obtain ⟨q, e, rfl⟩ := cols l
    unfold kernelRun0_A.sl.v73
    rw [View.readCov_eq_canon']
    show View.canon _ _ = _
    unfold kernelRun0_A.sl.HS0_4
    match q with
    | 0 =>
      rw [skip 1 (by simp <;> omega), skip 1 (by simp <;> omega), skip 1 (by simp <;> omega), hit (ix2 p e) (by intro a; match a with | 0 => simp | 1 => simp)]
      rw [pay6]
      refine (pay5 _ _ _ _ p e).trans (mixed_congr ?_ ?_ (fun k => ?_) fun k => ?_)
      · rw [block_read]
        show x3 _ = x3 _
        blk_ext [] <;> simp
      · rw [block_read]
        show x4 _ = x4 _
        blk_ext [] <;> simp
      · rw [block_read]
        show x0 _ = x0 _
        blk_ext [] <;> simp
      · rw [block_read]
        show x1 _ = x1 _
        blk_ext [] <;> simp
    | 1 =>
      rw [skip 1 (by simp <;> omega), skip 1 (by simp <;> omega), hit (ix2 p e) (by intro a; match a with | 0 => simp | 1 => simp)]
      rw [pay12]
      unfold kernelRun0_A.sl.r_2 kernelRun0_A.sl.r_3 kernelRun0_A.sl.r_4
      refine (pay11 _ _ _ _ p e).trans (mixed_congr ?_ ?_ (fun k => ?_) fun k => ?_)
      · rw [block_read]
        show x3 _ = x3 _
        blk_ext [] <;> simp
      · rw [block_read]
        show x4 _ = x4 _
        blk_ext [] <;> simp
      · rw [block_read]
        show x0 _ = x0 _
        blk_ext [] <;> simp
      · rw [block_read]
        show x1 _ = x1 _
        blk_ext [] <;> simp
    | 2 =>
      rw [skip 1 (by simp <;> omega), hit (ix2 p e) (by intro a; match a with | 0 => simp | 1 => simp)]
      rw [pay14]
      unfold kernelRun0_A.sl.r
      refine (pay13 _ _ _ _ p e).trans (mixed_congr ?_ ?_ (fun k => ?_) fun k => ?_)
      · rw [block_read]
        show x3 _ = x3 _
        blk_ext [] <;> simp
      · rw [block_read]
        show x4 _ = x4 _
        blk_ext [] <;> simp
      · rw [pay4, block_read]
        show x0 _ = x0 _
        blk_ext [] <;> simp
      · rw [block_read]
        show x1 _ = x1 _
        blk_ext [] <;> simp
    | 3 =>
      rw [hit (ix2 p e) (by intro a; match a with | 0 => simp | 1 => simp)]
      rw [pay2]
      unfold kernelRun0_A.sl.r_6 kernelRun0_A.sl.r_7 kernelRun0_A.sl.v60 kernelRun0_A.sl.r
      refine (pay1 _ _ _ _ p e).trans (mixed_congr ?_ ?_ (fun k => ?_) fun k => ?_)
      · rw [block_read]
        show x3 _ = x3 _
        blk_ext [] <;> simp
      · rw [block_read]
        show x4 _ = x4 _
        blk_ext [] <;> simp
      · rw [pay4, block_read]
        show x0 _ = x0 _
        blk_ext [] <;> simp
      · rw [block_read]
        show x1 _ = x1 _
        blk_ext [] <;> simp
  · rw [sum_quarters]
    unfold kernelRun0_A.sl.r_5
    rw [pay15]
    refine congrArg₂ (· + ·) (congrArg₂ (· + ·) (congrArg₂ (· + ·) ?_ (Finset.sum_congr rfl fun e _ => ?_)) (Finset.sum_congr rfl fun e _ => ?_)) (Finset.sum_congr rfl fun e _ => ?_)
    · unfold kernelRun0_A.sl.r_1
      rw [pay7]
      refine Finset.sum_congr rfl fun e _ => ?_
      refine (pay5 _ _ _ _ p e).trans (mixed_congr ?_ ?_ (fun k => ?_) fun k => ?_)
      · rw [block_read]
        show x3 _ = x3 _
        blk_ext [] <;> simp
      · rw [block_read]
        show x4 _ = x4 _
        blk_ext [] <;> simp
      · rw [block_read]
        show x0 _ = x0 _
        blk_ext [] <;> simp
      · rw [block_read]
        show x1 _ = x1 _
        blk_ext [] <;> simp
    · unfold kernelRun0_A.sl.r_2 kernelRun0_A.sl.r_3 kernelRun0_A.sl.r_4
      refine (pay11 _ _ _ _ p e).trans (mixed_congr ?_ ?_ (fun k => ?_) fun k => ?_)
      · rw [block_read]
        show x3 _ = x3 _
        blk_ext [] <;> simp
      · rw [block_read]
        show x4 _ = x4 _
        blk_ext [] <;> simp
      · rw [block_read]
        show x0 _ = x0 _
        blk_ext [] <;> simp
      · rw [block_read]
        show x1 _ = x1 _
        blk_ext [] <;> simp
    · unfold kernelRun0_A.sl.r
      refine (pay13 _ _ _ _ p e).trans (mixed_congr ?_ ?_ (fun k => ?_) fun k => ?_)
      · rw [block_read]
        show x3 _ = x3 _
        blk_ext [] <;> simp
      · rw [block_read]
        show x4 _ = x4 _
        blk_ext [] <;> simp
      · rw [pay4, block_read]
        show x0 _ = x0 _
        blk_ext [] <;> simp
      · rw [block_read]
        show x1 _ = x1 _
        blk_ext [] <;> simp
    · unfold kernelRun0_A.sl.r_6 kernelRun0_A.sl.r_7 kernelRun0_A.sl.v60 kernelRun0_A.sl.r
      refine (pay1 _ _ _ _ p e).trans (mixed_congr ?_ ?_ (fun k => ?_) fun k => ?_)
      · rw [block_read]
        show x3 _ = x3 _
        blk_ext [] <;> simp
      · rw [block_read]
        show x4 _ = x4 _
        blk_ext [] <;> simp
      · rw [pay4, block_read]
        show x0 _ = x0 _
        blk_ext [] <;> simp
      · rw [block_read]
        show x1 _ = x1 _
        blk_ext [] <;> simp
  · rw [block_read, block_read]
    refine congrArg₂ (· + ·) (congrArg₂ (· * ·) rfl (congrArg x5 ?_)) (congrArg x6 ?_)
    · blk_ext [] <;> simp
    · blk_ext [] <;> simp

variable (m : (ℓ : Loc nD τ sig) → Buf (Elt Ideal) ℓ)

/-- The windows' block indices at point `t`: row tile `t % 32` of batch `t / 32`, the rows read after the context's. -/
theorem idx : ∀ t : Fin cfg0.N, win0_0.index t = ![t.val / 32, t.val % 32 + 1, 0] ∧ win0_1.index t = ![0, 0]
    ∧ win0_3.index t = ![t.val / 32, t.val % 32 + 1, 0] ∧ win0_4.index t = ![t.val / 32, 1, 0, 0]
    ∧ win0_5.index t = ![0, 0] ∧ win0_6.index t = ![0, 0] ∧ win0_7.index t = ![t.val / 32, t.val % 32, 0] :=
  (by decide +kernel : ∀ t : Fin grid0.N, _)

/-- The scale as the kernel finds it. -/
theorem scale_in (l : Fin 2048) : V m c main_v0 (ix2 0 l) = m ((c.tc : Thread nD τ).loc main_arg4) (ix1 l) := by
  unfold_abbrev_sides
  after_results
  show shapeCast S1x2048 _ _ _ = _
  pointwise []

/-- The shift as the kernel finds it. -/
theorem shift_in (l : Fin 2048) : V m c main_v1 (ix2 0 l) = m ((c.tc : Thread nD τ).loc main_arg5) (ix1 l) := by
  unfold_abbrev_sides
  after_results
  show shapeCast S1x2048 _ _ _ = _
  pointwise []

set_option maxHeartbeats 2000000 in
/-- The result array after the run. -/
theorem final : (dats m 0 c).arrAt 7 cfg0.N = out (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) := by
  refine (dats m 0 c).arrAt_eq_of_covers 7 _ (by decide +kernel) fun t hf y => ?_
  blk_simp
  rw [after0_7]
  unfold outsAt0 out0_A_7
  rw [View.read_writes_junk_eq_canon]
  obtain ⟨a, p, l, rfl⟩ := eq_ix3 (a := 1) (b := 256) (c := 2048) y
  obtain rfl : a = 0 := Fin.ext (by omega)
  have h := idx t
  have ht : t.val < 64 := t.isLt
  refine (tile ..).trans ?_
  unfold out
  have e0 : (((cfg0.win 7).blk t).view.emb (ix3 0 p l) : S2x8192x2048.Idx) = ix3 ⟨t.val / 32, by omega⟩ ⟨t.val % 32 * 256 + p.val, by omega⟩ l := by
    blk_ext [h]
  have e5 : iblk m c 5 t (ix2 0 l) = V m c main_v0 (ix2 0 l) := by
    show V m c main_v0 _ = V m c main_v0 _
    blk_ext [h]
  have e6 : iblk m c 6 t (ix2 0 l) = V m c main_v1 (ix2 0 l) := by
    show V m c main_v1 _ = V m c main_v1 _
    blk_ext [h]
  rw [e0, e5, e6, scale_in, shift_in]
  refine congrArg₂ (· + ·) (congrArg₂ (· * ·) (norm_congr (fun k => ?_) _) rfl) rfl
  unfold blockRow row
  refine mixed_congr ?_ ?_ (fun k => ?_) fun k => ?_
  · blk_ext [iblk, V, h, latent]
  · blk_ext [iblk, V, h, latent]
  · blk_ext [iblk, V, h, latent]
  · blk_ext [iblk, V, h, latent]

end Kernel

section Reference
open Cert.OutReferenceIdeal Cert.OutReferenceIdeal.Read

variable (m : (⟨3, ![2, 8448, 2048]⟩ : Shape).Idx → EReal) (w : (⟨2, ![2048, 2048]⟩ : Shape).Idx → EReal)
    (x : (⟨3, ![2, 8448, 2048]⟩ : Shape).Idx → EReal) (mod : (⟨4, ![2, 2, 3, 2048]⟩ : Shape).Idx → EReal)
    (lw lb : (⟨1, ![2048]⟩ : Shape).Idx → EReal) (b : Fin 2) (t : Fin 8192)

/-- The reference's rows before the normalization. -/
theorem row_eq (l : Fin 2048) : val_main_v12 (F := Ideal) m w x mod (ix3 b t l) = row m w x mod b t l := by
  rw [val_main_v12_apply, val_main_v6_apply, val_main_v5_apply, val_main_cst_apply, val_main_v4_apply, val_main_v11_apply,
    val_main_v10_apply, val_main_v9_apply, val_main_v8_apply, val_main_v7_apply, val_main_v3_apply]
  refine mixed_congr ?_ ?_ (fun k => ?_) fun k => ?_
  · show x _ = x _
    blk_ext [latent]
  · show mod _ = mod _
    blk_ext []
  · rw [val_main_v1_apply, val_main_v0_apply]
    show m _ = m _
    blk_ext [latent]
  · rw [val_main_v2_apply]
    show w _ = w _
    blk_ext []

/-- The reference's mean of a row. -/
theorem mean_eq : val_main_v16 (F := Ideal) m w x mod (ix3 b t 0) = mean (row m w x mod b t) := by
  rw [val_main_v16_apply, val_main_v15_apply, val_main_cst_1_apply, val_main_v14_apply, val_main_v13_apply, val_main_cst_0_apply]
  show Ideal.div (Ideal.ofBits .f32 0x00000000#32 + _) (lit 0x45000000#32) = _
  rw [show (Ideal.ofBits .f32 0x00000000#32 : EReal) = 0 from Ideal.ofBits_zero_f32, zero_add]
  refine congrArg (fun x => Ideal.div x _) (Finset.sum_congr rfl fun e _ => ?_)
  refine Eq.trans ?_ (row_eq m w x mod b t e)
  show val_main_v12 (F := Ideal) m w x mod _ = val_main_v12 (F := Ideal) m w x mod _
  blk_ext []

/-- A row's entry, the mean taken away. -/
theorem centred (l : Fin 2048) : val_main_v18 (F := Ideal) m w x mod (ix3 b t l) = row m w x mod b t l - mean (row m w x mod b t) := by
  rw [val_main_v18_apply, val_main_v17_apply, row_eq, ← mean_eq]
  refine congrArg (fun z : EReal => row m w x mod b t l - z) ?_
  show val_main_v16 (F := Ideal) m w x mod _ = val_main_v16 (F := Ideal) m w x mod _
  blk_ext []

/-- The reference's variance of a row. -/
theorem var_eq : val_main_v23 (F := Ideal) m w x mod (ix3 b t 0)
    = mean (fun k => (row m w x mod b t k - mean (row m w x mod b t)) * (row m w x mod b t k - mean (row m w x mod b t))) := by
  rw [val_main_v23_apply, val_main_v22_apply, val_main_cst_3_apply, val_main_v21_apply, val_main_v20_apply, val_main_cst_2_apply]
  show Ideal.div (Ideal.ofBits .f32 0x00000000#32 + _) (lit 0x45000000#32) = _
  rw [show (Ideal.ofBits .f32 0x00000000#32 : EReal) = 0 from Ideal.ofBits_zero_f32, zero_add]
  refine congrArg (fun x => Ideal.div x _) (Finset.sum_congr rfl fun e _ => ?_)
  rw [val_main_v19_apply]
  have e1 : idx_main_v20 (idx_main_v21 (ix3 b t 0)) e = ix3 b t e := by blk_ext []
  rw [e1, centred]
  rfl

/-- The reference computes the output. -/
theorem result : val_main_v36 (F := Ideal) m w x mod lw lb = out m w x mod lw lb := by
  funext i
  obtain ⟨b, t, l, rfl⟩ := eq_ix3 (a := 2) (b := 8192) (c := 2048) i
  have e1 : val_main_v25 (F := Ideal) m w x mod = val_main_v18 (F := Ideal) m w x mod := rfl
  rw [val_main_v36_apply, val_main_v33_apply, val_main_v30_apply, e1, centred, val_main_v29_apply, val_main_v28_apply, val_main_v27_apply,
    val_main_v26_apply, val_main_cst_4_apply, val_main_v32_apply, val_main_v31_apply, val_main_v35_apply, val_main_v34_apply]
  have e2 : idx_main_v29 (ix3 b t l) = ix3 b t 0 := by blk_ext []
  rw [e2, var_eq]
  refine congrArg₂ (· + ·) (congrArg₂ (· * ·) rfl ?_) ?_
  · show lw _ = lw _
    blk_ext []
  · show lb _ = lb _
    blk_ext []

end Reference
end Cert.OutCall
-- ==== Proof.LeadPay.lean ====
module
public import proofs.«01_k».proof.Proof.OutCall
public import proofs.«01_k».proof.Proof.Gen.LeadIdeal.Value

@[expose] public section
noncomputable section
namespace Cert.LeadCall
open Idealize.ShloMosaic Idealize.ShloMosaic.TcCoe Idealize.SL.Sem Cert.Blocks Cert.Consts Cert.LeadIdeal Cert.LeadIdeal.Gen
open Cert.OutCall (lit mean norm mixed norm_congr mixed_congr quarter cols sum_quarters block_read)
open scoped BigOperators

/-! # What a grid point of the first layer's output writes -/

section Payloads
variable (v0 : Vec Ideal S1x256x2048 .bf16) (v1 : FVec Ideal S256x2048 .bf16) (w : Vec Ideal S2048x512 .bf16) (x : Vec Ideal S1x256x512 .f32) (g : Vec Ideal S1x1x1x512 .f32)
    (p : Fin 256) (e : Fin 512)

/-- The next layer's input from the output. -/
theorem next1 (o : FVec Ideal S256x2048 .f32) (s t : Vec Ideal S1x1x1x2048 .f32) (l : Fin 2048) :
    (k0_pay1 (F := Ideal) o s t (ix3 0 p l) : EReal) = o (ix2 p l) * (lit 0x3F800000#32 + s (ix4 0 0 0 l)) + t (ix4 0 0 0 l) := by
  pointwise [k0_pay1]

/-- The next layer's input from the output. -/
theorem next2 (o : FVec Ideal S256x2048 .f32) (s t : Vec Ideal S1x1x1x2048 .f32) (l : Fin 2048) :
    (k0_pay2 (F := Ideal) o s t (ix3 0 p l) : EReal) = o (ix2 p l) * (lit 0x3F800000#32 + s (ix4 0 0 0 l)) + t (ix4 0 0 0 l) := by
  pointwise [k0_pay2]

/-- The block of rows as a matrix, of the context. -/
theorem pay3 (k : Fin 2048) : (k0_pay3 (F := Ideal) v0 (ix2 p k) : EReal) = v0 (ix3 0 p k) := by pointwise [k0_pay3]

/-- The first quarter's entries, of the context. -/
theorem pay4 : (k0_pay4 (F := Ideal) v0 w x g (ix2 p e) : EReal) = mixed (x (ix3 0 p e)) (g (ix4 0 0 0 e)) (fun k => v0 (ix3 0 p k)) fun k => w (ix2 k e) := by
  pointwise [k0_pay4, k0_pay3]
  simp only [mixed, lit]

/-- The second quarter's entries, of the context. -/
theorem pay9 : (k0_pay9 (F := Ideal) (k0_pay7 x) (k0_pay8 v0 w g) (ix2 p e) : EReal)
    = mixed (x (ix3 0 p e)) (g (ix4 0 0 0 e)) (fun k => v0 (ix3 0 p k)) fun k => w (ix2 k e) := by
  pointwise [k0_pay9, k0_pay7, k0_pay8, k0_pay3]
  simp only [mixed, lit]

/-- The third quarter's entries, of the context. -/
theorem pay11 : (k0_pay11 (F := Ideal) v1 w x g (ix2 p e) : EReal)
    = mixed (x (ix3 0 p e)) (g (ix4 0 0 0 e)) (fun k => v1 (ix2 p k)) fun k => w (ix2 k e) := by
  pointwise [k0_pay11]
  simp only [mixed, lit]

/-- The fourth quarter's entries, of the context. -/
theorem pay16 : (k0_pay16 (F := Ideal) (k0_pay14 v1 w) (k0_pay15 x) g (ix2 p e) : EReal)
    = mixed (x (ix3 0 p e)) (g (ix4 0 0 0 e)) (fun k => v1 (ix2 p k)) fun k => w (ix2 k e) := by
  pointwise [k0_pay16, k0_pay14, k0_pay15]
  simp only [mixed, lit]

/-- The first quarter as it is stored, of the context. -/
theorem pay5 : (k0_pay5 (F := Ideal) v0 w x g (ix2 p e) : EReal) = k0_pay4 v0 w x g (ix2 p e) := by
  unfold k0_pay5
  rw [shapeCast_self]

/-- The second quarter as it is stored, of the context. -/
theorem pay10 (v31 v35 : FVec Ideal S256x512 .f32) : (k0_pay10 (F := Ideal) v31 v35 (ix2 p e) : EReal) = k0_pay9 v31 v35 (ix2 p e) := by
  unfold k0_pay10
  rw [shapeCast_self]

/-- The third quarter as it is stored, of the context. -/
theorem pay12 : (k0_pay12 (F := Ideal) v1 w x g (ix2 p e) : EReal) = k0_pay11 v1 w x g (ix2 p e) := by
  unfold k0_pay12
  rw [shapeCast_self]

/-- The fourth quarter as it is stored, of the context. -/
theorem pay17 (v61 v65 : FVec Ideal S256x512 .f32) : (k0_pay17 (F := Ideal) v61 v65 g (ix2 p e) : EReal) = k0_pay16 v61 v65 g (ix2 p e) := by
  unfold k0_pay17
  rw [shapeCast_self]

/-- The first quarter's sum, of the context. -/
theorem pay6 : (k0_pay6 (F := Ideal) v0 w x g (ix2 p 0) : EReal) = ∑ e, (k0_pay4 (F := Ideal) v0 w x g (ix2 p e) : EReal) := by
  pointwise [k0_pay6]

/-- The sum over three quarters, of the context. -/
theorem pay13 (v25 : FVec Ideal S256x1 .f32) (v31 v35 : FVec Ideal S256x512 .f32) :
    (k0_pay13 (F := Ideal) v1 v25 v31 v35 w x g (ix2 p 0) : EReal)
      = v25 (ix2 p 0) + ∑ e, (k0_pay9 (F := Ideal) v31 v35 (ix2 p e) : EReal) + ∑ e, (k0_pay11 (F := Ideal) v1 w x g (ix2 p e) : EReal) := by
  pointwise [k0_pay13]

/-- The normalized rows, when the scratch holds the row `f` and the sums are its sum, of the context. -/
theorem pay18 (v59 : FVec Ideal S256x1 .f32) (v61 v65 : FVec Ideal S256x512 .f32) (v79 : Vec Ideal S256x2048 .f32) (v92 v96 : Vec Ideal S1x2048 .f32)
    (f : Fin 2048 → EReal) (hf : ∀ l, v79 (ix2 p l) = f l) (hs : (v59 (ix2 p 0) : EReal) + ∑ e, (k0_pay16 (F := Ideal) v61 v65 g (ix2 p e) : EReal) = ∑ l, f l) (l : Fin 2048) :
    (k0_pay18 (F := Ideal) v59 v61 v65 g v79 v92 v96 (ix2 p l) : EReal) = norm f l * v92 (ix2 0 l) + v96 (ix2 0 l) := by
  pointwise [k0_pay18]
  simp only [hf, hs, Cert.OutCall.norm, mean, lit, inv2048, n2048, mul_inv _ (show (2048 : ℝ) ≠ 0 by norm_num)]

/-- The stored normalized rows, of the context. -/
theorem pay19 (v59 : FVec Ideal S256x1 .f32) (v61 v65 : FVec Ideal S256x512 .f32) (v79 : Vec Ideal S256x2048 .f32) (v92 v96 : Vec Ideal S1x2048 .f32) (l : Fin 2048) :
    (k0_pay19 (F := Ideal) v59 v61 v65 g v79 v92 v96 (ix3 0 p l) : EReal) = k0_pay18 v59 v61 v65 g v79 v92 v96 (ix2 p l) := by
  pointwise [k0_pay19]

/-- The block of rows as a matrix, of the latents. -/
theorem pay20 (k : Fin 2048) : (k0_pay20 (F := Ideal) v0 (ix2 p k) : EReal) = v0 (ix3 0 p k) := by pointwise [k0_pay20]

/-- The first quarter's entries, of the latents. -/
theorem pay21 : (k0_pay21 (F := Ideal) v0 w x g (ix2 p e) : EReal) = mixed (x (ix3 0 p e)) (g (ix4 0 0 0 e)) (fun k => v0 (ix3 0 p k)) fun k => w (ix2 k e) := by
  pointwise [k0_pay21, k0_pay20]
  simp only [mixed, lit]

/-- The second quarter's entries, of the latents. -/
theorem pay26 : (k0_pay26 (F := Ideal) (k0_pay24 x) (k0_pay25 v0 w g) (ix2 p e) : EReal)
    = mixed (x (ix3 0 p e)) (g (ix4 0 0 0 e)) (fun k => v0 (ix3 0 p k)) fun k => w (ix2 k e) := by
  pointwise [k0_pay26, k0_pay24, k0_pay25, k0_pay20]
  simp only [mixed, lit]

/-- The third quarter's entries, of the latents. -/
theorem pay28 : (k0_pay28 (F := Ideal) v1 w x g (ix2 p e) : EReal)
    = mixed (x (ix3 0 p e)) (g (ix4 0 0 0 e)) (fun k => v1 (ix2 p k)) fun k => w (ix2 k e) := by
  pointwise [k0_pay28]
  simp only [mixed, lit]

/-- The fourth quarter's entries, of the latents. -/
theorem pay33 : (k0_pay33 (F := Ideal) (k0_pay31 v1 w) (k0_pay32 x) g (ix2 p e) : EReal)
    = mixed (x (ix3 0 p e)) (g (ix4 0 0 0 e)) (fun k => v1 (ix2 p k)) fun k => w (ix2 k e) := by
  pointwise [k0_pay33, k0_pay31, k0_pay32]
  simp only [mixed, lit]

/-- The first quarter as it is stored, of the latents. -/
theorem pay22 : (k0_pay22 (F := Ideal) v0 w x g (ix2 p e) : EReal) = k0_pay21 v0 w x g (ix2 p e) := by
  unfold k0_pay22
  rw [shapeCast_self]

/-- The second quarter as it is stored, of the latents. -/
theorem pay27 (v31 v35 : FVec Ideal S256x512 .f32) : (k0_pay27 (F := Ideal) v31 v35 (ix2 p e) : EReal) = k0_pay26 v31 v35 (ix2 p e) := by
  unfold k0_pay27
  rw [shapeCast_self]

/-- The third quarter as it is stored, of the latents. -/
theorem pay29 : (k0_pay29 (F := Ideal) v1 w x g (ix2 p e) : EReal) = k0_pay28 v1 w x g (ix2 p e) := by
  unfold k0_pay29
  rw [shapeCast_self]

/-- The fourth quarter as it is stored, of the latents. -/
theorem pay34 (v61 v65 : FVec Ideal S256x512 .f32) : (k0_pay34 (F := Ideal) v61 v65 g (ix2 p e) : EReal) = k0_pay33 v61 v65 g (ix2 p e) := by
  unfold k0_pay34
  rw [shapeCast_self]

/-- The first quarter's sum, of the latents. -/
theorem pay23 : (k0_pay23 (F := Ideal) v0 w x g (ix2 p 0) : EReal) = ∑ e, (k0_pay21 (F := Ideal) v0 w x g (ix2 p e) : EReal) := by
  pointwise [k0_pay23]

/-- The sum over three quarters, of the latents. -/
theorem pay30 (v25 : FVec Ideal S256x1 .f32) (v31 v35 : FVec Ideal S256x512 .f32) :
    (k0_pay30 (F := Ideal) v1 v25 v31 v35 w x g (ix2 p 0) : EReal)
      = v25 (ix2 p 0) + ∑ e, (k0_pay26 (F := Ideal) v31 v35 (ix2 p e) : EReal) + ∑ e, (k0_pay28 (F := Ideal) v1 w x g (ix2 p e) : EReal) := by
  pointwise [k0_pay30]

/-- The normalized rows, when the scratch holds the row `f` and the sums are its sum, of the latents. -/
theorem pay35 (v59 : FVec Ideal S256x1 .f32) (v61 v65 : FVec Ideal S256x512 .f32) (v79 : Vec Ideal S256x2048 .f32) (v92 v96 : Vec Ideal S1x2048 .f32)
    (f : Fin 2048 → EReal) (hf : ∀ l, v79 (ix2 p l) = f l) (hs : (v59 (ix2 p 0) : EReal) + ∑ e, (k0_pay33 (F := Ideal) v61 v65 g (ix2 p e) : EReal) = ∑ l, f l) (l : Fin 2048) :
    (k0_pay35 (F := Ideal) v59 v61 v65 g v79 v92 v96 (ix2 p l) : EReal) = norm f l * v92 (ix2 0 l) + v96 (ix2 0 l) := by
  pointwise [k0_pay35]
  simp only [hf, hs, Cert.OutCall.norm, mean, lit, inv2048, n2048, mul_inv _ (show (2048 : ℝ) ≠ 0 by norm_num)]

/-- The stored normalized rows, of the latents. -/
theorem pay36 (v59 : FVec Ideal S256x1 .f32) (v61 v65 : FVec Ideal S256x512 .f32) (v79 : Vec Ideal S256x2048 .f32) (v92 v96 : Vec Ideal S1x2048 .f32) (l : Fin 2048) :
    (k0_pay36 (F := Ideal) v59 v61 v65 g v79 v92 v96 (ix3 0 p l) : EReal) = k0_pay35 v59 v61 v65 g v79 v92 v96 (ix2 p l) := by
  pointwise [k0_pay36]

end Payloads
end Cert.LeadCall
-- ==== Proof.LeadContext.lean ====
module
public import proofs.«01_k».proof.Proof.LeadPay
public import proofs.«01_k».proof.Proof.Gen.LeadIdeal.Value

@[expose] public section
noncomputable section
namespace Cert.LeadCall
open Idealize.ShloMosaic Idealize.ShloMosaic.TcCoe Idealize.SL.Sem Cert.Blocks Cert.Consts Cert.LeadIdeal Cert.LeadIdeal.Gen
open Cert.OutCall (lit mean norm mixed norm_congr mixed_congr quarter cols sum_quarters)
open scoped BigOperators

/-! # What a grid point of the first layer's output writes -/

section Tile

/-- What a read of a buffer holding `x` returns: `x` where the rectangle points. -/
theorem block_read {s : Shape} {e : EltTy} {κ : Kind} {sp : Space} (mr : Memref sig κ sp s e) (h : mr.IsWhole) (x : s.Idx → Elt Ideal e)
    (r : Rect s) (j : r.shape.Idx) : View.readAt (Elt Ideal) mr.view r.toLoadRect (h.unread x) j = x (r.idx j) := by
  rw [View.readAt_eq_ld, h.read_unread]

/-- A row of the block before the normalization. -/
def blockRow (x0 : Vec Ideal S1x256x2048 .bf16) (x1 : Vec Ideal S2048x2048 .bf16) (xs : Vec Ideal S1x256x2048 .f32) (x4 : Vec Ideal S1x1x3x2048 .f32)
    (p : Fin 256) (l : Fin 2048) : EReal := mixed (xs (ix3 0 p l)) (x4 (ix4 0 0 2 l)) (fun k => x0 (ix3 0 p k)) fun k => x1 (ix2 k l)

section A
variable (c : Dev nD) (i : grid0.Coords) (arg2 : Memref sig .tc .vmem S1x256x2048 .bf16) (harg2 : arg2.IsWhole) (arg3 : Memref sig .tc .vmem S2048x2048 .bf16) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x1x3x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x1x3x2048 .f32) (harg9 : arg9.IsWhole) (arg10 : Memref sig .tc .vmem S1x256x2048 .f32) (harg10 : arg10.IsWhole) (arg11 : Memref sig .tc .vmem S1x256x2048 .bf16) (harg11 : arg11.IsWhole) (arg12 : Memref sig .tc .vmem S256x2048 .f32) (harg12 : arg12.IsWhole) (hc0 : cond0_0 i) (hc1 : ¬cond0_1 i)
    (x0 : Vec Ideal S1x256x2048 .bf16) (x1 : Vec Ideal S2048x2048 .bf16) (x2 : Vec Ideal S1x256x2048 .f32) (x3 : Vec Ideal S1x256x2048 .f32) (x4 : Vec Ideal S1x1x3x2048 .f32) (x5 : Vec Ideal S1x2048 .f32) (x6 : Vec Ideal S1x2048 .f32) (x7 : Vec Ideal S1x1x3x2048 .f32)

set_option maxHeartbeats 2000000 in
/-- The normalized rows that a grid point of the context writes, from the blocks that it reads. -/
theorem bodyA (p : Fin 256) (l : Fin 2048) :
    (kernelRun0_A.sl.r_7 (F := Ideal) c arg2 harg2 arg3 harg3 arg4 harg4 arg6 harg6 arg7 harg7 arg8 harg8 arg12 x0 x1 x2 x4 x5 x6 (ix2 p l) : EReal)
      = norm (blockRow x0 x1 x2 x4 p) l * x5 (ix2 0 l) + x6 (ix2 0 l) := by
  unfold kernelRun0_A.sl.r_7
  refine (pay18 _ _ _ _ _ _ _ _ (blockRow x0 x1 x2 x4 p) ?_ ?_ l).trans ?_
  · intro l
    obtain ⟨q, e, rfl⟩ := cols l
    unfold kernelRun0_A.sl.v79
    rw [View.readCov_eq_canon']
    show View.canon _ _ = _
    unfold kernelRun0_A.sl.HS0_4
    match q with
    | 0 =>
      rw [skip 1 (by simp <;> omega), skip 1 (by simp <;> omega), skip 1 (by simp <;> omega), hit (ix2 p e) (by intro a; match a with | 0 => simp | 1 => simp)]
      rw [pay5]
      refine (pay4 _ _ _ _ p e).trans (mixed_congr ?_ ?_ (fun k => ?_) fun k => ?_)
      · rw [block_read]
        show x2 _ = x2 _
        blk_ext [] <;> simp
      · rw [block_read]
        show x4 _ = x4 _
        blk_ext [] <;> simp
      · rw [block_read]
        show x0 _ = x0 _
        blk_ext [] <;> simp
      · rw [block_read]
        show x1 _ = x1 _
        blk_ext [] <;> simp
    | 1 =>
      rw [skip 1 (by simp <;> omega), skip 1 (by simp <;> omega), hit (ix2 p e) (by intro a; match a with | 0 => simp | 1 => simp)]
      rw [pay10]
      unfold kernelRun0_A.sl.r_2 kernelRun0_A.sl.r_3
      refine (pay9 _ _ _ _ p e).trans (mixed_congr ?_ ?_ (fun k => ?_) fun k => ?_)
      · rw [block_read]
        show x2 _ = x2 _
        blk_ext [] <;> simp
      · rw [block_read]
        show x4 _ = x4 _
        blk_ext [] <;> simp
      · rw [block_read]
        show x0 _ = x0 _
        blk_ext [] <;> simp
      · rw [block_read]
        show x1 _ = x1 _
        blk_ext [] <;> simp
    | 2 =>
      rw [skip 1 (by simp <;> omega), hit (ix2 p e) (by intro a; match a with | 0 => simp | 1 => simp)]
      rw [pay12]
      unfold kernelRun0_A.sl.r
      refine (pay11 _ _ _ _ p e).trans (mixed_congr ?_ ?_ (fun k => ?_) fun k => ?_)
      · rw [block_read]
        show x2 _ = x2 _
        blk_ext [] <;> simp
      · rw [block_read]
        show x4 _ = x4 _
        blk_ext [] <;> simp
      · rw [pay3, block_read]
        show x0 _ = x0 _
        blk_ext [] <;> simp
      · rw [block_read]
        show x1 _ = x1 _
        blk_ext [] <;> simp
    | 3 =>
      rw [hit (ix2 p e) (by intro a; match a with | 0 => simp | 1 => simp)]
      rw [pay17]
      unfold kernelRun0_A.sl.r_5 kernelRun0_A.sl.r_6 kernelRun0_A.sl.r
      refine (pay16 _ _ _ _ p e).trans (mixed_congr ?_ ?_ (fun k => ?_) fun k => ?_)
      · rw [block_read]
        show x2 _ = x2 _
        blk_ext [] <;> simp
      · rw [block_read]
        show x4 _ = x4 _
        blk_ext [] <;> simp
      · rw [pay3, block_read]
        show x0 _ = x0 _
        blk_ext [] <;> simp
      · rw [block_read]
        show x1 _ = x1 _
        blk_ext [] <;> simp
  · rw [sum_quarters]
    unfold kernelRun0_A.sl.r_4
    rw [pay13]
    refine congrArg₂ (· + ·) (congrArg₂ (· + ·) (congrArg₂ (· + ·) ?_ (Finset.sum_congr rfl fun e _ => ?_)) (Finset.sum_congr rfl fun e _ => ?_)) (Finset.sum_congr rfl fun e _ => ?_)
    · unfold kernelRun0_A.sl.r_1
      rw [pay6]
      refine Finset.sum_congr rfl fun e _ => ?_
      refine (pay4 _ _ _ _ p e).trans (mixed_congr ?_ ?_ (fun k => ?_) fun k => ?_)
      · rw [block_read]
        show x2 _ = x2 _
        blk_ext [] <;> simp
      · rw [block_read]
        show x4 _ = x4 _
        blk_ext [] <;> simp
      · rw [block_read]
        show x0 _ = x0 _
        blk_ext [] <;> simp
      · rw [block_read]
        show x1 _ = x1 _
        blk_ext [] <;> simp
    · unfold kernelRun0_A.sl.r_2 kernelRun0_A.sl.r_3
      refine (pay9 _ _ _ _ p e).trans (mixed_congr ?_ ?_ (fun k => ?_) fun k => ?_)
      · rw [block_read]
        show x2 _ = x2 _
        blk_ext [] <;> simp
      · rw [block_read]
        show x4 _ = x4 _
        blk_ext [] <;> simp
      · rw [block_read]
        show x0 _ = x0 _
        blk_ext [] <;> simp
      · rw [block_read]
        show x1 _ = x1 _
        blk_ext [] <;> simp
    · unfold kernelRun0_A.sl.r
      refine (pay11 _ _ _ _ p e).trans (mixed_congr ?_ ?_ (fun k => ?_) fun k => ?_)
      · rw [block_read]
        show x2 _ = x2 _
        blk_ext [] <;> simp
      · rw [block_read]
        show x4 _ = x4 _
        blk_ext [] <;> simp
      · rw [pay3, block_read]
        show x0 _ = x0 _
        blk_ext [] <;> simp
      · rw [block_read]
        show x1 _ = x1 _
        blk_ext [] <;> simp
    · unfold kernelRun0_A.sl.r_5 kernelRun0_A.sl.r_6 kernelRun0_A.sl.r
      refine (pay16 _ _ _ _ p e).trans (mixed_congr ?_ ?_ (fun k => ?_) fun k => ?_)
      · rw [block_read]
        show x2 _ = x2 _
        blk_ext [] <;> simp
      · rw [block_read]
        show x4 _ = x4 _
        blk_ext [] <;> simp
      · rw [pay3, block_read]
        show x0 _ = x0 _
        blk_ext [] <;> simp
      · rw [block_read]
        show x1 _ = x1 _
        blk_ext [] <;> simp
  · refine congrArg₂ (· + ·) (congrArg₂ (· * ·) rfl ((block_read _ _ _ _ _).trans (congrArg x5 ?_))) ((block_read _ _ _ _ _).trans (congrArg x6 ?_))
    · blk_ext [] <;> simp
    · blk_ext [] <;> simp

/-- The rows that a grid point of the context writes. -/
theorem tileXA (p : Fin 256) (l : Fin 2048) :
    View.canon (kernelRun0_A (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7).1 (ix3 0 p l)
      = norm (blockRow x0 x1 x2 x4 p) l * x5 (ix2 0 l) + x6 (ix2 0 l) := by
  unfold kernelRun0_A
  rw [hit (ix3 0 p l) (by intro a; match a with | 0 => rfl | 1 => simp | 2 => simp)]
  rw [pay19]
  exact bodyA c arg2 harg2 arg3 harg3 arg4 harg4 arg6 harg6 arg7 harg7 arg8 harg8 arg12 x0 x1 x2 x4 x5 x6 p l

/-- The next layer's input that a grid point of the context writes. -/
theorem tileUA (p : Fin 256) (l : Fin 2048) :
    View.canon (kernelRun0_A (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7).2.1 (ix3 0 p l)
      = (norm (blockRow x0 x1 x2 x4 p) l * x5 (ix2 0 l) + x6 (ix2 0 l)) * (lit 0x3F800000#32 + x7 (ix4 0 0 1 l)) + x7 (ix4 0 0 0 l) := by
  unfold kernelRun0_A
  rw [hit (ix3 0 p l) (by intro a; match a with | 0 => rfl | 1 => simp | 2 => simp)]
  refine (next1 p _ _ _ l).trans ?_
  rw [bodyA]
  unfold kernelRun0_A.sl.r_8 kernelRun0_A.sl.v109
  refine congrArg₂ (· + ·) (congrArg₂ (· * ·) rfl (congrArg₂ (· + ·) rfl ((block_read _ _ _ _ _).trans (congrArg x7 ?_)))) ((block_read _ _ _ _ _).trans (congrArg x7 ?_))
  · blk_ext [] <;> simp
  · blk_ext [] <;> simp

end A

end Tile
end Cert.LeadCall
-- ==== Proof.LeadLatents.lean ====
module
public import proofs.«01_k».proof.Proof.LeadContext
public import proofs.«01_k».proof.Proof.Gen.LeadIdeal.Value

@[expose] public section
noncomputable section
namespace Cert.LeadCall
open Idealize.ShloMosaic Idealize.ShloMosaic.TcCoe Idealize.SL.Sem Cert.Blocks Cert.Consts Cert.LeadIdeal Cert.LeadIdeal.Gen
open Cert.OutCall (lit mean norm mixed norm_congr mixed_congr quarter cols sum_quarters)
open scoped BigOperators

/-! # What a grid point of the first layer's output writes -/

section Tile

section B
variable (c : Dev nD) (i : grid0.Coords) (arg2 : Memref sig .tc .vmem S1x256x2048 .bf16) (harg2 : arg2.IsWhole) (arg3 : Memref sig .tc .vmem S2048x2048 .bf16) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x1x3x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x1x3x2048 .f32) (harg9 : arg9.IsWhole) (arg10 : Memref sig .tc .vmem S1x256x2048 .f32) (harg10 : arg10.IsWhole) (arg11 : Memref sig .tc .vmem S1x256x2048 .bf16) (harg11 : arg11.IsWhole) (arg12 : Memref sig .tc .vmem S256x2048 .f32) (harg12 : arg12.IsWhole) (hc0 : ¬cond0_0 i) (hc1 : cond0_1 i)
    (x0 : Vec Ideal S1x256x2048 .bf16) (x1 : Vec Ideal S2048x2048 .bf16) (x2 : Vec Ideal S1x256x2048 .f32) (x3 : Vec Ideal S1x256x2048 .f32) (x4 : Vec Ideal S1x1x3x2048 .f32) (x5 : Vec Ideal S1x2048 .f32) (x6 : Vec Ideal S1x2048 .f32) (x7 : Vec Ideal S1x1x3x2048 .f32)

set_option maxHeartbeats 2000000 in
/-- The normalized rows that a grid point of the latents writes, from the blocks that it reads. -/
theorem bodyB (p : Fin 256) (l : Fin 2048) :
    (kernelRun0_B.sl.r_7 (F := Ideal) c arg2 harg2 arg3 harg3 arg5 harg5 arg6 harg6 arg7 harg7 arg8 harg8 arg12 x0 x1 x3 x4 x5 x6 (ix2 p l) : EReal)
      = norm (blockRow x0 x1 x3 x4 p) l * x5 (ix2 0 l) + x6 (ix2 0 l) := by
  unfold kernelRun0_B.sl.r_7
  refine (pay35 _ _ _ _ _ _ _ _ (blockRow x0 x1 x3 x4 p) ?_ ?_ l).trans ?_
  · intro l
    obtain ⟨q, e, rfl⟩ := cols l
    unfold kernelRun0_B.sl.v79
    rw [View.readCov_eq_canon']
    show View.canon _ _ = _
    unfold kernelRun0_B.sl.HS0_4
    match q with
    | 0 =>
      rw [skip 1 (by simp <;> omega), skip 1 (by simp <;> omega), skip 1 (by simp <;> omega), hit (ix2 p e) (by intro a; match a with | 0 => simp | 1 => simp)]
      rw [pay22]
      refine (pay21 _ _ _ _ p e).trans (mixed_congr ?_ ?_ (fun k => ?_) fun k => ?_)
      · rw [block_read]
        show x3 _ = x3 _
        blk_ext [] <;> simp
      · rw [block_read]
        show x4 _ = x4 _
        blk_ext [] <;> simp
      · rw [block_read]
        show x0 _ = x0 _
        blk_ext [] <;> simp
      · rw [block_read]
        show x1 _ = x1 _
        blk_ext [] <;> simp
    | 1 =>
      rw [skip 1 (by simp <;> omega), skip 1 (by simp <;> omega), hit (ix2 p e) (by intro a; match a with | 0 => simp | 1 => simp)]
      rw [pay27]
      unfold kernelRun0_B.sl.r_2 kernelRun0_B.sl.r_3
      refine (pay26 _ _ _ _ p e).trans (mixed_congr ?_ ?_ (fun k => ?_) fun k => ?_)
      · rw [block_read]
        show x3 _ = x3 _
        blk_ext [] <;> simp
      · rw [block_read]
        show x4 _ = x4 _
        blk_ext [] <;> simp
      · rw [block_read]
        show x0 _ = x0 _
        blk_ext [] <;> simp
      · rw [block_read]
        show x1 _ = x1 _
        blk_ext [] <;> simp
    | 2 =>
      rw [skip 1 (by simp <;> omega), hit (ix2 p e) (by intro a; match a with | 0 => simp | 1 => simp)]
      rw [pay29]
      unfold kernelRun0_B.sl.r
      refine (pay28 _ _ _ _ p e).trans (mixed_congr ?_ ?_ (fun k => ?_) fun k => ?_)
      · rw [block_read]
        show x3 _ = x3 _
        blk_ext [] <;> simp
      · rw [block_read]
        show x4 _ = x4 _
        blk_ext [] <;> simp
      · rw [pay20, block_read]
        show x0 _ = x0 _
        blk_ext [] <;> simp
      · rw [block_read]
        show x1 _ = x1 _
        blk_ext [] <;> simp
    | 3 =>
      rw [hit (ix2 p e) (by intro a; match a with | 0 => simp | 1 => simp)]
      rw [pay34]
      unfold kernelRun0_B.sl.r_5 kernelRun0_B.sl.r_6 kernelRun0_B.sl.r
      refine (pay33 _ _ _ _ p e).trans (mixed_congr ?_ ?_ (fun k => ?_) fun k => ?_)
      · rw [block_read]
        show x3 _ = x3 _
        blk_ext [] <;> simp
      · rw [block_read]
        show x4 _ = x4 _
        blk_ext [] <;> simp
      · rw [pay20, block_read]
        show x0 _ = x0 _
        blk_ext [] <;> simp
      · rw [block_read]
        show x1 _ = x1 _
        blk_ext [] <;> simp
  · rw [sum_quarters]
    unfold kernelRun0_B.sl.r_4
    rw [pay30]
    refine congrArg₂ (· + ·) (congrArg₂ (· + ·) (congrArg₂ (· + ·) ?_ (Finset.sum_congr rfl fun e _ => ?_)) (Finset.sum_congr rfl fun e _ => ?_)) (Finset.sum_congr rfl fun e _ => ?_)
    · unfold kernelRun0_B.sl.r_1
      rw [pay23]
      refine Finset.sum_congr rfl fun e _ => ?_
      refine (pay21 _ _ _ _ p e).trans (mixed_congr ?_ ?_ (fun k => ?_) fun k => ?_)
      · rw [block_read]
        show x3 _ = x3 _
        blk_ext [] <;> simp
      · rw [block_read]
        show x4 _ = x4 _
        blk_ext [] <;> simp
      · rw [block_read]
        show x0 _ = x0 _
        blk_ext [] <;> simp
      · rw [block_read]
        show x1 _ = x1 _
        blk_ext [] <;> simp
    · unfold kernelRun0_B.sl.r_2 kernelRun0_B.sl.r_3
      refine (pay26 _ _ _ _ p e).trans (mixed_congr ?_ ?_ (fun k => ?_) fun k => ?_)
      · rw [block_read]
        show x3 _ = x3 _
        blk_ext [] <;> simp
      · rw [block_read]
        show x4 _ = x4 _
        blk_ext [] <;> simp
      · rw [block_read]
        show x0 _ = x0 _
        blk_ext [] <;> simp
      · rw [block_read]
        show x1 _ = x1 _
        blk_ext [] <;> simp
    · unfold kernelRun0_B.sl.r
      refine (pay28 _ _ _ _ p e).trans (mixed_congr ?_ ?_ (fun k => ?_) fun k => ?_)
      · rw [block_read]
        show x3 _ = x3 _
        blk_ext [] <;> simp
      · rw [block_read]
        show x4 _ = x4 _
        blk_ext [] <;> simp
      · rw [pay20, block_read]
        show x0 _ = x0 _
        blk_ext [] <;> simp
      · rw [block_read]
        show x1 _ = x1 _
        blk_ext [] <;> simp
    · unfold kernelRun0_B.sl.r_5 kernelRun0_B.sl.r_6 kernelRun0_B.sl.r
      refine (pay33 _ _ _ _ p e).trans (mixed_congr ?_ ?_ (fun k => ?_) fun k => ?_)
      · rw [block_read]
        show x3 _ = x3 _
        blk_ext [] <;> simp
      · rw [block_read]
        show x4 _ = x4 _
        blk_ext [] <;> simp
      · rw [pay20, block_read]
        show x0 _ = x0 _
        blk_ext [] <;> simp
      · rw [block_read]
        show x1 _ = x1 _
        blk_ext [] <;> simp
  · refine congrArg₂ (· + ·) (congrArg₂ (· * ·) rfl ((block_read _ _ _ _ _).trans (congrArg x5 ?_))) ((block_read _ _ _ _ _).trans (congrArg x6 ?_))
    · blk_ext [] <;> simp
    · blk_ext [] <;> simp

/-- The rows that a grid point of the latents writes. -/
theorem tileXB (p : Fin 256) (l : Fin 2048) :
    View.canon (kernelRun0_B (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7).1 (ix3 0 p l)
      = norm (blockRow x0 x1 x3 x4 p) l * x5 (ix2 0 l) + x6 (ix2 0 l) := by
  unfold kernelRun0_B
  rw [hit (ix3 0 p l) (by intro a; match a with | 0 => rfl | 1 => simp | 2 => simp)]
  rw [pay36]
  exact bodyB c arg2 harg2 arg3 harg3 arg5 harg5 arg6 harg6 arg7 harg7 arg8 harg8 arg12 x0 x1 x3 x4 x5 x6 p l

/-- The next layer's input that a grid point of the latents writes. -/
theorem tileUB (p : Fin 256) (l : Fin 2048) :
    View.canon (kernelRun0_B (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7).2.1 (ix3 0 p l)
      = (norm (blockRow x0 x1 x3 x4 p) l * x5 (ix2 0 l) + x6 (ix2 0 l)) * (lit 0x3F800000#32 + x7 (ix4 0 0 1 l)) + x7 (ix4 0 0 0 l) := by
  unfold kernelRun0_B
  rw [hit (ix3 0 p l) (by intro a; match a with | 0 => rfl | 1 => simp | 2 => simp)]
  refine (next2 p _ _ _ l).trans ?_
  rw [bodyB]
  unfold kernelRun0_B.sl.r_8 kernelRun0_B.sl.v109
  refine congrArg₂ (· + ·) (congrArg₂ (· * ·) rfl (congrArg₂ (· + ·) rfl ((block_read _ _ _ _ _).trans (congrArg x7 ?_)))) ((block_read _ _ _ _ _).trans (congrArg x7 ?_))
  · blk_ext [] <;> simp
  · blk_ext [] <;> simp

end B

end Tile
end Cert.LeadCall
-- ==== Proof.LeadCall.lean ====
module
public import proofs.«01_k».proof.Proof.LeadLatents
public import proofs.«01_k».proof.Proof.Gen.LeadReferenceIdeal.Run
public import proofs.«01_k».proof.Proof.Gen.LeadReferenceIdeal.Read

@[expose] public section
noncomputable section
namespace Cert.LeadCall
open Idealize.ShloMosaic Idealize.ShloMosaic.TcCoe Idealize.SL.Sem Cert.Blocks Cert.Consts
open Cert.OutCall (lit mean norm mixed norm_congr mixed_congr latent)
open scoped BigOperators

/-! # The first layer's output -/

/-- A row's residual: the context's first 256 rows, then the latents'. -/
def residual (ctx : (⟨3, ![2, 256, 2048]⟩ : Shape).Idx → EReal) (x : (⟨3, ![2, 8192, 2048]⟩ : Shape).Idx → EReal) (b : Fin 2) (t : Fin 8448) (l : Fin 2048) : EReal :=
  if h : t.val < 256 then ctx (ix3 b ⟨t.val, h⟩ l) else x (ix3 b ⟨t.val - 256, by omega⟩ l)

/-- A row's stream: 0 the context's, 1 the latents'. -/
def stream (t : Fin 8448) : Fin 2 := if t.val < 256 then 0 else 1

/-- A row before the normalization, from its residual and its stream. -/
def row (m : (⟨3, ![2, 8448, 2048]⟩ : Shape).Idx → EReal) (w : (⟨2, ![2048, 2048]⟩ : Shape).Idx → EReal) (r : Fin 2048 → EReal) (mod : (⟨4, ![2, 2, 3, 2048]⟩ : Shape).Idx → EReal) (b s : Fin 2) (t : Fin 8448) (l : Fin 2048) : EReal :=
  mixed (r l) (mod (ix4 b s 2 l)) (fun k => m (ix3 b t k)) fun k => w (ix2 k l)

/-- The call's first result: every row normalized, scaled and shifted. -/
def outX (m : (⟨3, ![2, 8448, 2048]⟩ : Shape).Idx → EReal) (w : (⟨2, ![2048, 2048]⟩ : Shape).Idx → EReal) (ctx : (⟨3, ![2, 256, 2048]⟩ : Shape).Idx → EReal)
    (x : (⟨3, ![2, 8192, 2048]⟩ : Shape).Idx → EReal) (mod : (⟨4, ![2, 2, 3, 2048]⟩ : Shape).Idx → EReal) (lw lb : (⟨1, ![2048]⟩ : Shape).Idx → EReal) : (⟨3, ![2, 8448, 2048]⟩ : Shape).Idx → EReal := fun i =>
  norm (row m w (residual ctx x (i 0) (i 1)) mod (i 0) (stream (i 1)) (i 1)) (i 2) * lw (ix1 (i 2)) + lb (ix1 (i 2))

/-- The call's second result: the first one modulated for the next layer. -/
def outU (m : (⟨3, ![2, 8448, 2048]⟩ : Shape).Idx → EReal) (w : (⟨2, ![2048, 2048]⟩ : Shape).Idx → EReal) (ctx : (⟨3, ![2, 256, 2048]⟩ : Shape).Idx → EReal)
    (x : (⟨3, ![2, 8192, 2048]⟩ : Shape).Idx → EReal) (mod : (⟨4, ![2, 2, 3, 2048]⟩ : Shape).Idx → EReal) (lw lb : (⟨1, ![2048]⟩ : Shape).Idx → EReal)
    (next : (⟨4, ![2, 2, 3, 2048]⟩ : Shape).Idx → EReal) : (⟨3, ![2, 8448, 2048]⟩ : Shape).Idx → EReal := fun i =>
  outX m w ctx x mod lw lb i * (lit 0x3F800000#32 + next (ix4 (i 0) (stream (i 1)) 1 (i 2))) + next (ix4 (i 0) (stream (i 1)) 0 (i 2))

section Spec
variable (m : (⟨3, ![2, 8448, 2048]⟩ : Shape).Idx → EReal) (w : (⟨2, ![2048, 2048]⟩ : Shape).Idx → EReal) (ctx : (⟨3, ![2, 256, 2048]⟩ : Shape).Idx → EReal)
    (x : (⟨3, ![2, 8192, 2048]⟩ : Shape).Idx → EReal) (mod : (⟨4, ![2, 2, 3, 2048]⟩ : Shape).Idx → EReal) (lw lb : (⟨1, ![2048]⟩ : Shape).Idx → EReal)
    (next : (⟨4, ![2, 2, 3, 2048]⟩ : Shape).Idx → EReal) (b : Fin 2) (t : Fin 8448) (l : Fin 2048)

/-- The first result on the context's rows. -/
theorem outX_context (h : t.val < 256) : outX m w ctx x mod lw lb (ix3 b t l)
    = norm (row m w (fun k => ctx (ix3 b ⟨t.val, h⟩ k)) mod b 0 t) l * lw (ix1 l) + lb (ix1 l) := by
  show norm (row m w (residual ctx x b t) mod b (stream t) t) l * _ + _ = _
  have e1 : residual ctx x b t = fun k => ctx (ix3 b ⟨t.val, h⟩ k) := by funext k; exact dif_pos h
  have e2 : stream t = 0 := if_pos h
  rw [e1, e2]
  rfl

/-- The first result on the latents' rows. -/
theorem outX_latents (h : ¬t.val < 256) : outX m w ctx x mod lw lb (ix3 b t l)
    = norm (row m w (fun k => x (ix3 b ⟨t.val - 256, by omega⟩ k)) mod b 1 t) l * lw (ix1 l) + lb (ix1 l) := by
  show norm (row m w (residual ctx x b t) mod b (stream t) t) l * _ + _ = _
  have e1 : residual ctx x b t = fun k => x (ix3 b ⟨t.val - 256, by omega⟩ k) := by funext k; exact dif_neg h
  have e2 : stream t = 1 := if_neg h
  rw [e1, e2]
  rfl

/-- The second result on the context's rows. -/
theorem outU_context (h : t.val < 256) : outU m w ctx x mod lw lb next (ix3 b t l)
    = outX m w ctx x mod lw lb (ix3 b t l) * (lit 0x3F800000#32 + next (ix4 b 0 1 l)) + next (ix4 b 0 0 l) := by
  show outX m w ctx x mod lw lb (ix3 b t l) * (_ + next (ix4 b (stream t) 1 l)) + next (ix4 b (stream t) 0 l) = _
  have e2 : stream t = 0 := if_pos h
  rw [e2]

/-- The second result on the latents' rows. -/
theorem outU_latents (h : ¬t.val < 256) : outU m w ctx x mod lw lb next (ix3 b t l)
    = outX m w ctx x mod lw lb (ix3 b t l) * (lit 0x3F800000#32 + next (ix4 b 1 1 l)) + next (ix4 b 1 0 l) := by
  show outX m w ctx x mod lw lb (ix3 b t l) * (_ + next (ix4 b (stream t) 1 l)) + next (ix4 b (stream t) 0 l) = _
  have e2 : stream t = 1 := if_neg h
  rw [e2]

end Spec

section Kernel
open Cert.LeadIdeal Cert.LeadIdeal.Gen
variable (m : (ℓ : Loc nD τ sig) → Buf (Elt Ideal) ℓ) (c : Dev nD)

/-- The windows' block indices at a point of the context: row tile 0 of batch `t / 33`. -/
theorem idxA : ∀ t : Fin cfg0.N, t.val % 33 = 0 → win0_0.index t = ![t.val / 33, 0, 0] ∧ win0_1.index t = ![0, 0]
    ∧ win0_2.index t = ![t.val / 33, 0, 0] ∧ win0_4.index t = ![t.val / 33, 0, 0, 0] ∧ win0_5.index t = ![0, 0] ∧ win0_6.index t = ![0, 0]
    ∧ win0_7.index t = ![t.val / 33, 0, 0, 0] ∧ win0_8.index t = ![t.val / 33, 0, 0] ∧ win0_9.index t = ![t.val / 33, 0, 0] :=
  (by decide +kernel : ∀ t : Fin grid0.N, _)

/-- The windows' block indices at a point of the latents: row tile `t % 33` of batch `t / 33`, the residual's tiles counted from the latents. -/
theorem idxB : ∀ t : Fin cfg0.N, ¬t.val % 33 = 0 → win0_0.index t = ![t.val / 33, t.val % 33, 0] ∧ win0_1.index t = ![0, 0]
    ∧ win0_3.index t = ![t.val / 33, t.val % 33 - 1, 0] ∧ win0_4.index t = ![t.val / 33, 1, 0, 0] ∧ win0_5.index t = ![0, 0]
    ∧ win0_6.index t = ![0, 0] ∧ win0_7.index t = ![t.val / 33, 1, 0, 0] ∧ win0_8.index t = ![t.val / 33, t.val % 33, 0]
    ∧ win0_9.index t = ![t.val / 33, t.val % 33, 0] :=
  (by decide +kernel : ∀ t : Fin grid0.N, _)

/-- The scale as the kernel finds it. -/
theorem scale_in (l : Fin 2048) : V m c main_v0 (ix2 0 l) = m ((c.tc : Thread nD τ).loc main_arg5) (ix1 l) := by
  unfold_abbrev_sides
  after_results
  show shapeCast S1x2048 _ _ _ = _
  pointwise []

/-- The shift as the kernel finds it. -/
theorem shift_in (l : Fin 2048) : V m c main_v1 (ix2 0 l) = m ((c.tc : Thread nD τ).loc main_arg6) (ix1 l) := by
  unfold_abbrev_sides
  after_results
  show shapeCast S1x2048 _ _ _ = _
  pointwise []

/-- A row that a point of the context writes is the first result's. -/
theorem rowsA (t : Fin cfg0.N) (h0 : t.val % 33 = 0) (p : Fin 256) (l : Fin 2048) :
    norm (blockRow (iblk m c 0 t) (iblk m c 1 t) (iblk m c 2 t) (iblk m c 4 t) p) l * iblk m c 5 t (ix2 0 l) + iblk m c 6 t (ix2 0 l)
      = outX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ix3 ⟨t.val / 33, by have ht : t.val < 66 := t.isLt; omega⟩ ⟨p.val, by omega⟩ l) := by
  have ht : t.val < 66 := t.isLt
  have h := idxA t h0
  rw [outX_context _ _ _ _ _ _ _ _ _ _ (by show p.val < 256; omega)]
  have e5 : iblk m c 5 t (ix2 0 l) = V m c main_v0 (ix2 0 l) := by
    show V m c main_v0 _ = V m c main_v0 _
    blk_ext [h]
  have e6 : iblk m c 6 t (ix2 0 l) = V m c main_v1 (ix2 0 l) := by
    show V m c main_v1 _ = V m c main_v1 _
    blk_ext [h]
  rw [e5, e6, scale_in, shift_in]
  refine congrArg₂ (· + ·) (congrArg₂ (· * ·) (norm_congr (fun k => ?_) _) rfl) rfl
  unfold blockRow row
  refine mixed_congr ?_ ?_ (fun k => ?_) fun k => ?_
  · blk_ext [iblk, V, h]
  · blk_ext [iblk, V, h]
  · blk_ext [iblk, V, h]
  · blk_ext [iblk, V, h]

/-- The next layer's input that a point of the context writes is the second result's. -/
theorem nextA (t : Fin cfg0.N) (h0 : t.val % 33 = 0) (p : Fin 256) (l : Fin 2048) :
    (norm (blockRow (iblk m c 0 t) (iblk m c 1 t) (iblk m c 2 t) (iblk m c 4 t) p) l * iblk m c 5 t (ix2 0 l) + iblk m c 6 t (ix2 0 l))
        * (lit 0x3F800000#32 + iblk m c 7 t (ix4 0 0 1 l)) + iblk m c 7 t (ix4 0 0 0 l)
      = outU (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (ix3 ⟨t.val / 33, by have ht : t.val < 66 := t.isLt; omega⟩ ⟨p.val, by omega⟩ l) := by
  have ht : t.val < 66 := t.isLt
  have h := idxA t h0
  rw [rowsA m c t h0 p l, outU_context _ _ _ _ _ _ _ _ _ _ _ (by show p.val < 256; omega)]
  refine congrArg₂ (· + ·) (congrArg₂ (· * ·) rfl (congrArg₂ (· + ·) rfl ?_)) ?_
  · blk_ext [iblk, V, h]
  · blk_ext [iblk, V, h]

/-- A row that a point of the latents writes is the first result's. -/
theorem rowsB (t : Fin cfg0.N) (h0 : ¬t.val % 33 = 0) (p : Fin 256) (l : Fin 2048) :
    norm (blockRow (iblk m c 0 t) (iblk m c 1 t) (iblk m c 3 t) (iblk m c 4 t) p) l * iblk m c 5 t (ix2 0 l) + iblk m c 6 t (ix2 0 l)
      = outX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ix3 ⟨t.val / 33, by have ht : t.val < 66 := t.isLt; omega⟩ ⟨t.val % 33 * 256 + p.val, by have ht : t.val < 66 := t.isLt; omega⟩ l) := by
  have ht : t.val < 66 := t.isLt
  have h := idxB t h0
  rw [outX_latents _ _ _ _ _ _ _ _ _ _ (by show ¬t.val % 33 * 256 + p.val < 256; omega)]
  have e5 : iblk m c 5 t (ix2 0 l) = V m c main_v0 (ix2 0 l) := by
    show V m c main_v0 _ = V m c main_v0 _
    blk_ext [h]
  have e6 : iblk m c 6 t (ix2 0 l) = V m c main_v1 (ix2 0 l) := by
    show V m c main_v1 _ = V m c main_v1 _
    blk_ext [h]
  rw [e5, e6, scale_in, shift_in]
  refine congrArg₂ (· + ·) (congrArg₂ (· * ·) (norm_congr (fun k => ?_) _) rfl) rfl
  unfold blockRow row
  refine mixed_congr ?_ ?_ (fun k => ?_) fun k => ?_
  · blk_ext [iblk, V, h]
  · blk_ext [iblk, V, h]
  · blk_ext [iblk, V, h]
  · blk_ext [iblk, V, h]

/-- The next layer's input that a point of the latents writes is the second result's. -/
theorem nextB (t : Fin cfg0.N) (h0 : ¬t.val % 33 = 0) (p : Fin 256) (l : Fin 2048) :
    (norm (blockRow (iblk m c 0 t) (iblk m c 1 t) (iblk m c 3 t) (iblk m c 4 t) p) l * iblk m c 5 t (ix2 0 l) + iblk m c 6 t (ix2 0 l))
        * (lit 0x3F800000#32 + iblk m c 7 t (ix4 0 0 1 l)) + iblk m c 7 t (ix4 0 0 0 l)
      = outU (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (ix3 ⟨t.val / 33, by have ht : t.val < 66 := t.isLt; omega⟩ ⟨t.val % 33 * 256 + p.val, by have ht : t.val < 66 := t.isLt; omega⟩ l) := by
  have ht : t.val < 66 := t.isLt
  have h := idxB t h0
  rw [rowsB m c t h0 p l, outU_latents _ _ _ _ _ _ _ _ _ _ _ (by show ¬t.val % 33 * 256 + p.val < 256; omega)]
  refine congrArg₂ (· + ·) (congrArg₂ (· * ·) rfl (congrArg₂ (· + ·) rfl ?_)) ?_
  · blk_ext [iblk, V, h]
  · blk_ext [iblk, V, h]

set_option maxHeartbeats 2000000 in
/-- The first result array after the run. -/
theorem finalX : (dats m 0 c).arrAt 8 cfg0.N = outX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 8 _ (by decide +kernel) fun t hf y => ?_
  blk_simp
  rw [after0_8]
  obtain ⟨a, p, l, rfl⟩ := eq_ix3 (a := 1) (b := 256) (c := 2048) y
  obtain rfl : a = 0 := Fin.ext (by omega)
  have ht : t.val < 66 := t.isLt
  by_cases h0 : t.val % 33 = 0
  · have h := idxA t h0
    have e : (((cfg0.win 8).blk t).view.emb (ix3 0 p l) : S2x8448x2048.Idx) = ix3 ⟨t.val / 33, by omega⟩ ⟨p.val, by omega⟩ l := by
      blk_ext [h]
    rw [e, outsAt0_A m c t h0 (by omega)]
    dsimp only
    unfold out0_A_8
    rw [View.read_writes_junk_eq_canon]
    refine (tileXA ..).trans ?_
    exact rowsA m c t h0 p l
  · have h := idxB t h0
    have e : (((cfg0.win 8).blk t).view.emb (ix3 0 p l) : S2x8448x2048.Idx) = ix3 ⟨t.val / 33, by omega⟩ ⟨t.val % 33 * 256 + p.val, by omega⟩ l := by
      blk_ext [h]
    rw [e, outsAt0_B m c t h0 (by omega)]
    dsimp only
    unfold out0_B_8
    rw [View.read_writes_junk_eq_canon]
    refine (tileXB ..).trans ?_
    exact rowsB m c t h0 p l

set_option maxHeartbeats 2000000 in
/-- The second result array after the run. -/
theorem finalU : (dats m 0 c).arrAt 9 cfg0.N = outU (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (dats m 0 c).arrAt_eq_of_covers 9 _ (by decide +kernel) fun t hf y => ?_
  blk_simp
  rw [after0_9]
  obtain ⟨a, p, l, rfl⟩ := eq_ix3 (a := 1) (b := 256) (c := 2048) y
  obtain rfl : a = 0 := Fin.ext (by omega)
  have ht : t.val < 66 := t.isLt
  by_cases h0 : t.val % 33 = 0
  · have h := idxA t h0
    have e : (((cfg0.win 9).blk t).view.emb (ix3 0 p l) : S2x8448x2048.Idx) = ix3 ⟨t.val / 33, by omega⟩ ⟨p.val, by omega⟩ l := by
      blk_ext [h]
    rw [e, outsAt0_A m c t h0 (by omega)]
    dsimp only
    unfold out0_A_9
    rw [View.read_writes_junk_eq_canon]
    refine (tileUA ..).trans ?_
    exact nextA m c t h0 p l
  · have h := idxB t h0
    have e : (((cfg0.win 9).blk t).view.emb (ix3 0 p l) : S2x8448x2048.Idx) = ix3 ⟨t.val / 33, by omega⟩ ⟨t.val % 33 * 256 + p.val, by omega⟩ l := by
      blk_ext [h]
    rw [e, outsAt0_B m c t h0 (by omega)]
    dsimp only
    unfold out0_B_9
    rw [View.read_writes_junk_eq_canon]
    refine (tileUB ..).trans ?_
    exact nextB m c t h0 p l

end Kernel

section Reference
open Cert.LeadReferenceIdeal Cert.LeadReferenceIdeal.Read

variable (m : (⟨3, ![2, 8448, 2048]⟩ : Shape).Idx → EReal) (w : (⟨2, ![2048, 2048]⟩ : Shape).Idx → EReal) (ctx : (⟨3, ![2, 256, 2048]⟩ : Shape).Idx → EReal)
    (x : (⟨3, ![2, 8192, 2048]⟩ : Shape).Idx → EReal) (mod : (⟨4, ![2, 2, 3, 2048]⟩ : Shape).Idx → EReal) (lw lb : (⟨1, ![2048]⟩ : Shape).Idx → EReal)
    (next : (⟨4, ![2, 2, 3, 2048]⟩ : Shape).Idx → EReal)

/-- A context's row among all rows. -/
def context (t : Fin 256) : Fin 8448 := ⟨t, by omega⟩

/-- The reference's rows of the context before the normalization. -/
theorem row_context (b : Fin 2) (t : Fin 256) (l : Fin 2048) : val_main_v15 (F := Ideal) m w ctx mod (ix3 b t l) = row m w (fun k => ctx (ix3 b t k)) mod b 0 (context t) l := by
  rw [val_main_v15_apply, val_main_v9_apply, val_main_v8_apply, val_main_cst_apply, val_main_v14_apply, val_main_v13_apply, val_main_v12_apply, val_main_v11_apply, val_main_v10_apply, val_main_v2_apply, val_main_v1_apply, val_main_v7_apply]
  refine mixed_congr ?_ ?_ (fun k => ?_) fun k => ?_
  · rfl
  · show mod _ = mod _
    blk_ext []
  · rw [val_main_v5_apply, val_main_v0_apply]
    show m _ = m _
    blk_ext [context]
  · rw [val_main_v6_apply]
    show w _ = w _
    blk_ext []

/-- The reference's mean of a row of the context. -/
theorem mean_context (b : Fin 2) (t : Fin 256) : val_main_v19 (F := Ideal) m w ctx mod (ix3 b t 0) = mean (row m w (fun k => ctx (ix3 b t k)) mod b 0 (context t)) := by
  rw [val_main_v19_apply, val_main_v18_apply, val_main_cst_1_apply, val_main_v17_apply, val_main_v16_apply, val_main_cst_0_apply]
  show Ideal.div (Ideal.ofBits .f32 0x00000000#32 + _) (lit 0x45000000#32) = _
  rw [show (Ideal.ofBits .f32 0x00000000#32 : EReal) = 0 from Ideal.ofBits_zero_f32, zero_add]
  refine congrArg (fun x => Ideal.div x _) (Finset.sum_congr rfl fun e _ => ?_)
  refine Eq.trans ?_ (row_context m w ctx mod b t e)
  show val_main_v15 (F := Ideal) m w ctx mod _ = val_main_v15 (F := Ideal) m w ctx mod _
  blk_ext []

/-- An entry of a row of the context, the mean taken away. -/
theorem centred_context (b : Fin 2) (t : Fin 256) (l : Fin 2048) : val_main_v21 (F := Ideal) m w ctx mod (ix3 b t l) = row m w (fun k => ctx (ix3 b t k)) mod b 0 (context t) l - mean (row m w (fun k => ctx (ix3 b t k)) mod b 0 (context t)) := by
  rw [val_main_v21_apply, val_main_v20_apply, row_context, ← mean_context]
  refine congrArg (fun z : EReal => row m w (fun k => ctx (ix3 b t k)) mod b 0 (context t) l - z) ?_
  show val_main_v19 (F := Ideal) m w ctx mod _ = val_main_v19 (F := Ideal) m w ctx mod _
  blk_ext []

/-- The reference's variance of a row of the context. -/
theorem var_context (b : Fin 2) (t : Fin 256) : val_main_v26 (F := Ideal) m w ctx mod (ix3 b t 0)
    = mean (fun k => (row m w (fun k => ctx (ix3 b t k)) mod b 0 (context t) k - mean (row m w (fun k => ctx (ix3 b t k)) mod b 0 (context t))) * (row m w (fun k => ctx (ix3 b t k)) mod b 0 (context t) k - mean (row m w (fun k => ctx (ix3 b t k)) mod b 0 (context t)))) := by
  rw [val_main_v26_apply, val_main_v25_apply, val_main_cst_3_apply, val_main_v24_apply, val_main_v23_apply, val_main_cst_2_apply]
  show Ideal.div (Ideal.ofBits .f32 0x00000000#32 + _) (lit 0x45000000#32) = _
  rw [show (Ideal.ofBits .f32 0x00000000#32 : EReal) = 0 from Ideal.ofBits_zero_f32, zero_add]
  refine congrArg (fun x => Ideal.div x _) (Finset.sum_congr rfl fun e _ => ?_)
  rw [val_main_v22_apply]
  have e1 : idx_main_v23 (idx_main_v24 (ix3 b t 0)) e = ix3 b t e := by blk_ext []
  rw [e1, centred_context]
  rfl

/-- The reference's normalized rows of the context. -/
theorem normed_context (b : Fin 2) (t : Fin 256) (l : Fin 2048) : val_main_v39 (F := Ideal) m w ctx mod lw lb (ix3 b t l)
    = norm (row m w (fun k => ctx (ix3 b t k)) mod b 0 (context t)) l * lw (ix1 l) + lb (ix1 l) := by
  have e1 : val_main_v28 (F := Ideal) m w ctx mod = val_main_v21 (F := Ideal) m w ctx mod := rfl
  rw [val_main_v39_apply, val_main_v36_apply, val_main_v33_apply, e1, centred_context, val_main_v32_apply, val_main_v31_apply, val_main_v30_apply,
    val_main_v29_apply, val_main_cst_4_apply, val_main_v35_apply, val_main_v34_apply, val_main_v38_apply, val_main_v37_apply]
  have e2 : idx_main_v32 (ix3 b t l) = ix3 b t 0 := by blk_ext []
  rw [e2, var_context]
  refine congrArg₂ (· + ·) (congrArg₂ (· * ·) rfl ?_) ?_
  · show lw _ = lw _
    blk_ext []
  · show lb _ = lb _
    blk_ext []

/-- The reference's next layer's input on the context's rows. -/
theorem next_context (b : Fin 2) (t : Fin 256) (l : Fin 2048) : val_main_v51 (F := Ideal) m w ctx mod lw lb next (ix3 b t l)
    = val_main_v39 (F := Ideal) m w ctx mod lw lb (ix3 b t l) * (lit 0x3F800000#32 + next (ix4 b 0 1 l)) + next (ix4 b 0 0 l) := by
  rw [val_main_v51_apply, val_main_v46_apply, val_main_v45_apply, val_main_v44_apply, val_main_v43_apply, val_main_cst_5_apply, val_main_v42_apply, val_main_v41_apply, val_main_v40_apply, val_main_v4_apply, val_main_v3_apply,
    val_main_v50_apply, val_main_v49_apply, val_main_v48_apply, val_main_v47_apply, val_main_v4_apply, val_main_v3_apply]
  refine congrArg₂ (· + ·) (congrArg₂ (· * ·) rfl (congrArg₂ (· + ·) rfl ?_)) ?_
  · show next _ = next _
    blk_ext []
  · show next _ = next _
    blk_ext []

/-- The reference's rows of the latents before the normalization. -/
theorem row_latents (b : Fin 2) (t : Fin 8192) (l : Fin 2048) : val_main_v67 (F := Ideal) m w x mod (ix3 b t l) = row m w (fun k => x (ix3 b t k)) mod b 1 (latent t) l := by
  rw [val_main_v67_apply, val_main_v61_apply, val_main_v60_apply, val_main_cst_6_apply, val_main_v66_apply, val_main_v65_apply, val_main_v64_apply, val_main_v63_apply, val_main_v62_apply, val_main_v54_apply, val_main_v53_apply, val_main_v59_apply]
  refine mixed_congr ?_ ?_ (fun k => ?_) fun k => ?_
  · rfl
  · show mod _ = mod _
    blk_ext []
  · rw [val_main_v57_apply, val_main_v52_apply]
    show m _ = m _
    blk_ext [latent]
  · rw [val_main_v58_apply]
    show w _ = w _
    blk_ext []

/-- The reference's mean of a row of the latents. -/
theorem mean_latents (b : Fin 2) (t : Fin 8192) : val_main_v71 (F := Ideal) m w x mod (ix3 b t 0) = mean (row m w (fun k => x (ix3 b t k)) mod b 1 (latent t)) := by
  rw [val_main_v71_apply, val_main_v70_apply, val_main_cst_8_apply, val_main_v69_apply, val_main_v68_apply, val_main_cst_7_apply]
  show Ideal.div (Ideal.ofBits .f32 0x00000000#32 + _) (lit 0x45000000#32) = _
  rw [show (Ideal.ofBits .f32 0x00000000#32 : EReal) = 0 from Ideal.ofBits_zero_f32, zero_add]
  refine congrArg (fun x => Ideal.div x _) (Finset.sum_congr rfl fun e _ => ?_)
  refine Eq.trans ?_ (row_latents m w x mod b t e)
  show val_main_v67 (F := Ideal) m w x mod _ = val_main_v67 (F := Ideal) m w x mod _
  blk_ext []

/-- An entry of a row of the latents, the mean taken away. -/
theorem centred_latents (b : Fin 2) (t : Fin 8192) (l : Fin 2048) : val_main_v73 (F := Ideal) m w x mod (ix3 b t l) = row m w (fun k => x (ix3 b t k)) mod b 1 (latent t) l - mean (row m w (fun k => x (ix3 b t k)) mod b 1 (latent t)) := by
  rw [val_main_v73_apply, val_main_v72_apply, row_latents, ← mean_latents]
  refine congrArg (fun z : EReal => row m w (fun k => x (ix3 b t k)) mod b 1 (latent t) l - z) ?_
  show val_main_v71 (F := Ideal) m w x mod _ = val_main_v71 (F := Ideal) m w x mod _
  blk_ext []

/-- The reference's variance of a row of the latents. -/
theorem var_latents (b : Fin 2) (t : Fin 8192) : val_main_v78 (F := Ideal) m w x mod (ix3 b t 0)
    = mean (fun k => (row m w (fun k => x (ix3 b t k)) mod b 1 (latent t) k - mean (row m w (fun k => x (ix3 b t k)) mod b 1 (latent t))) * (row m w (fun k => x (ix3 b t k)) mod b 1 (latent t) k - mean (row m w (fun k => x (ix3 b t k)) mod b 1 (latent t)))) := by
  rw [val_main_v78_apply, val_main_v77_apply, val_main_cst_10_apply, val_main_v76_apply, val_main_v75_apply, val_main_cst_9_apply]
  show Ideal.div (Ideal.ofBits .f32 0x00000000#32 + _) (lit 0x45000000#32) = _
  rw [show (Ideal.ofBits .f32 0x00000000#32 : EReal) = 0 from Ideal.ofBits_zero_f32, zero_add]
  refine congrArg (fun x => Ideal.div x _) (Finset.sum_congr rfl fun e _ => ?_)
  rw [val_main_v74_apply]
  have e1 : idx_main_v75 (idx_main_v76 (ix3 b t 0)) e = ix3 b t e := by blk_ext []
  rw [e1, centred_latents]
  rfl

/-- The reference's normalized rows of the latents. -/
theorem normed_latents (b : Fin 2) (t : Fin 8192) (l : Fin 2048) : val_main_v91 (F := Ideal) m w x mod lw lb (ix3 b t l)
    = norm (row m w (fun k => x (ix3 b t k)) mod b 1 (latent t)) l * lw (ix1 l) + lb (ix1 l) := by
  have e1 : val_main_v80 (F := Ideal) m w x mod = val_main_v73 (F := Ideal) m w x mod := rfl
  rw [val_main_v91_apply, val_main_v88_apply, val_main_v85_apply, e1, centred_latents, val_main_v84_apply, val_main_v83_apply, val_main_v82_apply,
    val_main_v81_apply, val_main_cst_11_apply, val_main_v87_apply, val_main_v86_apply, val_main_v90_apply, val_main_v89_apply]
  have e2 : idx_main_v84 (ix3 b t l) = ix3 b t 0 := by blk_ext []
  rw [e2, var_latents]
  refine congrArg₂ (· + ·) (congrArg₂ (· * ·) rfl ?_) ?_
  · show lw _ = lw _
    blk_ext []
  · show lb _ = lb _
    blk_ext []

/-- The reference's next layer's input on the latents's rows. -/
theorem next_latents (b : Fin 2) (t : Fin 8192) (l : Fin 2048) : val_main_v103 (F := Ideal) m w x mod lw lb next (ix3 b t l)
    = val_main_v91 (F := Ideal) m w x mod lw lb (ix3 b t l) * (lit 0x3F800000#32 + next (ix4 b 1 1 l)) + next (ix4 b 1 0 l) := by
  rw [val_main_v103_apply, val_main_v98_apply, val_main_v97_apply, val_main_v96_apply, val_main_v95_apply, val_main_cst_12_apply, val_main_v94_apply, val_main_v93_apply, val_main_v92_apply, val_main_v56_apply, val_main_v55_apply,
    val_main_v102_apply, val_main_v101_apply, val_main_v100_apply, val_main_v99_apply, val_main_v56_apply, val_main_v55_apply]
  refine congrArg₂ (· + ·) (congrArg₂ (· * ·) rfl (congrArg₂ (· + ·) rfl ?_)) ?_
  · show next _ = next _
    blk_ext []
  · show next _ = next _
    blk_ext []

/-- Rows of the context joined with the latents' rows. -/
theorem joined (f : (⟨3, ![2, 256, 2048]⟩ : Shape).Idx → EReal) (g : (⟨3, ![2, 8192, 2048]⟩ : Shape).Idx → EReal) (H) (b : Fin 2) (t : Fin 8448) (l : Fin 2048) :
    concatenate (⟨3, ![2, 8448, 2048]⟩ : Shape) 1 [⟨_, f⟩, ⟨_, g⟩] H (ix3 b t l)
      = if h : t.val < 256 then f (ix3 b ⟨t.val, h⟩ l) else g (ix3 b ⟨t.val - 256, by omega⟩ l) := by
  by_cases h : t.val < 256
  · rw [dif_pos h]
    exact concatenate_pair_apply_left (s₁ := ⟨3, ![2, 256, 2048]⟩) (t := ⟨3, ![2, 8448, 2048]⟩) _ _ _ _ (ix3 b t l) rfl (ix3 b ⟨t.val, h⟩ l)
      (by intro a; match a with | 0 => rfl | 1 => rfl | 2 => rfl)
  · rw [dif_neg h]
    exact concatenate_pair_apply_right (s₁ := ⟨3, ![2, 256, 2048]⟩) (s₂ := ⟨3, ![2, 8192, 2048]⟩) (t := ⟨3, ![2, 8448, 2048]⟩) _ _ _ _ (ix3 b t l) rfl rfl
      (ix3 b ⟨t.val - 256, by omega⟩ l) (by intro a; match a with | 0 => intro; rfl | 1 => intro h; exact absurd rfl h | 2 => intro; rfl)
      (by show t.val - 256 + 256 = t.val; omega)

/-- The reference computes the first result. -/
theorem resultX : val_main_v104 (F := Ideal) m w ctx x mod lw lb = outX m w ctx x mod lw lb := by
  funext i
  obtain ⟨b, t, l, rfl⟩ := eq_ix3 (a := 2) (b := 8448) (c := 2048) i
  unfold val_main_v104
  refine (joined _ _ _ b t l).trans ?_
  by_cases h : t.val < 256
  · rw [dif_pos h, outX_context _ _ _ _ _ _ _ _ _ _ h, normed_context]
    rfl
  · rw [dif_neg h, outX_latents _ _ _ _ _ _ _ _ _ _ h, normed_latents]
    have e : latent ⟨t.val - 256, by omega⟩ = t := Fin.ext (by show 256 + (t.val - 256) = t.val; omega)
    rw [e]

/-- The reference computes the second result. -/
theorem resultU : val_main_v106 (F := Ideal) m w ctx x mod lw lb next = outU m w ctx x mod lw lb next := by
  funext i
  obtain ⟨b, t, l, rfl⟩ := eq_ix3 (a := 2) (b := 8448) (c := 2048) i
  rw [val_main_v106_apply]
  show val_main_v105 (F := Ideal) m w ctx x mod lw lb next (ix3 b t l) = _
  unfold val_main_v105
  refine (joined _ _ _ b t l).trans ?_
  by_cases h : t.val < 256
  · rw [dif_pos h, outU_context _ _ _ _ _ _ _ _ _ _ _ h, outX_context _ _ _ _ _ _ _ _ _ _ h, next_context, normed_context]
    rfl
  · rw [dif_neg h, outU_latents _ _ _ _ _ _ _ _ _ _ _ h, outX_latents _ _ _ _ _ _ _ _ _ _ h, next_latents, normed_latents]
    have e : latent ⟨t.val - 256, by omega⟩ = t := Fin.ext (by show 256 + (t.val - 256) = t.val; omega)
    rw [e]

end Reference
end Cert.LeadCall
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixReferenceIdeal
public import proofs.«01_k».proof.Proof.Gen.MixReferenceIdeal.Run
public import proofs.«01_k».proof.Proof.Gen.MixReferenceIdeal.Read
public import proofs.«01_k».proof.Proof.Gen.Gates
public import proofs.«01_k».proof.Proof.Gen.Gates.Skeleton
public import proofs.«01_k».proof.Proof.Gen.Gates.Launch
public import proofs.«01_k».proof.Proof.Gen.Gates.Points
public import proofs.«01_k».proof.Proof.Gen.Gates.Frame
public import proofs.«01_k».proof.Proof.Gen.GatesIdeal
public import proofs.«01_k».proof.Proof.Gen.GatesIdeal.Skeleton
public import proofs.«01_k».proof.Proof.Gen.GatesIdeal.Launch
public import proofs.«01_k».proof.Proof.Gen.GatesIdeal.Points
public import proofs.«01_k».proof.Proof.Gen.GatesIdeal.Frame
public import proofs.«01_k».proof.Proof.Gen.GatesIdeal.Value
public import proofs.«01_k».proof.Proof.Gen.GatesReferenceIdeal
public import proofs.«01_k».proof.Proof.Gen.GatesReferenceIdeal.Run
public import proofs.«01_k».proof.Proof.Gen.GatesReferenceIdeal.Read
public import proofs.«01_k».proof.Proof.Gen.Sfive
public import proofs.«01_k».proof.Proof.Gen.Sfive.Skeleton
public import proofs.«01_k».proof.Proof.Gen.Sfive.Launch
public import proofs.«01_k».proof.Proof.Gen.Sfive.Points
public import proofs.«01_k».proof.Proof.Gen.Sfive.Frame
public import proofs.«01_k».proof.Proof.Gen.SfiveIdeal
public import proofs.«01_k».proof.Proof.Gen.SfiveIdeal.Skeleton
public import proofs.«01_k».proof.Proof.Gen.SfiveIdeal.Launch
public import proofs.«01_k».proof.Proof.Gen.SfiveIdeal.Points
public import proofs.«01_k».proof.Proof.Gen.SfiveIdeal.Frame
public import proofs.«01_k».proof.Proof.Gen.SfiveIdeal.Value
public import proofs.«01_k».proof.Proof.Gen.SfiveReferenceIdeal
public import proofs.«01_k».proof.Proof.Gen.SfiveReferenceIdeal.Run
public import proofs.«01_k».proof.Proof.Gen.SfiveReferenceIdeal.Read
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluIdeal.Value
public import proofs.«01_k».proof.Proof.Gen.GluReferenceIdeal
public import proofs.«01_k».proof.Proof.Gen.GluReferenceIdeal.Run
public import proofs.«01_k».proof.Proof.Gen.GluReferenceIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Gen.Lead
public import proofs.«01_k».proof.Proof.Gen.Lead.Skeleton
public import proofs.«01_k».proof.Proof.Gen.Lead.Launch
public import proofs.«01_k».proof.Proof.Gen.Lead.Points
public import proofs.«01_k».proof.Proof.Gen.Lead.Frame
public import proofs.«01_k».proof.Proof.Gen.LeadIdeal
public import proofs.«01_k».proof.Proof.Gen.LeadIdeal.Skeleton
public import proofs.«01_k».proof.Proof.Gen.LeadIdeal.Launch
public import proofs.«01_k».proof.Proof.Gen.LeadIdeal.Points
public import proofs.«01_k».proof.Proof.Gen.LeadIdeal.Frame
public import proofs.«01_k».proof.Proof.Gen.LeadIdeal.Value
public import proofs.«01_k».proof.Proof.Gen.LeadReferenceIdeal
public import proofs.«01_k».proof.Proof.Gen.LeadReferenceIdeal.Run
public import proofs.«01_k».proof.Proof.Gen.LeadReferenceIdeal.Read
public import proofs.«01_k».proof.Proof.Array
public import proofs.«01_k».proof.Proof.Reference
public import proofs.«01_k».proof.Proof.Pre
public import proofs.«01_k».proof.Proof.MergeCall
public import proofs.«01_k».proof.Proof.MixCall
public import proofs.«01_k».proof.Proof.GatesCall
public import proofs.«01_k».proof.Proof.SfiveCall
public import proofs.«01_k».proof.Proof.GluCall
public import proofs.«01_k».proof.Proof.OutCall
public import proofs.«01_k».proof.Proof.LeadCall
public import Idealize.ShloMosaic.Adequacy
public import Idealize.ShloMosaic.Init

@[expose] public section

noncomputable section

namespace Cert.Proof

open Idealize.ShloMosaic Idealize.SL.Sem

/-- The reference runs, its argument unchanged, every counter at zero: it declares no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)) ∧ r.2.sem = fun _ => 0 :=
  (θ_run _ _ _).mono (fun r h => ⟨fun c => (h c).2, sem_eq_zero_of_no_sems (by decide) r.2⟩) (Cert.ReferenceIdeal.Value.run m g)

/-- From agreeing arguments with real queries and keys, the kernel and the reference both end with the attention of the argument. -/
theorem algebraic : Cert.algebraic_KernelIdeal_ReferenceIdeal_pre_finite (hPre_finite := Cert.Attn.Pre.facts) := by
  intro m g m' g' hpre hagree
  have hR : ∀ c, Cert.Attn.RealKeys (Cert.Attn.Array.arg m c) := fun c =>
    @Cert.Attn.Pre.realKeys Cert.Attn.Pre.facts (Cert.Attn.Array.arg m c) (hpre c)
  refine ⟨fun c => Cert.Attn.attn (Cert.Attn.Array.arg m c), ?_, ?_⟩
  · exact (θ_run _ _ _).mono (fun r h c => ⟨(h c).1.trans (Cert.Attn.Array.final m c (hR c)), (h c).2⟩) (Cert.KernelIdeal.Value.run_blocks m g)
  · refine (θ_run _ _ _).mono (fun r h c => ⟨(h c).1.trans ?_, (h c).2⟩) (Cert.ReferenceIdeal.Value.run m' g')
    rw [Cert.ReferenceIdeal.Read.val_main_v51_eq, hagree c]
    exact Cert.Attn.Reference.result _ (hR c)

/-- The reference of the gated merge runs, its arguments unchanged, every counter at zero: it declares no semaphore. -/
theorem frame_merge : Cert.quiescent_MergeReferenceIdeal (hMergeReferenceIdeal := Cert.MergeReferenceIdeal.Gen.facts) := fun m g _ =>
  (θ_run _ _ _).mono (fun r h => ⟨fun c => (h c).2, sem_eq_zero_of_no_sems (by decide) r.2⟩) (Cert.MergeReferenceIdeal.Value.run m g)

/-- From agreeing arguments the kernel and its reference both end with the gated merge. -/
theorem algebraic_merge : Cert.algebraic_MergeIdeal_MergeReferenceIdeal := by
  intro m g m' g' _ hagree
  refine ⟨fun c => Cert.MergeCall.merge (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)), ?_, ?_⟩
  · exact (θ_run _ _ _).mono (fun r h c => ⟨(h c).1.trans (Cert.MergeCall.final m c), (h c).2⟩) (Cert.MergeIdeal.Value.run_blocks m g)
  · refine (θ_run _ _ _).mono (fun r h c => ⟨(h c).1.trans ?_, (h c).2⟩) (Cert.MergeReferenceIdeal.Value.run m' g')
    obtain ⟨h0, h1, h2, h3, h4, h5, h6⟩ := hagree c
    rw [Cert.MergeReferenceIdeal.Read.val_main_v34_eq, h0, h1, h2, h3, h4, h5, h6]
    exact Cert.MergeCall.result _ _ _ _ _ _ _

/-- The reference of the mixed projection runs, its arguments unchanged, every counter at zero: it declares no semaphore. -/
theorem frame_mix : Cert.quiescent_MixReferenceIdeal (hMixReferenceIdeal := Cert.MixReferenceIdeal.Gen.facts) := fun m g _ =>
  (θ_run _ _ _).mono (fun r h => ⟨fun c => (h c).2, sem_eq_zero_of_no_sems (by decide) r.2⟩) (Cert.MixReferenceIdeal.Value.run m g)

/-- From agreeing arguments the kernel and its reference both end with the mixed projection. -/
theorem algebraic_mix : Cert.algebraic_MixIdeal_MixReferenceIdeal := by
  intro m g m' g' _ hagree
  refine ⟨fun c => Cert.MixCall.mix (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)), ?_, ?_⟩
  · exact (θ_run _ _ _).mono (fun r h c => ⟨(h c).1.trans (Cert.MixCall.final c m), (h c).2⟩) (Cert.MixIdeal.Value.run_blocks m g)
  · refine (θ_run _ _ _).mono (fun r h c => ⟨(h c).1.trans ?_, (h c).2⟩) (Cert.MixReferenceIdeal.Value.run m' g')
    obtain ⟨h0, h1, h2, h3, h4, h5, h6, h7⟩ := hagree c
    rw [Cert.MixReferenceIdeal.Read.val_main_v158_eq, h0, h1, h2, h3, h4, h5, h6, h7]
    exact Cert.MixCall.result _ _ _ _ _ _ _ _

/-- The reference of the gated branches runs, its arguments unchanged, every counter at zero: it declares no semaphore. -/
theorem frame_gates : Cert.quiescent_GatesReferenceIdeal (hGatesReferenceIdeal := Cert.GatesReferenceIdeal.Gen.facts) := fun m g _ =>
  (θ_run _ _ _).mono (fun r h => ⟨fun c => (h c).2, sem_eq_zero_of_no_sems (by decide) r.2⟩) (Cert.GatesReferenceIdeal.Value.run m g)

/-- From agreeing arguments the kernel and its reference both end with the gated branches. -/
theorem algebraic_gates : Cert.algebraic_GatesIdeal_GatesReferenceIdeal := by
  intro m g m' g' _ hagree
  refine ⟨fun c => Cert.GatesCall.gates (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4)), ?_, ?_⟩
  · exact (θ_run _ _ _).mono (fun r h c => ⟨(h c).1.trans (Cert.GatesCall.final m c), (h c).2⟩) (Cert.GatesIdeal.Value.run_blocks m g)
  · refine (θ_run _ _ _).mono (fun r h c => ⟨(h c).1.trans ?_, (h c).2⟩) (Cert.GatesReferenceIdeal.Value.run m' g')
    obtain ⟨h0, h1, h2, h3, h4⟩ := hagree c
    rw [Cert.GatesReferenceIdeal.Read.val_main_v40_eq, h0, h1, h2, h3, h4]
    exact Cert.GatesCall.result _ _ _ _ _

/-- The reference of the S5 input projection runs, its arguments unchanged, every counter at zero: it declares no semaphore. -/
theorem frame_sfive : Cert.quiescent_SfiveReferenceIdeal (hSfiveReferenceIdeal := Cert.SfiveReferenceIdeal.Gen.facts) := fun m g _ =>
  (θ_run _ _ _).mono (fun r h => ⟨fun c => (h c).2, sem_eq_zero_of_no_sems (by decide) r.2⟩) (Cert.SfiveReferenceIdeal.Value.run m g)

/-- From agreeing arguments the kernel and its reference both end with the S5 input projection. -/
theorem algebraic_sfive : Cert.algebraic_SfiveIdeal_SfiveReferenceIdeal := by
  intro m g m' g' _ hagree
  refine ⟨fun c => Cert.SfiveCall.project (m ((c.tc : Thread Cert.SfiveIdeal.nD Cert.SfiveIdeal.τ).loc Cert.SfiveIdeal.main_arg0)) (m ((c.tc : Thread Cert.SfiveIdeal.nD Cert.SfiveIdeal.τ).loc Cert.SfiveIdeal.main_arg1)), ?_, ?_⟩
  · exact (θ_run _ _ _).mono (fun r h c => ⟨(h c).1.trans (Cert.SfiveCall.final m c), (h c).2⟩) (Cert.SfiveIdeal.Value.run_blocks m g)
  · refine (θ_run _ _ _).mono (fun r h c => ⟨(h c).1.trans ?_, (h c).2⟩) (Cert.SfiveReferenceIdeal.Value.run m' g')
    obtain ⟨h0, h1⟩ := hagree c
    rw [Cert.SfiveReferenceIdeal.Read.val_main_v3_eq, h0, h1]
    exact Cert.SfiveCall.result _ _

/-- The reference of the gated S5 branch runs, its arguments unchanged, every counter at zero: it declares no semaphore. -/
theorem frame_glu : Cert.quiescent_GluReferenceIdeal (hGluReferenceIdeal := Cert.GluReferenceIdeal.Gen.facts) := fun m g _ =>
  (θ_run _ _ _).mono (fun r h => ⟨fun c => (h c).2, sem_eq_zero_of_no_sems (by decide) r.2⟩) (Cert.GluReferenceIdeal.Value.run m g)

/-- From agreeing arguments the kernel and its reference both end with the gated S5 branch. -/
theorem algebraic_glu : Cert.algebraic_GluIdeal_GluReferenceIdeal := by
  intro m g m' g' _ hagree
  refine ⟨fun c => Cert.GluCall.glu (m ((c.tc : Thread Cert.GluIdeal.nD Cert.GluIdeal.τ).loc Cert.GluIdeal.main_arg0)) (m ((c.tc : Thread Cert.GluIdeal.nD Cert.GluIdeal.τ).loc Cert.GluIdeal.main_arg1)) (m ((c.tc : Thread Cert.GluIdeal.nD Cert.GluIdeal.τ).loc Cert.GluIdeal.main_arg2)) (m ((c.tc : Thread Cert.GluIdeal.nD Cert.GluIdeal.τ).loc Cert.GluIdeal.main_arg3)) (m ((c.tc : Thread Cert.GluIdeal.nD Cert.GluIdeal.τ).loc Cert.GluIdeal.main_arg4)), ?_, ?_⟩
  · exact (θ_run _ _ _).mono (fun r h c => ⟨(h c).1.trans (Cert.GluCall.final m c), (h c).2⟩) (Cert.GluIdeal.Value.run_blocks m g)
  · refine (θ_run _ _ _).mono (fun r h c => ⟨(h c).1.trans ?_, (h c).2⟩) (Cert.GluReferenceIdeal.Value.run m' g')
    obtain ⟨h0, h1, h2, h3, h4⟩ := hagree c
    rw [Cert.GluReferenceIdeal.Read.val_main_v32_eq, h0, h1, h2, h3, h4]
    exact Cert.GluCall.result _ _ _ _ _

/-- The reference of the layer output runs, its arguments unchanged, every counter at zero: it declares no semaphore. -/
theorem frame_out : Cert.quiescent_OutReferenceIdeal (hOutReferenceIdeal := Cert.OutReferenceIdeal.Gen.facts) := fun m g _ =>
  (θ_run _ _ _).mono (fun r h => ⟨fun c => (h c).2, sem_eq_zero_of_no_sems (by decide) r.2⟩) (Cert.OutReferenceIdeal.Value.run m g)

/-- From agreeing arguments the kernel and its reference both end with the layer output. -/
theorem algebraic_out : Cert.algebraic_OutIdeal_OutReferenceIdeal := by
  intro m g m' g' _ hagree
  refine ⟨fun c => Cert.OutCall.out (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5)), ?_, ?_⟩
  · exact (θ_run _ _ _).mono (fun r h c => ⟨(h c).1.trans (Cert.OutCall.final c m), (h c).2⟩) (Cert.OutIdeal.Value.run_blocks m g)
  · refine (θ_run _ _ _).mono (fun r h c => ⟨(h c).1.trans ?_, (h c).2⟩) (Cert.OutReferenceIdeal.Value.run m' g')
    obtain ⟨h0, h1, h2, h3, h4, h5⟩ := hagree c
    rw [Cert.OutReferenceIdeal.Read.val_main_v36_eq, h0, h1, h2, h3, h4, h5]
    exact Cert.OutCall.result _ _ _ _ _ _

/-- The reference of the first layer's output runs, its arguments unchanged, every counter at zero: it declares no semaphore. -/
theorem frame_lead : Cert.quiescent_LeadReferenceIdeal (hLeadReferenceIdeal := Cert.LeadReferenceIdeal.Gen.facts) := fun m g _ =>
  (θ_run _ _ _).mono (fun r h => ⟨fun c => (h c).2.2, sem_eq_zero_of_no_sems (by decide) r.2⟩) (Cert.LeadReferenceIdeal.Value.run m g)

/-- From agreeing arguments the kernel and its reference both end with the first layer's output and the next layer's input. -/
theorem algebraic_lead : Cert.algebraic_LeadIdeal_LeadReferenceIdeal := by
  intro m g m' g' _ hagree
  refine ⟨fun c => Cert.LeadCall.outX (m ((c.tc : Thread Cert.LeadIdeal.nD Cert.LeadIdeal.τ).loc Cert.LeadIdeal.main_arg0)) (m ((c.tc : Thread Cert.LeadIdeal.nD Cert.LeadIdeal.τ).loc Cert.LeadIdeal.main_arg1)) (m ((c.tc : Thread Cert.LeadIdeal.nD Cert.LeadIdeal.τ).loc Cert.LeadIdeal.main_arg2)) (m ((c.tc : Thread Cert.LeadIdeal.nD Cert.LeadIdeal.τ).loc Cert.LeadIdeal.main_arg3)) (m ((c.tc : Thread Cert.LeadIdeal.nD Cert.LeadIdeal.τ).loc Cert.LeadIdeal.main_arg4)) (m ((c.tc : Thread Cert.LeadIdeal.nD Cert.LeadIdeal.τ).loc Cert.LeadIdeal.main_arg5)) (m ((c.tc : Thread Cert.LeadIdeal.nD Cert.LeadIdeal.τ).loc Cert.LeadIdeal.main_arg6)),
    fun c => Cert.LeadCall.outU (m ((c.tc : Thread Cert.LeadIdeal.nD Cert.LeadIdeal.τ).loc Cert.LeadIdeal.main_arg0)) (m ((c.tc : Thread Cert.LeadIdeal.nD Cert.LeadIdeal.τ).loc Cert.LeadIdeal.main_arg1)) (m ((c.tc : Thread Cert.LeadIdeal.nD Cert.LeadIdeal.τ).loc Cert.LeadIdeal.main_arg2)) (m ((c.tc : Thread Cert.LeadIdeal.nD Cert.LeadIdeal.τ).loc Cert.LeadIdeal.main_arg3)) (m ((c.tc : Thread Cert.LeadIdeal.nD Cert.LeadIdeal.τ).loc Cert.LeadIdeal.main_arg4)) (m ((c.tc : Thread Cert.LeadIdeal.nD Cert.LeadIdeal.τ).loc Cert.LeadIdeal.main_arg5)) (m ((c.tc : Thread Cert.LeadIdeal.nD Cert.LeadIdeal.τ).loc Cert.LeadIdeal.main_arg6)) (m ((c.tc : Thread Cert.LeadIdeal.nD Cert.LeadIdeal.τ).loc Cert.LeadIdeal.main_arg7)), ?_, ?_⟩
  · exact (θ_run _ _ _).mono (fun r h c => ⟨(h c).1.trans (Cert.LeadCall.finalX m c), (h c).2.1.trans (Cert.LeadCall.finalU m c), (h c).2.2⟩)
      (Cert.LeadIdeal.Value.run_blocks m g)
  · refine (θ_run _ _ _).mono (fun r h c => ⟨(h c).1.trans ?_, (h c).2.1.trans ?_, (h c).2.2⟩) (Cert.LeadReferenceIdeal.Value.run m' g')
    · obtain ⟨h0, h1, h2, h3, h4, h5, h6, h7⟩ := hagree c
      rw [Cert.LeadReferenceIdeal.Read.val_main_v104_eq, h0, h1, h2, h3, h4, h5, h6]
      exact Cert.LeadCall.resultX _ _ _ _ _ _ _
    · obtain ⟨h0, h1, h2, h3, h4, h5, h6, h7⟩ := hagree c
      rw [Cert.LeadReferenceIdeal.Read.val_main_v106_eq, h0, h1, h2, h3, h4, h5, h6, h7]
      exact Cert.LeadCall.resultU _ _ _ _ _ _ _ _

/-- The kernel's query scale names 1/(√128 · ln 2). -/
theorem named_scale : Cert.preserves_Mix_MixIdeal :=
  IdealRules.named_const.statement Cert.MixIdeal.κ "query_scale" .f32 0x3E0293EE#32 (((Real.sqrt 128)⁻¹ * (Real.log 2)⁻¹ : ℝ) : EReal) rfl
/-- Everything that is claimed. -/
theorem claim : Cert.Claim := ⟨Cert.Kernel.Gen.facts, Cert.KernelIdeal.Gen.facts, Cert.ReferenceIdeal.Gen.facts, Cert.Merge.Gen.facts, Cert.MergeIdeal.Gen.facts, Cert.MergeReferenceIdeal.Gen.facts, Cert.Mix.Gen.facts, Cert.MixIdeal.Gen.facts, Cert.MixReferenceIdeal.Gen.facts, Cert.Gates.Gen.facts, Cert.GatesIdeal.Gen.facts, Cert.GatesReferenceIdeal.Gen.facts, Cert.Sfive.Gen.facts, Cert.SfiveIdeal.Gen.facts, Cert.SfiveReferenceIdeal.Gen.facts, Cert.Glu.Gen.facts, Cert.GluIdeal.Gen.facts, Cert.GluReferenceIdeal.Gen.facts, Cert.Out.Gen.facts, Cert.OutIdeal.Gen.facts, Cert.OutReferenceIdeal.Gen.facts, Cert.Lead.Gen.facts, Cert.LeadIdeal.Gen.facts, Cert.LeadReferenceIdeal.Gen.facts, Cert.Attn.Pre.facts,
  fun m g _ => Cert.Kernel.Gen.frame m g, fun m g _ => Cert.KernelIdeal.Gen.frame m g, fun m g _ => Cert.KernelIdeal.Gen.frame m g, fun m g _ => frame_reference m g, fun m g _ => frame_reference m g, fun m g _ => Cert.Merge.Gen.frame m g, fun m g _ => Cert.MergeIdeal.Gen.frame m g, frame_merge, fun m g _ => Cert.Mix.Gen.frame m g, fun m g _ => Cert.MixIdeal.Gen.frame m g, frame_mix, fun m g _ => Cert.Gates.Gen.frame m g, fun m g _ => Cert.GatesIdeal.Gen.frame m g, frame_gates, fun m g _ => Cert.Sfive.Gen.frame m g, fun m g _ => Cert.SfiveIdeal.Gen.frame m g, frame_sfive, fun m g _ => Cert.Glu.Gen.frame m g, fun m g _ => Cert.GluIdeal.Gen.frame m g, frame_glu, fun m g _ => Cert.Out.Gen.frame m g, fun m g _ => Cert.OutIdeal.Gen.frame m g, frame_out, fun m g _ => Cert.Lead.Gen.frame m g, fun m g _ => Cert.LeadIdeal.Gen.frame m g, frame_lead,
  trivial, algebraic, trivial, algebraic_merge, named_scale, algebraic_mix, trivial, algebraic_gates, trivial, algebraic_sfive, trivial, algebraic_glu, trivial, algebraic_out, trivial, algebraic_lead⟩

end Cert.Proof

end
